-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_router [hPre_finite_router : Cert.Pre_finite_router.Facts] (m : (ℓ : Loc Cert.MoeIdeal.nD Cert.MoeIdeal.τ Cert.MoeIdeal.sig) → Buf (Elt Ideal) ℓ) : Prop :=
  ∀ c : Dev Cert.MoeIdeal.nD,
    (Cert.Pre_finite_router.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_router [hPre_finite_router : Cert.Pre_finite_router.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_router.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9))) = (fun _ => 1#1)

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite_window [hPre_finite_window : Cert.Pre_finite_window.Facts] (m : (ℓ : Loc Cert.WindowIdeal.nD Cert.WindowIdeal.τ Cert.WindowIdeal.sig) → Buf (Elt Ideal) ℓ) : Prop :=
  ∀ c : Dev Cert.WindowIdeal.nD,
    (Cert.Pre_finite_window.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3)) (m ((c.tc : Thread Cert.WindowIdeal.nD Cert.WindowIdeal.τ).loc Cert.WindowIdeal.main_arg4)) (m ((c.tc : Thread Cert.WindowIdeal.nD Cert.WindowIdeal.τ).loc Cert.WindowIdeal.main_arg5))) = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_finite_window [hPre_finite_window : Cert.Pre_finite_window.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_finite_window.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2)) (m ((c.tc : Thread Cert.WindowRefIdeal.nD Cert.WindowRefIdeal.τ).loc Cert.WindowRefIdeal.main_arg3)) (m ((c.tc : Thread Cert.WindowRefIdeal.nD Cert.WindowRefIdeal.τ).loc Cert.WindowRefIdeal.main_arg4)) (m ((c.tc : Thread Cert.WindowRefIdeal.nD Cert.WindowRefIdeal.τ).loc Cert.WindowRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeIdeal_pre_finite_router [hMoeIdeal : Cert.MoeIdeal.Facts] [hPre_finite_router : Cert.Pre_finite_router.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_router m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_MoeRefIdeal_pre_finite_router [hMoeRefIdeal : Cert.MoeRefIdeal.Facts] [hPre_finite_router : Cert.Pre_finite_router.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_router m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2)
      ∧ r.2.mem ((c.tc : Thread Cert.Window.nD Cert.Window.τ).loc Cert.Window.main_arg3) = m ((c.tc : Thread Cert.Window.nD Cert.Window.τ).loc Cert.Window.main_arg3)
      ∧ r.2.mem ((c.tc : Thread Cert.Window.nD Cert.Window.τ).loc Cert.Window.main_arg4) = m ((c.tc : Thread Cert.Window.nD Cert.Window.τ).loc Cert.Window.main_arg4)
      ∧ r.2.mem ((c.tc : Thread Cert.Window.nD Cert.Window.τ).loc Cert.Window.main_arg5) = m ((c.tc : Thread Cert.Window.nD Cert.Window.τ).loc Cert.Window.main_arg5))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
      ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
      ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ r.2.sem = fun _ => 0)

def quiescent_WindowIdeal_pre_finite_window [hWindowIdeal : Cert.WindowIdeal.Facts] [hPre_finite_window : Cert.Pre_finite_window.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_window m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
      ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
      ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3)
      ∧ r.2.mem ((c.tc : Thread Cert.WindowRefIdeal.nD Cert.WindowRefIdeal.τ).loc Cert.WindowRefIdeal.main_arg4) = m ((c.tc : Thread Cert.WindowRefIdeal.nD Cert.WindowRefIdeal.τ).loc Cert.WindowRefIdeal.main_arg4)
      ∧ r.2.mem ((c.tc : Thread Cert.WindowRefIdeal.nD Cert.WindowRefIdeal.τ).loc Cert.WindowRefIdeal.main_arg5) = m ((c.tc : Thread Cert.WindowRefIdeal.nD Cert.WindowRefIdeal.τ).loc Cert.WindowRefIdeal.main_arg5))
      ∧ r.2.sem = fun _ => 0)

def quiescent_WindowRefIdeal_pre_finite_window [hWindowRefIdeal : Cert.WindowRefIdeal.Facts] [hPre_finite_window : Cert.Pre_finite_window.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_finite_window m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3)
      ∧ r.2.mem ((c.tc : Thread Cert.WindowRefIdeal.nD Cert.WindowRefIdeal.τ).loc Cert.WindowRefIdeal.main_arg4) = m ((c.tc : Thread Cert.WindowRefIdeal.nD Cert.WindowRefIdeal.τ).loc Cert.WindowRefIdeal.main_arg4)
      ∧ r.2.mem ((c.tc : Thread Cert.WindowRefIdeal.nD Cert.WindowRefIdeal.τ).loc Cert.WindowRefIdeal.main_arg5) = m ((c.tc : Thread Cert.WindowRefIdeal.nD Cert.WindowRefIdeal.τ).loc Cert.WindowRefIdeal.main_arg5))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v63) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)) (v3 : (c : Dev Cert.ProjIdeal.nD) → Buf (Elt Ideal) ((c.tc : Thread Cert.ProjIdeal.nD Cert.ProjIdeal.τ).loc Cert.ProjIdeal.main_v11_3)) (v4 : (c : Dev Cert.ProjIdeal.nD) → Buf (Elt Ideal) ((c.tc : Thread Cert.ProjIdeal.nD Cert.ProjIdeal.τ).loc Cert.ProjIdeal.main_v11_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_v11_3) = v3 c
          ∧ r.2.mem ((c.tc : Thread Cert.ProjIdeal.nD Cert.ProjIdeal.τ).loc Cert.ProjIdeal.main_v11_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v26) = v0 c
          ∧ r.2.mem ((c.tc : Thread Cert.ProjRefIdeal.nD Cert.ProjRefIdeal.τ).loc Cert.ProjRefIdeal.main_v27) = v1 c
          ∧ r.2.mem ((c.tc : Thread Cert.ProjRefIdeal.nD Cert.ProjRefIdeal.τ).loc Cert.ProjRefIdeal.main_v28) = v2 c
          ∧ r.2.mem ((c.tc : Thread Cert.ProjRefIdeal.nD Cert.ProjRefIdeal.τ).loc Cert.ProjRefIdeal.main_v29) = v3 c
          ∧ r.2.mem ((c.tc : Thread Cert.ProjRefIdeal.nD Cert.ProjRefIdeal.τ).loc Cert.ProjRefIdeal.main_v30) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v74) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Moe_MoeIdeal : Prop :=
  IdealRules.named_const.Statement Cert.MoeIdeal.κ "mask" .f32 0xF149F2CA#32 ⊥

def algebraic_MoeIdeal_MoeRefIdeal_pre_finite_router [hMoeIdeal : Cert.MoeIdeal.Facts] [hMoeRefIdeal : Cert.MoeRefIdeal.Facts] [hPre_finite_router : Cert.Pre_finite_router.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_router m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v9)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v9) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v122) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9))

def preserves_Window_WindowIdeal : Prop :=
  IdealRules.named_const.Statement Cert.WindowIdeal.κ "mask" .f32 0xF149F2CA#32 ⊥

def algebraic_WindowIdeal_WindowRefIdeal_pre_finite_window [hWindowIdeal : Cert.WindowIdeal.Facts] [hWindowRefIdeal : Cert.WindowRefIdeal.Facts] [hPre_finite_window : Cert.Pre_finite_window.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_finite_window m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)
      ∧ m' ((c.tc : Thread Cert.WindowRefIdeal.nD Cert.WindowRefIdeal.τ).loc Cert.WindowRefIdeal.main_arg3) = m ((c.tc : Thread Cert.WindowIdeal.nD Cert.WindowIdeal.τ).loc Cert.WindowIdeal.main_arg3)
      ∧ m' ((c.tc : Thread Cert.WindowRefIdeal.nD Cert.WindowRefIdeal.τ).loc Cert.WindowRefIdeal.main_arg4) = m ((c.tc : Thread Cert.WindowIdeal.nD Cert.WindowIdeal.τ).loc Cert.WindowIdeal.main_arg4)
      ∧ m' ((c.tc : Thread Cert.WindowRefIdeal.nD Cert.WindowRefIdeal.τ).loc Cert.WindowRefIdeal.main_arg5) = m ((c.tc : Thread Cert.WindowIdeal.nD Cert.WindowIdeal.τ).loc Cert.WindowIdeal.main_arg5)) →
    ∃ (v0 : (c : Dev Cert.WindowIdeal.nD) → Buf (Elt Ideal) ((c.tc : Thread Cert.WindowIdeal.nD Cert.WindowIdeal.τ).loc Cert.WindowIdeal.main_v0)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v0) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
          ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
          ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
          ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v42) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2)
          ∧ r.2.mem ((c.tc : Thread Cert.WindowRefIdeal.nD Cert.WindowRefIdeal.τ).loc Cert.WindowRefIdeal.main_arg3) = m' ((c.tc : Thread Cert.WindowRefIdeal.nD Cert.WindowRefIdeal.τ).loc Cert.WindowRefIdeal.main_arg3)
          ∧ r.2.mem ((c.tc : Thread Cert.WindowRefIdeal.nD Cert.WindowRefIdeal.τ).loc Cert.WindowRefIdeal.main_arg4) = m' ((c.tc : Thread Cert.WindowRefIdeal.nD Cert.WindowRefIdeal.τ).loc Cert.WindowRefIdeal.main_arg4)
          ∧ r.2.mem ((c.tc : Thread Cert.WindowRefIdeal.nD Cert.WindowRefIdeal.τ).loc Cert.WindowRefIdeal.main_arg5) = m' ((c.tc : Thread Cert.WindowRefIdeal.nD Cert.WindowRefIdeal.τ).loc Cert.WindowRefIdeal.main_arg5))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMoe : Cert.Moe.Facts) (hMoeIdeal : Cert.MoeIdeal.Facts) (hMoeRefIdeal : Cert.MoeRefIdeal.Facts) (hWindow : Cert.Window.Facts) (hWindowIdeal : Cert.WindowIdeal.Facts) (hWindowRefIdeal : Cert.WindowRefIdeal.Facts) (hPre_finite : Cert.Pre_finite.Facts) (hPre_finite_router : Cert.Pre_finite_router.Facts) (hPre_finite_window : Cert.Pre_finite_window.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Moe (hMoe := hMoe)
    ∧ quiescent_MoeIdeal (hMoeIdeal := hMoeIdeal)
    ∧ quiescent_MoeIdeal_pre_finite_router (hMoeIdeal := hMoeIdeal) (hPre_finite_router := hPre_finite_router)
    ∧ quiescent_MoeRefIdeal (hMoeRefIdeal := hMoeRefIdeal)
    ∧ quiescent_MoeRefIdeal_pre_finite_router (hMoeRefIdeal := hMoeRefIdeal) (hPre_finite_router := hPre_finite_router)
    ∧ quiescent_Window (hWindow := hWindow)
    ∧ quiescent_WindowIdeal (hWindowIdeal := hWindowIdeal)
    ∧ quiescent_WindowIdeal_pre_finite_window (hWindowIdeal := hWindowIdeal) (hPre_finite_window := hPre_finite_window)
    ∧ quiescent_WindowRefIdeal (hWindowRefIdeal := hWindowRefIdeal)
    ∧ quiescent_WindowRefIdeal_pre_finite_window (hWindowRefIdeal := hWindowRefIdeal) (hPre_finite_window := hPre_finite_window)
    ∧ preserves_Attn_AttnIdeal
    ∧ algebraic_AttnIdeal_AttnRefIdeal_pre_finite (hAttnIdeal := hAttnIdeal) (hAttnRefIdeal := hAttnRefIdeal) (hPre_finite := hPre_finite)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Moe_MoeIdeal
    ∧ algebraic_MoeIdeal_MoeRefIdeal_pre_finite_router (hMoeIdeal := hMoeIdeal) (hMoeRefIdeal := hMoeRefIdeal) (hPre_finite_router := hPre_finite_router)
    ∧ preserves_Window_WindowIdeal
    ∧ algebraic_WindowIdeal_WindowRefIdeal_pre_finite_window (hWindowIdeal := hWindowIdeal) (hWindowRefIdeal := hWindowRefIdeal) (hPre_finite_window := hPre_finite_window)
-- ==== Pre_finite.lean ====
abbrev S4x4x8192x32 : Shape := ⟨4, ![4, 4, 8192, 32]⟩
abbrev S4x4x8448x32 : Shape := ⟨4, ![4, 4, 8448, 32]⟩
abbrev S4x4x8448x64 : Shape := ⟨4, ![4, 4, 8448, 64]⟩
abbrev S4x32 : Shape := ⟨2, ![4, 32]⟩
abbrev S64 : Shape := ⟨1, ![64]⟩
abbrev S_ : Shape := ⟨0, ![]⟩

class Facts : Prop where
  bitsLt_bf16_f32 : FTy.bits .bf16 < FTy.bits .f32
  bcast_S_S4x4x8192x32 : S_.BroadcastsInDim S4x4x8192x32 (![] : Fin 0 → Fin S4x4x8192x32.rank)
  reducesTo_S4x4x8192x32_S_d0_1_2_3 : S4x4x8192x32.ReducesTo [0, 1, 2, 3] S_
  h_S_ : 0 < S_.numel
  bcast_S_S4x4x8448x32 : S_.BroadcastsInDim S4x4x8448x32 (![] : Fin 0 → Fin S4x4x8448x32.rank)
  reducesTo_S4x4x8448x32_S_d0_1_2_3 : S4x4x8448x32.ReducesTo [0, 1, 2, 3] S_
  bcast_S_S4x4x8448x64 : S_.BroadcastsInDim S4x4x8448x64 (![] : Fin 0 → Fin S4x4x8448x64.rank)
  reducesTo_S4x4x8448x64_S_d0_1_2_3 : S4x4x8448x64.ReducesTo [0, 1, 2, 3] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_arg3 : FVec F S4x4x8448x32 .bf16) (main_arg4 : FVec F S4x4x8448x64 .bf16) (main_arg5 : FVec F S4x32 .f32) (main_v11 : IVec S_ 1) (main_v16 : IVec S_ 1) : IVec S_ 1 :=
  let main_v17 : IVec S_ 1 := andi main_v11 main_v16
  let main_v18 : FVec F S4x4x8448x32 .f32 := (extf .f32 · bitsLt_bf16_f32) main_arg3
  let main_v19 : FVec F S4x4x8448x32 .f32 := Host.absf main_v18
  let main_cst_5 : FVec F S_ .f32 := constant S_ .f32 0x7F800000#32
  let main_v20 : FVec F S4x4x8448x32 .f32 := broadcastInDim S4x4x8448x32 ![] bcast_S_S4x4x8448x32 main_cst_5
  let main_v21 : IVec S4x4x8448x32 1 := cmpf .olt main_v19 main_v20
  let main_c_6 : IVec S_ 1 := constantI S_ 1 1#1
  let main_v22 : IVec S_ 1 := (fun x v => Host.reduce IntOp.andi x v reducesTo_S4x4x8448x32_S_d0_1_2_3 h_S_) main_v21 main_c_6
  let main_v23 : IVec S_ 1 := andi main_v17 main_v22
  let main_v24 : FVec F S4x4x8448x64 .f32 := (extf .f32 · bitsLt_bf16_f32) main_arg4
  let main_v25 : FVec F S4x4x8448x64 .f32 := Host.absf main_v24
  let main_cst_7 : FVec F S_ .f32 := constant S_ .f32 0x7F800000#32
  let main_v26 : FVec F S4x4x8448x64 .f32 := broadcastInDim S4x4x8448x64 ![] bcast_S_S4x4x8448x64 main_cst_7
  let main_v27 : IVec S4x4x8448x64 1 := cmpf .olt main_v25 main_v26
  let main_c_8 : IVec S_ 1 := constantI S_ 1 1#1
  let main_v28 : IVec S_ 1 := (fun x v => Host.reduce IntOp.andi x v reducesTo_S4x4x8448x64_S_d0_1_2_3 h_S_) main_v27 main_c_8
  let main_v29 : IVec S_ 1 := andi main_v23 main_v28
  let main_v30 : FVec F S4x32 .f32 := Host.absf main_arg5
  let main_cst_9 : FVec F S_ .f32 := constant S_ .f32 0x7F800000#32
  let main_v31 : FVec F S4x32 .f32 := broadcastInDim S4x32 ![] bcast_S_S4x32 main_cst_9
  let main_v32 : IVec S4x32 1 := cmpf .olt main_v30 main_v31
  let main_c_10 : IVec S_ 1 := constantI S_ 1 1#1
  let main_v33 : IVec S_ 1 := (fun x v => Host.reduce IntOp.andi x v reducesTo_S4x32_S_d0_1 h_S_) main_v32 main_c_10
  let main_v34 : IVec S_ 1 := andi main_v29 main_v33
  main_v34

def fn {F : FTy → Type} [FloatOps F] (main_arg0 : FVec F S4x4x8192x32 .bf16) (main_arg1 : FVec F S4x4x8192x32 .bf16) (main_arg2 : FVec F S4x4x8448x32 .bf16) (main_arg3 : FVec F S4x4x8448x32 .bf16) (main_arg4 : FVec F S4x4x8448x64 .bf16) (main_arg5 : FVec F S4x32 .f32) (main_arg6 : FVec F S64 .f32) : IVec S_ 1 :=
  let main_v0 : FVec F S4x4x8192x32 .f32 := (extf .f32 · bitsLt_bf16_f32) main_arg0
  let main_v1 : FVec F S4x4x8192x32 .f32 := Host.absf main_v0
  let main_cst : FVec F S_ .f32 := constant S_ .f32 0x7F800000#32
  let main_v2 : FVec F S4x4x8192x32 .f32 := broadcastInDim S4x4x8192x32 ![] bcast_S_S4x4x8192x32 main_cst
  let main_v3 : IVec S4x4x8192x32 1 := cmpf .olt main_v1 main_v2
  let main_c : IVec S_ 1 := constantI S_ 1 1#1
  let main_v4 : IVec S_ 1 := (fun x v => Host.reduce IntOp.andi x v reducesTo_S4x4x8192x32_S_d0_1_2_3 h_S_) main_v3 main_c
  let main_c_0 : IVec S_ 1 := constantI S_ 1 1#1
  let main_v5 : IVec S_ 1 := andi main_c_0 main_v4
  let main_v6 : FVec F S4x4x8192x32 .f32 := (extf .f32 · bitsLt_bf16_f32) main_arg1
  let main_v7 : FVec F S4x4x8192x32 .f32 := Host.absf main_v6
  let main_cst_1 : FVec F S_ .f32 := constant S_ .f32 0x7F800000#32
  let main_v8 : FVec F S4x4x8192x32 .f32 := broadcastInDim S4x4x8192x32 ![] bcast_S_S4x4x8192x32 main_cst_1
  let main_v9 : IVec S4x4x8192x32 1 := cmpf .olt main_v7 main_v8
  let main_c_2 : IVec S_ 1 := constantI S_ 1 1#1
  let main_v10 : IVec S_ 1 := (fun x v => Host.reduce IntOp.andi x v reducesTo_S4x4x8192x32_S_d0_1_2_3 h_S_) main_v9 main_c_2
  let main_v11 : IVec S_ 1 := andi main_v5 main_v10
  let main_v12 : FVec F S4x4x8448x32 .f32 := (extf .f32 · bitsLt_bf16_f32) main_arg2
  let main_v13 : FVec F S4x4x8448x32 .f32 := Host.absf main_v12
  let main_cst_3 : FVec F S_ .f32 := constant S_ .f32 0x7F800000#32
  let main_v14 : FVec F S4x4x8448x32 .f32 := broadcastInDim S4x4x8448x32 ![] bcast_S_S4x4x8448x32 main_cst_3
  let main_v15 : IVec S4x4x8448x32 1 := cmpf .olt main_v13 main_v14
  let main_c_4 : IVec S_ 1 := constantI S_ 1 1#1
  let main_v16 : IVec S_ 1 := (fun x v => Host.reduce IntOp.andi x v reducesTo_S4x4x8448x32_S_d0_1_2_3 h_S_) main_v15 main_c_4
  fn_part1 (F := F) main_arg3 main_arg4 main_arg5 main_v11 main_v16
-- ==== Pre_finite_router.lean ====
abbrev S4x8192x1024 : Shape := ⟨3, ![4, 8192, 1024]⟩
abbrev S4x1x6144 : Shape := ⟨3, ![4, 1, 6144]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x1x6144 : S_.BroadcastsInDim S4x1x6144 (![] : Fin 0 → Fin S4x1x6144.rank)
  reducesTo_S4x1x6144_S_d0_1_2 : S4x1x6144.ReducesTo [0, 1, 2] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_v29 : IVec S_ 1) (main_v32 : IVec S16 1) (main_c_12 : IVec S_ 1) : IVec S_ 1 :=
  let main_v33 : IVec S_ 1 := (fun x v => Host.reduce IntOp.andi x v reducesTo_S16_S_d0 h_S_) main_v32 main_c_12
  let main_v34 : IVec S_ 1 := andi main_v29 main_v33
  main_v34

def fn_part1 {F : FTy → Type} [FloatOps F] (main_arg4 : FVec F S4 .f32) (main_arg5 : FVec F S1024x16 .f32) (main_arg6 : FVec F S16 .f32) (main_v14 : IVec S_ 1) (main_v15 : FVec F S1024x4 .f32) (main_cst_5 : FVec F S_ .f32) : IVec S_ 1 :=
  let main_v16 : FVec F S1024x4 .f32 := broadcastInDim S1024x4 ![] bcast_S_S1024x4 main_cst_5
  let main_v17 : IVec S1024x4 1 := cmpf .olt main_v15 main_v16
  let main_c_6 : IVec S_ 1 := constantI S_ 1 1#1
  let main_v18 : IVec S_ 1 := (fun x v => Host.reduce IntOp.andi x v reducesTo_S1024x4_S_d0_1 h_S_) main_v17 main_c_6
  let main_v19 : IVec S_ 1 := andi main_v14 main_v18
  let main_v20 : FVec F S4 .f32 := Host.absf main_arg4
  let main_cst_7 : FVec F S_ .f32 := constant S_ .f32 0x7F800000#32
  let main_v21 : FVec F S4 .f32 := broadcastInDim S4 ![] bcast_S_S4 main_cst_7
  let main_v22 : IVec S4 1 := cmpf .olt main_v20 main_v21
  let main_c_8 : IVec S_ 1 := constantI S_ 1 1#1
  let main_v23 : IVec S_ 1 := (fun x v => Host.reduce IntOp.andi x v reducesTo_S4_S_d0 h_S_) main_v22 main_c_8
  let main_v24 : IVec S_ 1 := andi main_v19 main_v23
  let main_v25 : FVec F S1024x16 .f32 := Host.absf main_arg5
  let main_cst_9 : FVec F S_ .f32 := constant S_ .f32 0x7F800000#32
  let main_v26 : FVec F S1024x16 .f32 := broadcastInDim S1024x16 ![] bcast_S_S1024x16 main_cst_9
  let main_v27 : IVec S1024x16 1 := cmpf .olt main_v25 main_v26
  let main_c_10 : IVec S_ 1 := constantI S_ 1 1#1
  let main_v28 : IVec S_ 1 := (fun x v => Host.reduce IntOp.andi x v reducesTo_S1024x16_S_d0_1 h_S_) main_v27 main_c_10
  let main_v29 : IVec S_ 1 := andi main_v24 main_v28
  let main_v30 : FVec F S16 .f32 := Host.absf main_arg6
  let main_cst_11 : FVec F S_ .f32 := constant S_ .f32 0x7F800000#32
  let main_v31 : FVec F S16 .f32 := broadcastInDim S16 ![] bcast_S_S16 main_cst_11
  let main_v32 : IVec S16 1 := cmpf .olt main_v30 main_v31
  let main_c_12 : IVec S_ 1 := constantI S_ 1 1#1
  fn_part2 (F := F) main_v29 main_v32 main_c_12

def fn {F : FTy → Type} [FloatOps F] (main_arg0 : FVec F S4x8192x1024 .f32) (main_arg1 : FVec F S4x1x6144 .f32) (main_arg2 : FVec F S1024 .f32) (main_arg3 : FVec F S1024x4 .f32) (main_arg4 : FVec F S4 .f32) (main_arg5 : FVec F S1024x16 .f32) (main_arg6 : FVec F S16 .f32) (main_arg7 : FVec F S16x1024x512 .f32) (main_arg8 : FVec F S16x1024x512 .f32) (main_arg9 : FVec F S16x512x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_c_0 : IVec S_ 1 := constantI S_ 1 1#1
  let main_v4 : IVec S_ 1 := andi main_c_0 main_v3
  let main_v5 : FVec F S4x1x6144 .f32 := Host.absf main_arg1
  let main_cst_1 : FVec F S_ .f32 := constant S_ .f32 0x7F800000#32
  let main_v6 : FVec F S4x1x6144 .f32 := broadcastInDim S4x1x6144 ![] bcast_S_S4x1x6144 main_cst_1
  let main_v7 : IVec S4x1x6144 1 := cmpf .olt main_v5 main_v6
  let main_c_2 : IVec S_ 1 := constantI S_ 1 1#1
  let main_v8 : IVec S_ 1 := (fun x v => Host.reduce IntOp.andi x v reducesTo_S4x1x6144_S_d0_1_2 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1024x4 .f32 := Host.absf main_arg3
  let main_cst_5 : FVec F S_ .f32 := constant S_ .f32 0x7F800000#32
  fn_part1 (F := F) main_arg4 main_arg5 main_arg6 main_v14 main_v15 main_cst_5
-- ==== Pre_finite_window.lean ====
abbrev S4x2x2x8192x64 : Shape := ⟨5, ![4, 2, 2, 8192, 64]⟩
abbrev S4x2x8192x64 : Shape := ⟨4, ![4, 2, 8192, 64]⟩
abbrev S4x2x256x64 : Shape := ⟨4, ![4, 2, 256, 64]⟩
abbrev S4 : Shape := ⟨1, ![4]⟩
abbrev S_ : Shape := ⟨0, ![]⟩

class Facts : Prop where
  bitsLt_bf16_f32 : FTy.bits .bf16 < FTy.bits .f32
  bcast_S_S4x2x2x8192x64 : S_.BroadcastsInDim S4x2x2x8192x64 (![] : Fin 0 → Fin S4x2x2x8192x64.rank)
  reducesTo_S4x2x2x8192x64_S_d0_1_2_3_4 : S4x2x2x8192x64.ReducesTo [0, 1, 2, 3, 4] S_
  h_S_ : 0 < S_.numel
  bcast_S_S4x2x8192x64 : S_.BroadcastsInDim S4x2x8192x64 (![] : Fin 0 → Fin S4x2x8192x64.rank)
  reducesTo_S4x2x8192x64_S_d0_1_2_3 : S4x2x8192x64.ReducesTo [0, 1, 2, 3] S_
  bcast_S_S4x2x256x64 : S_.BroadcastsInDim S4x2x256x64 (![] : Fin 0 → Fin S4x2x256x64.rank)
  reducesTo_S4x2x256x64_S_d0_1_2_3 : S4x2x256x64.ReducesTo [0, 1, 2, 3] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v11 : IVec S_ 1) (main_v16 : IVec S_ 1) : IVec S_ 1 :=
  let main_v17 : IVec S_ 1 := andi main_v11 main_v16
  let main_v18 : FVec F S4 .f32 := Host.absf main_arg5
  let main_cst_5 : FVec F S_ .f32 := constant S_ .f32 0x7F800000#32
  let main_v19 : FVec F S4 .f32 := broadcastInDim S4 ![] bcast_S_S4 main_cst_5
  let main_v20 : IVec S4 1 := cmpf .olt main_v18 main_v19
  let main_c_6 : IVec S_ 1 := constantI S_ 1 1#1
  let main_v21 : IVec S_ 1 := (fun x v => Host.reduce IntOp.andi x v reducesTo_S4_S_d0 h_S_) main_v20 main_c_6
  let main_v22 : IVec S_ 1 := andi main_v17 main_v21
  main_v22

def fn {F : FTy → Type} [FloatOps F] (main_arg0 : FVec F S4x2x2x8192x64 .bf16) (main_arg1 : FVec F S4x2x8192x64 .bf16) (main_arg2 : FVec F S4x2x8192x64 .bf16) (main_arg3 : FVec F S4x2x256x64 .bf16) (main_arg4 : FVec F S4x2x256x64 .bf16) (main_arg5 : FVec F S4 .f32) : IVec S_ 1 :=
  let main_v0 : FVec F S4x2x2x8192x64 .f32 := (extf .f32 · bitsLt_bf16_f32) main_arg0
  let main_v1 : FVec F S4x2x2x8192x64 .f32 := Host.absf main_v0
  let main_cst : FVec F S_ .f32 := constant S_ .f32 0x7F800000#32
  let main_v2 : FVec F S4x2x2x8192x64 .f32 := broadcastInDim S4x2x2x8192x64 ![] bcast_S_S4x2x2x8192x64 main_cst
  let main_v3 : IVec S4x2x2x8192x64 1 := cmpf .olt main_v1 main_v2
  let main_c : IVec S_ 1 := constantI S_ 1 1#1
  let main_v4 : IVec S_ 1 := (fun x v => Host.reduce IntOp.andi x v reducesTo_S4x2x2x8192x64_S_d0_1_2_3_4 h_S_) main_v3 main_c
  let main_c_0 : IVec S_ 1 := constantI S_ 1 1#1
  let main_v5 : IVec S_ 1 := andi main_c_0 main_v4
  let main_v6 : FVec F S4x2x8192x64 .f32 := (extf .f32 · bitsLt_bf16_f32) main_arg1
  let main_v7 : FVec F S4x2x8192x64 .f32 := Host.absf main_v6
  let main_cst_1 : FVec F S_ .f32 := constant S_ .f32 0x7F800000#32
  let main_v8 : FVec F S4x2x8192x64 .f32 := broadcastInDim S4x2x8192x64 ![] bcast_S_S4x2x8192x64 main_cst_1
  let main_v9 : IVec S4x2x8192x64 1 := cmpf .olt main_v7 main_v8
  let main_c_2 : IVec S_ 1 := constantI S_ 1 1#1
  let main_v10 : IVec S_ 1 := (fun x v => Host.reduce IntOp.andi x v reducesTo_S4x2x8192x64_S_d0_1_2_3 h_S_) main_v9 main_c_2
  let main_v11 : IVec S_ 1 := andi main_v5 main_v10
  let main_v12 : FVec F S4x2x256x64 .f32 := (extf .f32 · bitsLt_bf16_f32) main_arg3
  let main_v13 : FVec F S4x2x256x64 .f32 := Host.absf main_v12
  let main_cst_3 : FVec F S_ .f32 := constant S_ .f32 0x7F800000#32
  let main_v14 : FVec F S4x2x256x64 .f32 := broadcastInDim S4x2x256x64 ![] bcast_S_S4x2x256x64 main_cst_3
  let main_v15 : IVec S4x2x256x64 1 := cmpf .olt main_v13 main_v14
  let main_c_4 : IVec S_ 1 := constantI S_ 1 1#1
  let main_v16 : IVec S_ 1 := (fun x v => Host.reduce IntOp.andi x v reducesTo_S4x2x256x64_S_d0_1_2_3 h_S_) main_v15 main_c_4
  fn_part1 (F := F) main_arg5 main_v11 main_v16
-- ==== Attn.lean ====
abbrev S4x4x8192x32 : Shape := ⟨4, ![4, 4, 8192, 32]⟩
abbrev S4x4x8448x32 : Shape := ⟨4, ![4, 4, 8448, 32]⟩
abbrev S4x4x8448x64 : Shape := ⟨4, ![4, 4, 8448, 64]⟩
abbrev S4x32 : Shape := ⟨2, ![4, 32]⟩
abbrev S64 : Shape := ⟨1, ![64]⟩
abbrev S1x64 : Shape := ⟨2, ![1, 64]⟩
abbrev S4x4x8192x64 : Shape := ⟨4, ![4, 4, 8192, 64]⟩
abbrev S1x1x256x32 : Shape := ⟨4, ![1, 1, 256, 32]⟩
abbrev S1x1x8448x32 : Shape := ⟨4, ![1, 1, 8448, 32]⟩
abbrev S1x1x8448x64 : Shape := ⟨4, ![1, 1, 8448, 64]⟩
abbrev S1x1x256x64 : Shape := ⟨4, ![1, 1, 256, 64]⟩
abbrev S1x32 : Shape := ⟨2, ![1, 32]⟩
abbrev S1x1x32 : Shape := ⟨3, ![1, 1, 32]⟩
abbrev S1 : Shape := ⟨1, ![1]⟩
abbrev S1x1x1 : Shape := ⟨3, ![1, 1, 1]⟩
abbrev S1x1 : Shape := ⟨2, ![1, 1]⟩
abbrev S256x32 : Shape := ⟨2, ![256, 32]⟩
abbrev S256x1 : Shape := ⟨2, ![256, 1]⟩
abbrev S256x64 : Shape := ⟨2, ![256, 64]⟩
abbrev S256x256 : Shape := ⟨2, ![256, 256]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S4x4x8192x32, .bf16⟩
  | .hbm, ⟨1, _⟩ => ⟨S4x4x8192x32, .bf16⟩
  | .hbm, ⟨2, _⟩ => ⟨S4x4x8448x32, .bf16⟩
  | .hbm, ⟨3, _⟩ => ⟨S4x4x8448x32, .bf16⟩
  | .hbm, ⟨4, _⟩ => ⟨S4x4x8448x64, .bf16⟩
  | .hbm, ⟨5, _⟩ => ⟨S4x32, .f32⟩
  | .hbm, ⟨6, _⟩ => ⟨S64, .f32⟩
  | .hbm, ⟨7, _⟩ => ⟨S1x64, .f32⟩
  | .hbm, ⟨8, _⟩ => ⟨S4x4x8192x64, .f32⟩
  | .local _ .vmem, ⟨0, _⟩ => ⟨S4x32, .f32⟩
  | .local _ .vmem, ⟨1, _⟩ => ⟨S1x64, .f32⟩
  | .local _ .vmem, ⟨2, _⟩ => ⟨S1x1x256x32, .bf16⟩
  | .local _ .vmem, ⟨3, _⟩ => ⟨S1x1x256x32, .bf16⟩
  | .local _ .vmem, ⟨4, _⟩ => ⟨S1x1x256x32, .bf16⟩
  | .local _ .vmem, ⟨5, _⟩ => ⟨S1x1x256x32, .bf16⟩
  | .local _ .vmem, ⟨6, _⟩ => ⟨S1x1x8448x32, .bf16⟩
  | .local _ .vmem, ⟨7, _⟩ => ⟨S1x1x8448x32, .bf16⟩
  | .local _ .vmem, ⟨8, _⟩ => ⟨S1x1x8448x32, .bf16⟩
  | .local _ .vmem, ⟨9, _⟩ => ⟨S1x1x8448x32, .bf16⟩
  | .local _ .vmem, ⟨10, _⟩ => ⟨S1x1x8448x64, .bf16⟩
  | .local _ .vmem, ⟨11, _⟩ => ⟨S1x1x8448x64, .bf16⟩
  | .local _ .vmem, ⟨12, _⟩ => ⟨S1x1x256x64, .f32⟩
  | .local _ .vmem, ⟨13, _⟩ => ⟨S1x1x256x64, .f32⟩
  | _, _ => ⟨S4x4x8192x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 32], ![false, false, false]⟩

@[reducible] def k0_t1_loop : Scf.Loop 32 :=
  let c0_i32 : BitVec 32 := 0#32
  let c33_i32 : BitVec 32 := 33#32
  let v29 : BitVec 32 := Scalar.addi c0_i32 c33_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v57 : BitVec 32 := Scalar.muli arg11 c256_i32
  v57
def k0_off1 (k0_t1 : Fin k0_t1_loop.trips) : Fin 4 → Nat :=
  let c0_25 : Index := 0#32
  let c0_26 : Index := 0#32
  let c0_i32 : BitVec 32 := 0#32
  let c1_i32 : BitVec 32 := 1#32
  let arg11 : BitVec 32 := Scf.iv c0_i32 c1_i32 k0_t1
  let c256_i32 : BitVec 32 := 256#32
  let v57 : BitVec 32 := Scalar.muli arg11 c256_i32
  let v58 : BitVec 32 := v57
  let v59 : Index := Scalar.indexCast v58
  let c0_27 : Index := 0#32
  ![0, 0, v59.toNat, 0]
def k0_off2 (k0_t1 : Fin k0_t1_loop.trips) : Fin 4 → Nat :=
  let c0_28 : Index := 0#32
  let c0_29 : Index := 0#32
  let c0_i32 : BitVec 32 := 0#32
  let c1_i32 : BitVec 32 := 1#32
  let arg11 : BitVec 32 := Scf.iv c0_i32 c1_i32 k0_t1
  let c256_i32 : BitVec 32 := 256#32
  let v57 : BitVec 32 := Scalar.muli arg11 c256_i32
  let v58 : BitVec 32 := v57
  let v62 : Index := Scalar.indexCast v58
  let c0_30 : Index := 0#32
  ![0, 0, v62.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x256x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8448x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8448x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8448x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S4x4x8192x32 : Shape := ⟨4, ![4, 4, 8192, 32]⟩
abbrev S4x4x8448x32 : Shape := ⟨4, ![4, 4, 8448, 32]⟩
abbrev S4x4x8448x64 : Shape := ⟨4, ![4, 4, 8448, 64]⟩
abbrev S4x32 : Shape := ⟨2, ![4, 32]⟩
abbrev S64 : Shape := ⟨1, ![64]⟩
abbrev S1x32 : Shape := ⟨2, ![1, 32]⟩
abbrev S32 : Shape := ⟨1, ![32]⟩
abbrev S_ : Shape := ⟨0, ![]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x4x8192x64 : Shape := ⟨4, ![4, 4, 8192, 64]⟩
abbrev S1x1x1x64 : Shape := ⟨4, ![1, 1, 1, 64]⟩

abbrev nBuf : Space → Nat
  | .hbm => 84
  | .vmem => 0
  | .smem => 0
  | _ => 0

abbrev bufTy : (tb : Table) → Fin (tcTables nBuf tb) → BufTy
  | .hbm, ⟨0, _⟩ => ⟨S4x4x8192x32, .bf16⟩
  | .hbm, ⟨1, _⟩ => ⟨S4x4x8192x32, .bf16⟩
  | .hbm, ⟨2, _⟩ => ⟨S4x4x8448x32, .bf16⟩
  | .hbm, ⟨3, _⟩ => ⟨S4x4x8448x32, .bf16⟩
  | .hbm, ⟨4, _⟩ => ⟨S4x4x8448x64, .bf16⟩
  | .hbm, ⟨5, _⟩ => ⟨S4x32, .f32⟩
  | .hbm, ⟨6, _⟩ => ⟨S64, .f32⟩
  | .hbm, ⟨7, _⟩ => ⟨S1x32, .f32⟩
  | .hbm, ⟨8, _⟩ => ⟨S32, .f32⟩
  | .hbm, ⟨9, _⟩ => ⟨S1x32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x4x8192x32, .f32⟩
  | .hbm, ⟨27, _⟩ => ⟨S4x4x8192x32, .f32⟩
  | .hbm, ⟨28, _⟩ => ⟨S4x4x8448x32, .f32⟩
  | .hbm, ⟨29, _⟩ => ⟨S4x4x8448x32, .f32⟩
  | .hbm, ⟨30, _⟩ => ⟨S4x4x8448x64, .f32⟩
  | .hbm, ⟨31, _⟩ => ⟨S4x4x8192x8448, .f32⟩
  | .hbm, ⟨32, _⟩ => ⟨S4x4x8192x8448, .f32⟩
  | .hbm, ⟨33, _⟩ => ⟨S_, .f32⟩
  | .hbm, ⟨34, _⟩ => ⟨S4x4x8192, .f32⟩
  | .hbm, ⟨35, _⟩ => ⟨S_, .f32⟩
  | .hbm, ⟨36, _⟩ => ⟨S4x4x8192, .f32⟩
  | .hbm, ⟨37, _⟩ => ⟨S4x4x8192, .f32⟩
  | .hbm, ⟨38, _⟩ => ⟨S4x4x8192x1, .f32⟩
  | .hbm, ⟨39, _⟩ => ⟨S4x4x8192x8448, .f32⟩
  | .hbm, ⟨40, _⟩ => ⟨S4x4x8192x8448, .f32⟩
  | .hbm, ⟨41, _⟩ => ⟨S4x4x8192x8448, .f32⟩
  | .hbm, ⟨42, _⟩ => ⟨S_, .f32⟩
  | .hbm, ⟨43, _⟩ => ⟨S4x4x8192, .f32⟩
  | .hbm, ⟨44, _⟩ => ⟨S4x4x8192x1, .f32⟩
  | .hbm, ⟨45, _⟩ => ⟨S4x4x8192x8448, .f32⟩
  | .hbm, ⟨46, _⟩ => ⟨S4x4x8192x8448, .f32⟩
  | .hbm, ⟨47, _⟩ => ⟨S_, .f32⟩
  | .hbm, ⟨48, _⟩ => ⟨S4x4x8192, .f32⟩
  | .hbm, ⟨49, _⟩ => ⟨S_, .f32⟩
  | .hbm, ⟨50, _⟩ => ⟨S4x4x8192, .f32⟩
  | .hbm, ⟨51, _⟩ => ⟨S4x4x8192, .f32⟩
  | .hbm, ⟨52, _⟩ => ⟨S4x4x8192x1, .f32⟩
  | .hbm, ⟨53, _⟩ => ⟨S4x4x8192x8448, .f32⟩
  | .hbm, ⟨54, _⟩ => ⟨S4x4x8192x8448, .f32⟩
  | .hbm, ⟨55, _⟩ => ⟨S4x4x8192x8448, .f32⟩
  | .hbm, ⟨56, _⟩ => ⟨S_, .f32⟩
  | .hbm, ⟨57, _⟩ => ⟨S4x4x8192, .f32⟩
  | .hbm, ⟨58, _⟩ => ⟨S4x4x8192x1, .f32⟩
  | .hbm, ⟨59, _⟩ => ⟨S4x4x8192x8448, .f32⟩
  | .hbm, ⟨60, _⟩ => ⟨S4x4x8192x8448, .f32⟩
  | .hbm, ⟨61, _⟩ => ⟨S4x4x8192x8448, .f32⟩
  | .hbm, ⟨62, _⟩ => ⟨S4x4x8192x8448, .f32⟩
  | .hbm, ⟨63, _⟩ => ⟨S4x4x8192x8448, .f32⟩
  | .hbm, ⟨64, _⟩ => ⟨S4x4x8192x64, .f32⟩
  | .hbm, ⟨65, _⟩ => ⟨S4x4x8192x64, .f32⟩
  | .hbm, ⟨66, _⟩ => ⟨S_, .f32⟩
  | .hbm, ⟨67, _⟩ => ⟨S4x4x8192, .f32⟩
  | .hbm, ⟨68, _⟩ => ⟨S4x4x8192x1, .f32⟩
  | .hbm, ⟨69, _⟩ => ⟨S_, .f32⟩
  | .hbm, ⟨70, _⟩ => ⟨S4x4x8192x1, .f32⟩
  | .hbm, ⟨71, _⟩ => ⟨S4x4x8192x1, .f32⟩
  | .hbm, ⟨72, _⟩ => ⟨S_, .f32⟩
  | .hbm, ⟨73, _⟩ => ⟨S4x4x8192x1, .f32⟩
  | .hbm, ⟨74, _⟩ => ⟨S4x4x8192x1, .f32⟩
  | .hbm, ⟨75, _⟩ => ⟨S4x4x8192x1, .f32⟩
  | .hbm, ⟨76, _⟩ => ⟨S4x4x8192x64, .f32⟩
  | .hbm, ⟨77, _⟩ => ⟨S4x4x8192x64, .f32⟩
  | .hbm, ⟨78, _⟩ => ⟨S1x1x1x64, .f32⟩
  | .hbm, ⟨79, _⟩ => ⟨S4x4x8192x64, .f32⟩
  | .hbm, ⟨80, _⟩ => ⟨S4x4x8192x64, .f32⟩
  | .hbm, ⟨81, _⟩ => ⟨S_, .f32⟩
  | .hbm, ⟨82, _⟩ => ⟨S4x4x8192x64, .f32⟩
  | .hbm, ⟨83, _⟩ => ⟨S4x4x8192x64, .f32⟩
  | _, _ => ⟨S4x4x8192x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Proj.lean ====
abbrev S4x8192x1024 : Shape := ⟨3, ![4, 8192, 1024]⟩
abbrev S4x1x6144 : Shape := ⟨3, ![4, 1, 6144]⟩
abbrev S1024 : Shape := ⟨1, ![1024]⟩
abbrev S1024x6656 : Shape := ⟨2, ![1024, 6656]⟩
abbrev S1024x768 : Shape := ⟨2, ![1024, 768]⟩
abbrev S1024x512 : Shape := ⟨2, ![1024, 512]⟩
abbrev S1024x4096 : Shape := ⟨2, ![1024, 4096]⟩
abbrev S1x1024 : Shape := ⟨2, ![1, 1024]⟩
abbrev S4x8192x768 : Shape := ⟨3, ![4, 8192, 768]⟩
abbrev S4x8192x512 : Shape := ⟨3, ![4, 8192, 512]⟩
abbrev S4x8192x4096 : Shape := ⟨3, ![4, 8192, 4096]⟩
abbrev S1x256x1024 : Shape := ⟨3, ![1, 256, 1024]⟩
abbrev S1x1x6144 : Shape := ⟨3, ![1, 1, 6144]⟩
abbrev S1x256x768 : Shape := ⟨3, ![1, 256, 768]⟩
abbrev S1x256x512 : Shape := ⟨3, ![1, 256, 512]⟩
abbrev S1x256x4096 : Shape := ⟨3, ![1, 256, 4096]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x768 : Shape := ⟨2, ![256, 768]⟩
abbrev S256x512 : Shape := ⟨2, ![256, 512]⟩
abbrev S1024x1024 : Shape := ⟨2, ![1024, 1024]⟩

abbrev nBuf : Space → Nat
  | .hbm => 20
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x6656, .f32⟩
  | .hbm, ⟨4, _⟩ => ⟨S1024x768, .f32⟩
  | .hbm, ⟨5, _⟩ => ⟨S1024x768, .bf16⟩
  | .hbm, ⟨6, _⟩ => ⟨S1024x768, .f32⟩
  | .hbm, ⟨7, _⟩ => ⟨S1024x768, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x4096, .f32⟩
  | .hbm, ⟨13, _⟩ => ⟨S1024x4096, .bf16⟩
  | .hbm, ⟨14, _⟩ => ⟨S1x1024, .f32⟩
  | .hbm, ⟨15, _⟩ => ⟨S4x8192x768, .f32⟩
  | .hbm, ⟨16, _⟩ => ⟨S4x8192x768, .f32⟩
  | .hbm, ⟨17, _⟩ => ⟨S4x8192x512, .f32⟩
  | .hbm, ⟨18, _⟩ => ⟨S4x8192x512, .f32⟩
  | .hbm, ⟨19, _⟩ => ⟨S4x8192x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x768, .bf16⟩
  | .local _ .vmem, ⟨6, _⟩ => ⟨S1024x768, .bf16⟩
  | .local _ .vmem, ⟨7, _⟩ => ⟨S1024x512, .bf16⟩
  | .local _ .vmem, ⟨8, _⟩ => ⟨S1024x512, .bf16⟩
  | .local _ .vmem, ⟨9, _⟩ => ⟨S1024x4096, .bf16⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x4096, .f32⟩
  | .local _ .vmem, ⟨19, _⟩ => ⟨S1x256x4096, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjRefIdeal.lean ====
abbrev S4x8192x1024 : Shape := ⟨3, ![4, 8192, 1024]⟩
abbrev S4x1x6144 : Shape := ⟨3, ![4, 1, 6144]⟩
abbrev S1024 : Shape := ⟨1, ![1024]⟩
abbrev S1024x6656 : Shape := ⟨2, ![1024, 6656]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6656 : Shape := ⟨3, ![4, 8192, 6656]⟩
abbrev S4x8192x768 : Shape := ⟨3, ![4, 8192, 768]⟩
abbrev S4x8192x512 : Shape := ⟨3, ![4, 8192, 512]⟩
abbrev S4x8192x4096 : Shape := ⟨3, ![4, 8192, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x6656, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x6656, .f32⟩
  | .hbm, ⟨34, _⟩ => ⟨S4x8192x768, .f32⟩
  | .hbm, ⟨35, _⟩ => ⟨S4x8192x768, .f32⟩
  | .hbm, ⟨36, _⟩ => ⟨S4x8192x512, .f32⟩
  | .hbm, ⟨37, _⟩ => ⟨S4x8192x512, .f32⟩
  | .hbm, ⟨38, _⟩ => ⟨S4x8192x4096, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Merge.lean ====
abbrev S4x8192x1024 : Shape := ⟨3, ![4, 8192, 1024]⟩
abbrev S4x1x6144 : Shape := ⟨3, ![4, 1, 6144]⟩
abbrev S4x8192x256 : Shape := ⟨3, ![4, 8192, 256]⟩
abbrev S4x8192x4096 : Shape := ⟨3, ![4, 8192, 4096]⟩
abbrev S4096 : Shape := ⟨1, ![4096]⟩
abbrev S4x256x1024 : Shape := ⟨3, ![4, 256, 1024]⟩
abbrev S1024x1024 : Shape := ⟨2, ![1024, 1024]⟩
abbrev S1x4096 : Shape := ⟨2, ![1, 4096]⟩
abbrev S1x256x1024 : Shape := ⟨3, ![1, 256, 1024]⟩
abbrev S1x1x6144 : Shape := ⟨3, ![1, 1, 6144]⟩
abbrev S1x256x256 : Shape := ⟨3, ![1, 256, 256]⟩
abbrev S1x256x4096 : Shape := ⟨3, ![1, 256, 4096]⟩
abbrev S256x1024 : Shape := ⟨2, ![256, 1024]⟩
abbrev S1x1024 : Shape := ⟨2, ![1, 1024]⟩
abbrev S256x256 : Shape := ⟨2, ![256, 256]⟩
abbrev S1x1x1024 : Shape := ⟨3, ![1, 1, 1024]⟩

abbrev nBuf : Space → Nat
  | .hbm => 14
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S4x8192x256, .f32⟩
  | .hbm, ⟨3, _⟩ => ⟨S4x8192x256, .f32⟩
  | .hbm, ⟨4, _⟩ => ⟨S4x8192x256, .f32⟩
  | .hbm, ⟨5, _⟩ => ⟨S4x8192x256, .f32⟩
  | .hbm, ⟨6, _⟩ => ⟨S4x8192x4096, .f32⟩
  | .hbm, ⟨7, _⟩ => ⟨S4096, .f32⟩
  | .hbm, ⟨8, _⟩ => ⟨S4x256x1024, .f32⟩
  | .hbm, ⟨9, _⟩ => ⟨S1024x1024, .f32⟩
  | .hbm, ⟨10, _⟩ => ⟨S4x256x1024, .bf16⟩
  | .hbm, ⟨11, _⟩ => ⟨S1024x1024, .bf16⟩
  | .hbm, ⟨12, _⟩ => ⟨S1x4096, .f32⟩
  | .hbm, ⟨13, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x4096, .f32⟩
  | .local _ .vmem, ⟨13, _⟩ => ⟨S1x256x4096, .f32⟩
  | .local _ .vmem, ⟨14, _⟩ => ⟨S1x4096, .f32⟩
  | .local _ .vmem, ⟨15, _⟩ => ⟨S4x256x1024, .bf16⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S4x8192x1024 : Shape := ⟨3, ![4, 8192, 1024]⟩
abbrev S4x1x6144 : Shape := ⟨3, ![4, 1, 6144]⟩
abbrev S4x8192x256 : Shape := ⟨3, ![4, 8192, 256]⟩
abbrev S4x8192x4096 : Shape := ⟨3, ![4, 8192, 4096]⟩
abbrev S4096 : Shape := ⟨1, ![4096]⟩
abbrev S4x256x1024 : Shape := ⟨3, ![4, 256, 1024]⟩
abbrev S1024x1024 : Shape := ⟨2, ![1024, 1024]⟩
abbrev S4x1x1024 : Shape := ⟨3, ![4, 1, 1024]⟩
abbrev S1024 : Shape := ⟨1, ![1024]⟩
abbrev S1x1x1024 : Shape := ⟨3, ![1, 1, 1024]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S4x8192x256, .f32⟩
  | .hbm, ⟨3, _⟩ => ⟨S4x8192x256, .f32⟩
  | .hbm, ⟨4, _⟩ => ⟨S4x8192x256, .f32⟩
  | .hbm, ⟨5, _⟩ => ⟨S4x8192x256, .f32⟩
  | .hbm, ⟨6, _⟩ => ⟨S4x8192x4096, .f32⟩
  | .hbm, ⟨7, _⟩ => ⟨S4096, .f32⟩
  | .hbm, ⟨8, _⟩ => ⟨S4x256x1024, .f32⟩
  | .hbm, ⟨9, _⟩ => ⟨S1024x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x8192x1024, .f32⟩
  | .hbm, ⟨17, _⟩ => ⟨S1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S1x256x1024, .f32⟩
  | .hbm, ⟨30, _⟩ => ⟨S256x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192x1024, .f32⟩
  | .hbm, ⟨48, _⟩ => ⟨S4x8192x1024, .f32⟩
  | .hbm, ⟨49, _⟩ => ⟨S1x256x1024, .f32⟩
  | .hbm, ⟨50, _⟩ => ⟨S256x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S_, .f32⟩
  | .hbm, ⟨62, _⟩ => ⟨S4x8192x1024, .f32⟩
  | .hbm, ⟨63, _⟩ => ⟨S4x8192x1024, .f32⟩
  | .hbm, ⟨64, _⟩ => ⟨S_, .f32⟩
  | .hbm, ⟨65, _⟩ => ⟨S4x8192x1024, .f32⟩
  | .hbm, ⟨66, _⟩ => ⟨S4x8192x1024, .f32⟩
  | .hbm, ⟨67, _⟩ => ⟨S1x256x1024, .f32⟩
  | .hbm, ⟨68, _⟩ => ⟨S256x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S1024, .f32⟩
  | .hbm, ⟨74, _⟩ => ⟨S1x1x1024, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S_, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192x1024, .f32⟩
  | .hbm, ⟨84, _⟩ => ⟨S4x8192x1024, .f32⟩
  | .hbm, ⟨85, _⟩ => ⟨S1x256x1024, .f32⟩
  | .hbm, ⟨86, _⟩ => ⟨S256x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Moe.lean ====
abbrev S4x8192x1024 : Shape := ⟨3, ![4, 8192, 1024]⟩
abbrev S4x1x6144 : Shape := ⟨3, ![4, 1, 6144]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S128 : Shape := ⟨1, ![128]⟩
abbrev S1x128 : Shape := ⟨2, ![1, 128]⟩
abbrev S1x1024 : Shape := ⟨2, ![1, 1024]⟩
abbrev S1x1024x1024 : Shape := ⟨3, ![1, 1024, 1024]⟩
abbrev S1x1x6144 : Shape := ⟨3, ![1, 1, 6144]⟩
abbrev S1x1024x512 : Shape := ⟨3, ![1, 1024, 512]⟩
abbrev S1x512x1024 : Shape := ⟨3, ![1, 512, 1024]⟩
abbrev S1024x1024 : Shape := ⟨2, ![1024, 1024]⟩
abbrev S1024x1 : Shape := ⟨2, ![1024, 1]⟩
abbrev S1x1x1024 : Shape := ⟨3, ![1, 1, 1024]⟩
abbrev S1024x512 : Shape := ⟨2, ![1024, 512]⟩
abbrev S512x1024 : Shape := ⟨2, ![512, 1024]⟩

abbrev nBuf : Space → Nat
  | .hbm => 24
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x4, .f32⟩
  | .hbm, ⟨4, _⟩ => ⟨S4, .f32⟩
  | .hbm, ⟨5, _⟩ => ⟨S1024x16, .f32⟩
  | .hbm, ⟨6, _⟩ => ⟨S16, .f32⟩
  | .hbm, ⟨7, _⟩ => ⟨S16x1024x512, .f32⟩
  | .hbm, ⟨8, _⟩ => ⟨S16x1024x512, .f32⟩
  | .hbm, ⟨9, _⟩ => ⟨S16x512x1024, .f32⟩
  | .hbm, ⟨10, _⟩ => ⟨S1024x20, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S20, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16x1024x512, .bf16⟩
  | .hbm, ⟨20, _⟩ => ⟨S16x1024x512, .bf16⟩
  | .hbm, ⟨21, _⟩ => ⟨S16x512x1024, .bf16⟩
  | .hbm, ⟨22, _⟩ => ⟨S1x1024, .f32⟩
  | .hbm, ⟨23, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x128, .f32⟩
  | .local _ .vmem, ⟨6, _⟩ => ⟨S1x128, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1024x1024, .bf16⟩
  | .local _ .vmem, ⟨16, _⟩ => ⟨S1024x128, .f32⟩
  | .local _ .vmem, ⟨17, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v35 : BitVec 1 := Scalar.cmpi .eq arg2 c15_i32
  let v36 : BitVec 32 := Scalar.extui v35
  let c0_i32_21 : BitVec 32 := 0#32
  let v37 : BitVec 1 := Scalar.cmpi .ne v36 c0_i32_21
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MoeIdeal.lean ====
variable {F : FTy → Type} [FloatOps F] [Named F]
def κ : String → Option EReal := fun
  | "mask" => some ⊥
  | _ => none
-- ==== MoeRefIdeal.lean ====
abbrev S4x8192x1024 : Shape := ⟨3, ![4, 8192, 1024]⟩
abbrev S4x1x6144 : Shape := ⟨3, ![4, 1, 6144]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4 : Shape := ⟨3, ![4, 8192, 4]⟩
abbrev S1x1x4 : Shape := ⟨3, ![1, 1, 4]⟩
abbrev S4x8192x16 : Shape := ⟨3, ![4, 8192, 16]⟩
abbrev S1x1x16 : Shape := ⟨3, ![1, 1, 16]⟩
abbrev S4x8192x4x4 : Shape := ⟨4, ![4, 8192, 4, 4]⟩
abbrev S4x8192x4x1 : Shape := ⟨4, ![4, 8192, 4, 1]⟩
abbrev S4x8192x4x4x1 : Shape := ⟨5, ![4, 8192, 4, 4, 1]⟩
abbrev S4x8192x4x1x4 : Shape := ⟨5, ![4, 8192, 4, 1, 4]⟩
abbrev S4x8192x4x4x4 : Shape := ⟨5, ![4, 8192, 4, 4, 4]⟩
abbrev S1x4 : Shape := ⟨2, ![1, 4]⟩
abbrev S4x1 : Shape := ⟨2, ![4, 1]⟩
abbrev S4x4 : Shape := ⟨2, ![4, 4]⟩
abbrev S1x1x1x4x4 : Shape := ⟨5, ![1, 1, 1, 4, 4]⟩
abbrev S4x8192x1x4 : Shape := ⟨4, ![4, 8192, 1, 4]⟩
abbrev S1x1x4x4 : Shape := ⟨4, ![1, 1, 4, 4]⟩
abbrev S4x8192x16x512 : Shape := ⟨4, ![4, 8192, 16, 512]⟩
abbrev S16x1024x4x8192 : Shape := ⟨4, ![16, 1024, 4, 8192]⟩
abbrev S4x8192x16x1024 : Shape := ⟨4, ![4, 8192, 16, 1024]⟩

abbrev nBuf : Space → Nat
  | .hbm => 171
  | .vmem => 0
  | .smem => 0
  | _ => 0

abbrev hbmTy0_0 (i : Nat) : BufTy := match i % 128 with
  | 0 => ⟨S4x8192x1024, .f32⟩
  | 1 => ⟨S4x1x6144, .f32⟩
  | 2 => ⟨S1024, .f32⟩
  | 3 => ⟨S1024x4, .f32⟩
  | 4 => ⟨S4, .f32⟩
  | 5 => ⟨S1024x16, .f32⟩
  | 6 => ⟨S16, .f32⟩
  | 7 => ⟨S16x1024x512, .f32⟩
  | 8 => ⟨S16x1024x512, .f32⟩
  | 9 => ⟨S16x512x1024, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S_, .f32⟩
  | 33 => ⟨S4x1x1024, .f32⟩
  | 34 => ⟨S4x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S4x8192x4, .f32⟩
  | 40 => ⟨S1x1x4, .f32⟩
  | 41 => ⟨S4x8192x4, .f32⟩
  | 42 => ⟨S4x8192x4, .f32⟩
  | 43 => ⟨S_, .f32⟩
  | 44 => ⟨S4x8192, .f32⟩
  | 45 => ⟨S_, .f32⟩
  | 46 => ⟨S4x8192, .f32⟩
  | 47 => ⟨S4x8192, .f32⟩
  | 48 => ⟨S4x8192x1, .f32⟩
  | 49 => ⟨S4x8192x4, .f32⟩
  | 50 => ⟨S4x8192x4, .f32⟩
  | 51 => ⟨S4x8192x4, .f32⟩
  | 52 => ⟨S_, .f32⟩
  | 53 => ⟨S4x8192, .f32⟩
  | 54 => ⟨S4x8192x1, .f32⟩
  | 55 => ⟨S4x8192x4, .f32⟩
  | 56 => ⟨S4x8192x4, .f32⟩
  | 57 => ⟨S4x8192x16, .f32⟩
  | 58 => ⟨S1x1x16, .f32⟩
  | 59 => ⟨S4x8192x16, .f32⟩
  | 60 => ⟨S4x8192x16, .f32⟩
  | 61 => ⟨S4x8192x4x4, .f32⟩
  | 62 => ⟨S_, .f32⟩
  | 63 => ⟨S4x8192x4, .f32⟩
  | 64 => ⟨S_, .f32⟩
  | 65 => ⟨S4x8192x4, .f32⟩
  | 66 => ⟨S4x8192x4, .f32⟩
  | 67 => ⟨S4x8192x4x1, .f32⟩
  | 68 => ⟨S4x8192x4x4, .f32⟩
  | 69 => ⟨S4x8192x4x4, .f32⟩
  | 70 => ⟨S4x8192x4x4, .f32⟩
  | 71 => ⟨S_, .f32⟩
  | 72 => ⟨S4x8192x4, .f32⟩
  | 73 => ⟨S4x8192x4x1, .f32⟩
  | 74 => ⟨S4x8192x4x4, .f32⟩
  | 75 => ⟨S4x8192x4x4, .f32⟩
  | 76 => ⟨S4, .i32⟩
  | 77 => ⟨S4x8192x4x4x1, .f32⟩
  | 78 => ⟨S4x8192x4x1x4, .f32⟩
  | 79 => ⟨S4x8192x4x4x4, .f32⟩
  | 80 => ⟨S4x8192x4x4x4, .f32⟩
  | 81 => ⟨S4x8192x4x4x4, .i1⟩
  | 82 => ⟨S4x8192x4x4x4, .f32⟩
  | 83 => ⟨S4x8192x4x4x4, .f32⟩
  | 84 => ⟨S4x8192x4x4x4, .i1⟩
  | 85 => ⟨S1x4, .i32⟩
  | 86 => ⟨S4x1, .i32⟩
  | 87 => ⟨S4x4, .i32⟩
  | 88 => ⟨S4x4, .i32⟩
  | 89 => ⟨S4x4, .i1⟩
  | 90 => ⟨S1x1x1x4x4, .i1⟩
  | 91 => ⟨S4x8192x4x4x4, .i1⟩
  | 92 => ⟨S4x8192x4x4x4, .i1⟩
  | 93 => ⟨S4x8192x4x4x4, .i1⟩
  | 94 => ⟨S_, .f32⟩
  | 95 => ⟨S_, .f32⟩
  | 96 => ⟨S4x8192x4x4x4, .f32⟩
  | 97 => ⟨S4x8192x4x4x4, .f32⟩
  | 98 => ⟨S4x8192x4x4x4, .f32⟩
  | 99 => ⟨S4x8192x4x4x4, .f32⟩
  | 100 => ⟨S_, .f32⟩
  | 101 => ⟨S4x8192x4x4, .f32⟩
  | 102 => ⟨S_, .f32⟩
  | 103 => ⟨S4x8192x4x4, .f32⟩
  | 104 => ⟨S4x8192x4x4, .i1⟩
  | 105 => ⟨S_, .f32⟩
  | 106 => ⟨S_, .f32⟩
  | 107 => ⟨S4x8192x4x4, .f32⟩
  | 108 => ⟨S4x8192x4x4, .f32⟩
  | 109 => ⟨S_, .f32⟩
  | 110 => ⟨S4x8192x4, .f32⟩
  | 111 => ⟨S4x8192x4x1, .f32⟩
  | 112 => ⟨S4x8192x4x4, .f32⟩
  | 113 => ⟨S4x8192x4x4, .f32⟩
  | 114 => ⟨S4x8192x4x1, .f32⟩
  | 115 => ⟨S4x8192x4x4, .f32⟩
  | 116 => ⟨S4x8192x4x4, .f32⟩
  | 117 => ⟨S4, .i32⟩
  | 118 => ⟨S4x8192x4x1, .f32⟩
  | 119 => ⟨S4x8192x1x4, .f32⟩
  | 120 => ⟨S4x8192x4x4, .f32⟩
  | 121 => ⟨S4x8192x4x4, .f32⟩
  | 122 => ⟨S4x8192x4x4, .i1⟩
  | 123 => ⟨S4x8192x4x4, .f32⟩
  | 124 => ⟨S4x8192x4x4, .f32⟩
  | 125 => ⟨S4x8192x4x4, .i1⟩
  | 126 => ⟨S1x4, .i32⟩
  | 127 => ⟨S4x1, .i32⟩
  | _ => ⟨S4x8192x1024, .f32⟩

abbrev hbmTy0_1 (i : Nat) : BufTy := match i % 128 with
  | 0 => ⟨S4x4, .i32⟩
  | 1 => ⟨S4x4, .i32⟩
  | 2 => ⟨S4x4, .i1⟩
  | 3 => ⟨S1x1x4x4, .i1⟩
  | 4 => ⟨S4x8192x4x4, .i1⟩
  | 5 => ⟨S4x8192x4x4, .i1⟩
  | 6 => ⟨S4x8192x4x4, .i1⟩
  | 7 => ⟨S_, .f32⟩
  | 8 => ⟨S_, .f32⟩
  | 9 => ⟨S4x8192x4x4, .f32⟩
  | 10 => ⟨S4x8192x4x4, .f32⟩
  | 11 => ⟨S4x8192x4x4, .f32⟩
  | 12 => ⟨S4x8192x4x4, .f32⟩
  | 13 => ⟨S_, .f32⟩
  | 14 => ⟨S4x8192x4, .f32⟩
  | 15 => ⟨S_, .f32⟩
  | 16 => ⟨S4x8192x4, .f32⟩
  | 17 => ⟨S4x8192x4, .i1⟩
  | 18 => ⟨S4x8192x4x1, .i1⟩
  | 19 => ⟨S_, .f32⟩
  | 20 => ⟨S_, .f32⟩
  | 21 => ⟨S4x8192x4x4, .i1⟩
  | 22 => ⟨S4x8192x4x4, .f32⟩
  | 23 => ⟨S4x8192x4x4, .f32⟩
  | 24 => ⟨S4x8192x16, .f32⟩
  | 25 => ⟨S4x8192x16x512, .f32⟩
  | 26 => ⟨S4x8192x16x512, .f32⟩
  | 27 => ⟨S4x8192x16x512, .f32⟩
  | 28 => ⟨S_, .f32⟩
  | 29 => ⟨S4x8192x16x512, .f32⟩
  | 30 => ⟨S4x8192x16x512, .f32⟩
  | 31 => ⟨S_, .f32⟩
  | 32 => ⟨S4x8192x16x512, .f32⟩
  | 33 => ⟨S4x8192x16x512, .f32⟩
  | 34 => ⟨S4x8192x16x512, .f32⟩
  | 35 => ⟨S4x8192x16x512, .f32⟩
  | 36 => ⟨S4x8192x16x512, .f32⟩
  | 37 => ⟨S16x1024x4x8192, .f32⟩
  | 38 => ⟨S4x8192x16x1024, .f32⟩
  | 39 => ⟨S4x8192x1024, .f32⟩
  | 40 => ⟨S4x8192x1024, .f32⟩
  | 41 => ⟨S4x8192x1024, .f32⟩
  | 42 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_cst_10 : Ref sig .tc := ⟨.hbm, 95, rfl⟩
abbrev main_call0_v0 : Ref sig .tc := ⟨.hbm, 96, rfl⟩
abbrev main_call0_v1 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_call1_v0 : Ref sig .tc := ⟨.hbm, 106, rfl⟩
abbrev main_call1_v1 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_15 : Ref sig .tc := ⟨.hbm, 135, rfl⟩
abbrev main_cst_16 : Ref sig .tc := ⟨.hbm, 136, rfl⟩
abbrev main_call2_v0 : Ref sig .tc := ⟨.hbm, 137, rfl⟩
abbrev main_call2_v1 : Ref sig .tc := ⟨.hbm, 138, rfl⟩
abbrev main_v105 : Ref sig .tc := ⟨.hbm, 139, rfl⟩
abbrev main_v106 : Ref sig .tc := ⟨.hbm, 140, rfl⟩
abbrev main_cst_17 : Ref sig .tc := ⟨.hbm, 141, rfl⟩
abbrev main_v107 : Ref sig .tc := ⟨.hbm, 142, rfl⟩
abbrev main_cst_18 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_call4_v0 : Ref sig .tc := ⟨.hbm, 154, rfl⟩
abbrev main_call4_v1 : Ref sig .tc := ⟨.hbm, 155, rfl⟩
abbrev main_call4_cst : Ref sig .tc := ⟨.hbm, 156, rfl⟩
abbrev main_call4_v2 : Ref sig .tc := ⟨.hbm, 157, rfl⟩
abbrev main_call4_v3 : Ref sig .tc := ⟨.hbm, 158, rfl⟩
abbrev main_call4_cst_0 : Ref sig .tc := ⟨.hbm, 159, rfl⟩
abbrev main_call4_v4 : Ref sig .tc := ⟨.hbm, 160, rfl⟩
abbrev main_call4_v5 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]
-- ==== Window.lean ====
abbrev S4x2x2x8192x64 : Shape := ⟨5, ![4, 2, 2, 8192, 64]⟩
abbrev S4x2x8192x64 : Shape := ⟨4, ![4, 2, 8192, 64]⟩
abbrev S4x2x256x64 : Shape := ⟨4, ![4, 2, 256, 64]⟩
abbrev S4 : Shape := ⟨1, ![4]⟩
abbrev S1x1x2x128x64 : Shape := ⟨5, ![1, 1, 2, 128, 64]⟩
abbrev S1x1x128x64 : Shape := ⟨4, ![1, 1, 128, 64]⟩
abbrev S1x1x256x64 : Shape := ⟨4, ![1, 1, 256, 64]⟩
abbrev S2x128x64 : Shape := ⟨3, ![2, 128, 64]⟩
abbrev S256x64 : Shape := ⟨2, ![256, 64]⟩
abbrev S256x128 : Shape := ⟨2, ![256, 128]⟩
abbrev S128x64 : Shape := ⟨2, ![128, 64]⟩
abbrev S256x256 : Shape := ⟨2, ![256, 256]⟩
abbrev S256x1 : Shape := ⟨2, ![256, 1]⟩
abbrev S1 : Shape := ⟨1, ![1]⟩
abbrev S256 : Shape := ⟨1, ![256]⟩

abbrev nBuf : Space → Nat
  | .hbm => 7
  | .vmem => 20
  | .smem => 1
  | _ => 0

abbrev bufTy : (tb : Table) → Fin (tcTables nBuf tb) → BufTy
  | .hbm, ⟨0, _⟩ => ⟨S4x2x2x8192x64, .bf16⟩
  | .hbm, ⟨1, _⟩ => ⟨S4x2x8192x64, .bf16⟩
  | .hbm, ⟨2, _⟩ => ⟨S4x2x8192x64, .bf16⟩
  | .hbm, ⟨3, _⟩ => ⟨S4x2x256x64, .bf16⟩
  | .hbm, ⟨4, _⟩ => ⟨S4x2x256x64, .bf16⟩
  | .hbm, ⟨5, _⟩ => ⟨S4, .f32⟩
  | .hbm, ⟨6, _⟩ => ⟨S4x2x2x8192x64, .f32⟩
  | .local _ .vmem, ⟨0, _⟩ => ⟨S1x1x2x128x64, .bf16⟩
  | .local _ .vmem, ⟨1, _⟩ => ⟨S1x1x2x128x64, .bf16⟩
  | .local _ .vmem, ⟨2, _⟩ => ⟨S1x1x128x64, .bf16⟩
  | .local _ .vmem, ⟨3, _⟩ => ⟨S1x1x128x64, .bf16⟩
  | .local _ .vmem, ⟨4, _⟩ => ⟨S1x1x128x64, .bf16⟩
  | .local _ .vmem, ⟨5, _⟩ => ⟨S1x1x128x64, .bf16⟩
  | .local _ .vmem, ⟨6, _⟩ => ⟨S1x1x128x64, .bf16⟩
  | .local _ .vmem, ⟨7, _⟩ => ⟨S1x1x128x64, .bf16⟩
  | .local _ .vmem, ⟨8, _⟩ => ⟨S1x1x256x64, .bf16⟩
  | .local _ .vmem, ⟨9, _⟩ => ⟨S1x1x256x64, .bf16⟩
  | .local _ .vmem, ⟨10, _⟩ => ⟨S1x1x128x64, .bf16⟩
  | .local _ .vmem, ⟨11, _⟩ => ⟨S1x1x128x64, .bf16⟩
  | .local _ .vmem, ⟨12, _⟩ => ⟨S1x1x128x64, .bf16⟩
  | .local _ .vmem, ⟨13, _⟩ => ⟨S1x1x128x64, .bf16⟩
  | .local _ .vmem, ⟨14, _⟩ => ⟨S1x1x128x64, .bf16⟩
  | .local _ .vmem, ⟨15, _⟩ => ⟨S1x1x128x64, .bf16⟩
  | .local _ .vmem, ⟨16, _⟩ => ⟨S1x1x256x64, .bf16⟩
  | .local _ .vmem, ⟨17, _⟩ => ⟨S1x1x256x64, .bf16⟩
  | .local _ .vmem, ⟨18, _⟩ => ⟨S1x1x2x128x64, .f32⟩
  | .local _ .vmem, ⟨19, _⟩ => ⟨S1x1x2x128x64, .f32⟩
  | .local _ .smem, ⟨0, _⟩ => ⟨S4, .f32⟩
  | _, _ => ⟨S4x2x2x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 2, 64], ![false, false, false]⟩

def k0_off1 (i : grid0.Coords) (c0_i32_38 : BitVec 32) : Fin 1 → Nat :=
  let arg1 : BitVec 32 := BitVec.ofNat 32 (i 1).val
  let c2_i32 : BitVec 32 := 2#32
  let v73 : BitVec 32 := Scalar.muli arg1 c2_i32
  let v74 : BitVec 32 := Scalar.addi v73 c0_i32_38
  let v75 : Index := Scalar.indexCast v74
  ![v75.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c0_i32 : BitVec 32 := 0#32
  let c0_i32_0 : BitVec 32 := 0#32
  ![arg0.toNat, arg1.toNat, v1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c0_i32 : BitVec 32 := 0#32
  let c0_i32_0 : BitVec 32 := 0#32
  ![arg0.toNat, arg1.toNat, v1.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x2x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== WindowIdeal.lean ====
variable {F : FTy → Type} [FloatOps F] [Named F]
def κ : String → Option EReal := fun
  | "mask" => some ⊥
  | _ => none
-- ==== WindowRefIdeal.lean ====
abbrev S4x2x2x8192x64 : Shape := ⟨5, ![4, 2, 2, 8192, 64]⟩
abbrev S4x2x8192x64 : Shape := ⟨4, ![4, 2, 8192, 64]⟩
abbrev S4x2x256x64 : Shape := ⟨4, ![4, 2, 256, 64]⟩
abbrev S4 : Shape := ⟨1, ![4]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S4x2x2x8192x8192 : Shape := ⟨5, ![4, 2, 2, 8192, 8192]⟩
abbrev S4x2x2x8192x256 : Shape := ⟨5, ![4, 2, 2, 8192, 256]⟩
abbrev S2x2 : Shape := ⟨2, ![2, 2]⟩
abbrev S1x2x2x1x1 : Shape := ⟨5, ![1, 2, 2, 1, 1]⟩
abbrev S4x2x2x8192x1 : Shape := ⟨5, ![4, 2, 2, 8192, 1]⟩
abbrev S4x2x2x8192x8449 : Shape := ⟨5, ![4, 2, 2, 8192, 8449]⟩
abbrev S4x2x2x8192 : Shape := ⟨4, ![4, 2, 2, 8192]⟩

abbrev nBuf : Space → Nat
  | .hbm => 58
  | .vmem => 0
  | .smem => 0
  | _ => 0

abbrev bufTy : (tb : Table) → Fin (tcTables nBuf tb) → BufTy
  | .hbm, ⟨0, _⟩ => ⟨S4x2x2x8192x64, .bf16⟩
  | .hbm, ⟨1, _⟩ => ⟨S4x2x8192x64, .bf16⟩
  | .hbm, ⟨2, _⟩ => ⟨S4x2x8192x64, .bf16⟩
  | .hbm, ⟨3, _⟩ => ⟨S4x2x256x64, .bf16⟩
  | .hbm, ⟨4, _⟩ => ⟨S4x2x256x64, .bf16⟩
  | .hbm, ⟨5, _⟩ => ⟨S4, .f32⟩
  | .hbm, ⟨6, _⟩ => ⟨S4x2x2x8192x64, .f32⟩
  | .hbm, ⟨7, _⟩ => ⟨S4x2x8192x64, .f32⟩
  | .hbm, ⟨8, _⟩ => ⟨S4x2x8192x64, .f32⟩
  | .hbm, ⟨9, _⟩ => ⟨S4x2x256x64, .f32⟩
  | .hbm, ⟨10, _⟩ => ⟨S4x2x256x64, .f32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S1x8192, .i32⟩
  | .hbm, ⟨15, _⟩ => ⟨S_, .i32⟩
  | .hbm, ⟨16, _⟩ => ⟨S8192x1, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .i32⟩
  | .hbm, ⟨22, _⟩ => ⟨S1x8192, .i32⟩
  | .hbm, ⟨23, _⟩ => ⟨S1x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S4x2x2x8192x8192, .f32⟩
  | .hbm, ⟨29, _⟩ => ⟨S_, .f32⟩
  | .hbm, ⟨30, _⟩ => ⟨S_, .f32⟩
  | .hbm, ⟨31, _⟩ => ⟨S4x2x2x8192x8192, .i1⟩
  | .hbm, ⟨32, _⟩ => ⟨S4x2x2x8192x8192, .f32⟩
  | .hbm, ⟨33, _⟩ => ⟨S4x2x2x8192x8192, .f32⟩
  | .hbm, ⟨34, _⟩ => ⟨S4x2x2x8192x256, .f32⟩
  | .hbm, ⟨35, _⟩ => ⟨S2x2, .f32⟩
  | .hbm, ⟨36, _⟩ => ⟨S1x2x2x1x1, .f32⟩
  | .hbm, ⟨37, _⟩ => ⟨S4x2x2x8192x1, .f32⟩
  | .hbm, ⟨38, _⟩ => ⟨S4x2x2x8192x8449, .f32⟩
  | .hbm, ⟨39, _⟩ => ⟨S_, .f32⟩
  | .hbm, ⟨40, _⟩ => ⟨S4x2x2x8192, .f32⟩
  | .hbm, ⟨41, _⟩ => ⟨S_, .f32⟩
  | .hbm, ⟨42, _⟩ => ⟨S4x2x2x8192, .f32⟩
  | .hbm, ⟨43, _⟩ => ⟨S4x2x2x8192, .f32⟩
  | .hbm, ⟨44, _⟩ => ⟨S4x2x2x8192x1, .f32⟩
  | .hbm, ⟨45, _⟩ => ⟨S4x2x2x8192x8449, .f32⟩
  | .hbm, ⟨46, _⟩ => ⟨S4x2x2x8192x8449, .f32⟩
  | .hbm, ⟨47, _⟩ => ⟨S4x2x2x8192x8449, .f32⟩
  | .hbm, ⟨48, _⟩ => ⟨S_, .f32⟩
  | .hbm, ⟨49, _⟩ => ⟨S4x2x2x8192, .f32⟩
  | .hbm, ⟨50, _⟩ => ⟨S4x2x2x8192x1, .f32⟩
  | .hbm, ⟨51, _⟩ => ⟨S4x2x2x8192x8449, .f32⟩
  | .hbm, ⟨52, _⟩ => ⟨S4x2x2x8192x8449, .f32⟩
  | .hbm, ⟨53, _⟩ => ⟨S4x2x2x8192x8192, .f32⟩
  | .hbm, ⟨54, _⟩ => ⟨S4x2x2x8192x64, .f32⟩
  | .hbm, ⟨55, _⟩ => ⟨S4x2x2x8192x256, .f32⟩
  | .hbm, ⟨56, _⟩ => ⟨S4x2x2x8192x64, .f32⟩
  | .hbm, ⟨57, _⟩ => ⟨S4x2x2x8192x64, .f32⟩
  | _, _ => ⟨S4x2x2x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Online.lean ====
/- Softmax in one pass, over the reals: a row's running maximum, sum and weighted sum, taken chunk by chunk, hold the
   sums of the keys seen so far, shifted by some real number; at the end their quotient is the softmax-weighted mean,
   whatever that number was. Beside it the two-pass form, whose quotients are the same weights. -/
module

public import Idealize.ShloMosaic.PureOps.Ideal
public import Idealize.ShloMosaic.Lib.Pointwise.Sums

@[expose] public section

noncomputable section

namespace Cert.Online

open Idealize.ShloMosaic

/-- A sum of real numbers, read in the extended reals. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The maximum of finitely many real numbers is real, or nothing was there. -/
theorem fold_max_coe {ι : Type} (t : Finset ι) (f : ι → ℝ) :
    t.fold max (⊥ : EReal) (fun i => (f i : EReal)) = ⊥ ∧ t = ∅ ∨ ∃ r : ℝ, t.fold max (⊥ : EReal) (fun i => (f i : EReal)) = r := by
  classical
  induction t using Finset.induction_on with
  | empty => exact Or.inl ⟨rfl, rfl⟩
  | insert a t ha ih =>
    right
    rw [Finset.fold_insert ha]
    rcases ih with ⟨h, -⟩ | ⟨r, h⟩
    · exact ⟨f a, by rw [h]; exact max_eq_left bot_le⟩
    · exact ⟨max (f a) r, by rw [h]; exact (EReal.coe_strictMono.monotone.map_max).symm⟩

/-- The greater of a real number and the maximum of real numbers is real. -/
theorem max_fold_coe {ι : Type} (t : Finset ι) (f : ι → ℝ) (M : ℝ) :
    ∃ r : ℝ, max (M : EReal) (t.fold max (⊥ : EReal) (fun i => (f i : EReal))) = r := by
  rcases fold_max_coe t f with ⟨h, -⟩ | ⟨r, h⟩
  · exact ⟨M, by rw [h]; exact max_eq_left bot_le⟩
  · exact ⟨max M r, by rw [h]; exact (EReal.coe_strictMono.monotone.map_max).symm⟩

/-- The exponential of a difference of reals. -/
theorem exp_sub_coe (a b : ℝ) : Ideal.exp ((a : EReal) - (b : EReal)) = ((Real.exp (a - b) : ℝ) : EReal) := by
  rw [← EReal.coe_sub]; rfl

/-- The quotient of two reals, the lower one not zero. -/
theorem div_coe_coe (a b : ℝ) (hb : b ≠ 0) : Ideal.div (a : EReal) (b : EReal) = ((a / b : ℝ) : EReal) := by
  rw [Ideal.div_coe hb, ← EReal.coe_mul]; congr 1; rw [mul_one_div]

/-- The sum of the weights `exp (s j - M)` over the first `k` chunks of `T` keys, each times `w j`. -/
def upTo (T : ℕ) (s w : ℕ → ℝ) (M : ℝ) (k : ℕ) : ℝ :=
  ∑ i ∈ Finset.range k, ∑ c : Fin T, Real.exp (s (T * i + c.val) - M) * w (T * i + c.val)

/-- Changing the shift multiplies the sums. -/
theorem upTo_shift (T : ℕ) (s w : ℕ → ℝ) (M M' : ℝ) (k : ℕ) :
    Real.exp (M - M') * upTo T s w M k = upTo T s w M' k := by
  unfold upTo
  rw [Finset.mul_sum]
  refine Finset.sum_congr rfl fun i _ => ?_
  rw [Finset.mul_sum]
  refine Finset.sum_congr rfl fun c _ => ?_
  rw [← mul_assoc, ← Real.exp_add]
  congr 2
  ring

/-- What a row carries after `k` chunks: some shift `M`, the sum of the weights and the weighted sums. -/
def Row {D : ℕ} (T : ℕ) (s : ℕ → ℝ) (w : Fin D → ℕ → ℝ) (k : ℕ) (m l : EReal) (a : Fin D → EReal) : Prop :=
  ∃ M : ℝ, m = (M : EReal) ∧ l = ((upTo T s (fun _ => 1) M k : ℝ) : EReal) ∧ ∀ d, a d = ((upTo T s (w d) M k : ℝ) : EReal)

theorem Row.zero {D : ℕ} (T : ℕ) (s : ℕ → ℝ) (w : Fin D → ℕ → ℝ) (M : ℝ) : Row T s w 0 (M : EReal) 0 (fun _ => 0) :=
  ⟨M, rfl, by simp [upTo], fun d => by simp [upTo]⟩

/-- One chunk more. -/
theorem Row.succ {D T : ℕ} {s : ℕ → ℝ} {w : Fin D → ℕ → ℝ} {k : ℕ} {m l : EReal} {a : Fin D → EReal}
    (h : Row T s w k m l a) (S : Fin T → EReal) (V : Fin T → Fin D → EReal)
    (hS : ∀ c, S c = ((s (T * k + c.val) : ℝ) : EReal)) (hV : ∀ c d, V c d = ((w d (T * k + c.val) : ℝ) : EReal))
    (m' l' : EReal) (a' : Fin D → EReal)
    (hm : m' = max m (Finset.univ.fold max (⊥ : EReal) S))
    (hl : l' = Ideal.exp (m - m') * l + ∑ c, Ideal.exp (S c - m'))
    (ha : ∀ d, a' d = Ideal.exp (m - m') * a d + ∑ c, Ideal.exp (S c - m') * V c d) :
    Row T s w (k + 1) m' l' a' := by
  obtain ⟨M, rfl, hl0, ha0⟩ := h
  have eS : S = fun c => ((s (T * k + c.val) : ℝ) : EReal) := funext hS
  obtain ⟨M', hM'⟩ := max_fold_coe Finset.univ (fun c : Fin T => s (T * k + c.val)) M
  rw [eS, hM'] at hm
  subst hm
  refine ⟨M', rfl, ?_, fun d => ?_⟩
  · rw [hl, hl0, exp_sub_coe, ← EReal.coe_mul, upTo_shift]
    simp only [hS, exp_sub_coe]
    rw [coe_sum, ← EReal.coe_add]
    congr 1
    unfold upTo
    rw [Finset.sum_range_succ]
    simp
  · rw [ha, ha0, exp_sub_coe, ← EReal.coe_mul, upTo_shift]
    simp only [hS, hV, exp_sub_coe, ← EReal.coe_mul]
    rw [coe_sum, ← EReal.coe_add]
    congr 1
    unfold upTo
    rw [Finset.sum_range_succ]

/-- The softmax-weighted mean of `w` under the scores `s`. -/
def mean {N : ℕ} (s w : Fin N → ℝ) : ℝ := (∑ j, Real.exp (s j) * w j) / ∑ j, Real.exp (s j)

/-- The chunks of a whole row, in the order of the keys. -/
theorem upTo_all (J T N : ℕ) (hN : J * T = N) (s w : ℕ → ℝ) (M : ℝ) :
    upTo T s w M J = Real.exp (-M) * ∑ j : Fin N, Real.exp (s j.val) * w j.val := by
  rw [Fin.sum_univ_tiles J T hN, Finset.mul_sum]
  unfold upTo
  rw [Finset.sum_range]
  refine Finset.sum_congr rfl fun i _ => ?_
  rw [Finset.mul_sum]
  refine Finset.sum_congr rfl fun c _ => ?_
  rw [← mul_assoc, ← Real.exp_add]
  have e : T * i.val + c.val = i.val * T + c.val := by rw [Nat.mul_comm]
  simp only [e]
  congr 2
  ring

/-- What a row carries at the end, divided: the softmax-weighted mean. -/
theorem Row.quotient {D T J N : ℕ} (hN : J * T = N) (hp : 0 < N) {s : ℕ → ℝ} {w : Fin D → ℕ → ℝ} {m l : EReal} {a : Fin D → EReal}
    (h : Row T s w J m l a) (d : Fin D) :
    Ideal.div (a d) l = ((mean (fun j : Fin N => s j.val) (fun j : Fin N => w d j.val) : ℝ) : EReal) := by
  obtain ⟨M, -, hl, ha⟩ := h
  haveI : Nonempty (Fin N) := ⟨⟨0, hp⟩⟩
  have hpos : 0 < ∑ j : Fin N, Real.exp (s j.val) := Finset.sum_pos (fun j _ => Real.exp_pos _) Finset.univ_nonempty
  rw [hl, ha, upTo_all J T N hN, upTo_all J T N hN]
  simp only [mul_one]
  rw [div_coe_coe _ _ (mul_pos (Real.exp_pos _) hpos).ne']
  unfold mean
  rw [mul_div_mul_left _ _ (Real.exp_pos _).ne']

/-- A weight of the two-pass softmax: shifted by any real number it is the plain quotient. -/
theorem weight {N : ℕ} (s : Fin N → ℝ) (M : ℝ) (j : Fin N) :
    Ideal.div (Ideal.exp ((s j : EReal) - (M : EReal))) (∑ c, Ideal.exp ((s c : EReal) - (M : EReal)))
      = ((Real.exp (s j) / ∑ c, Real.exp (s c) : ℝ) : EReal) := by
  haveI : Nonempty (Fin N) := ⟨j⟩
  have hpos : 0 < ∑ c : Fin N, Real.exp (s c) := Finset.sum_pos (fun j _ => Real.exp_pos _) Finset.univ_nonempty
  have e : ∀ c, Real.exp (s c - M) = Real.exp (-M) * Real.exp (s c) := fun c => by rw [← Real.exp_add]; congr 1; ring
  simp only [exp_sub_coe]
  rw [coe_sum]
  simp only [e]
  rw [← Finset.mul_sum, div_coe_coe _ _ (mul_pos (Real.exp_pos _) hpos).ne', mul_div_mul_left _ _ (Real.exp_pos _).ne']

/-- The difference of two softmax maps applied to the values is the difference of the two weighted means. -/
theorem difference {N : ℕ} (s1 s2 w : Fin N → ℝ) (lam : ℝ) :
    ∑ j, (((Real.exp (s1 j) / ∑ c, Real.exp (s1 c) : ℝ) : EReal)
        - (lam : EReal) * ((Real.exp (s2 j) / ∑ c, Real.exp (s2 c) : ℝ) : EReal)) * (w j : EReal)
      = ((mean s1 w : ℝ) : EReal) - (lam : EReal) * ((mean s2 w : ℝ) : EReal) := by
  simp only [← EReal.coe_mul, ← EReal.coe_sub]
  rw [coe_sum]
  congr 1
  unfold mean
  rw [Finset.sum_div, Finset.sum_div, Finset.mul_sum, ← Finset.sum_sub_distrib]
  refine Finset.sum_congr rfl fun j _ => ?_
  ring

end Cert.Online

end
-- ==== Proof.AttnSpec.lean ====
/- The differential attention's value at one place of the result, from a row of each query map, the keys and the
   values: what the kernel and the reference are both shown to hold. -/
module

public import proofs.«01_k».proof.Proof.Online
public import Idealize.ShloMosaic.Lib.Pointwise

@[expose] public section

noncomputable section

namespace Cert.AttnSpec

open Idealize.ShloMosaic

/-- The weight of the second map: `exp(a·b) - exp(c·d) + 0.2`, of the four rows of the parameters. -/
def lam (p : Fin 4 → Fin 32 → EReal) : EReal :=
  Ideal.exp (∑ i, p 0 i * p 1 i) - Ideal.exp (∑ i, p 2 i * p 3 i) + Ideal.ofBits .f32 0x3E4CCCCD#32

/-- A head's row `y` normalised by its root mean square, scaled by `g` and by 0.8. -/
def finish (y g : Fin 64 → EReal) (d : Fin 64) : EReal :=
  y d * Ideal.rsqrt (Ideal.div (∑ e, y e * y e) (Ideal.ofBits .f32 0x42800000#32) + Ideal.ofBits .f32 0x358637BD#32) * g d
    * Ideal.ofBits .f32 0x3F4CCCCD#32

/-- An array all of whose elements are real numbers. -/
def Reals {s : Shape} (x : s.Idx → EReal) : Prop := ∀ i, x i = ((x i).toReal : EReal)

/-- The score of query `r` against key `j`, in one head of one batch. -/
def score (q : (⟨4, ![4, 4, 8192, 32]⟩ : Shape).Idx → EReal) (k : (⟨4, ![4, 4, 8448, 32]⟩ : Shape).Idx → EReal)
    (b h : Fin 4) (r : Fin 8192) (j : Fin 8448) : ℝ :=
  ∑ x : Fin 32, (q (ix4 b h r x)).toReal * (k (ix4 b h j x)).toReal

/-- With real queries and keys, that score is the sum of the products taken in the extended reals. -/
theorem score_eq {q : (⟨4, ![4, 4, 8192, 32]⟩ : Shape).Idx → EReal} {k : (⟨4, ![4, 4, 8448, 32]⟩ : Shape).Idx → EReal}
    (hq : Reals q) (hk : Reals k) (b h : Fin 4) (r : Fin 8192) (j : Fin 8448) :
    ∑ x : Fin 32, q (ix4 b h r x) * k (ix4 b h j x) = (score q k b h r j : EReal) := by
  unfold score
  rw [← Online.coe_sum]
  exact Finset.sum_congr rfl fun x _ => by rw [EReal.coe_mul, ← hq, ← hk]

/-- The softmax-weighted mean of the values' column `d`, for query `r`. -/
def head (q : (⟨4, ![4, 4, 8192, 32]⟩ : Shape).Idx → EReal) (k : (⟨4, ![4, 4, 8448, 32]⟩ : Shape).Idx → EReal)
    (v : (⟨4, ![4, 4, 8448, 64]⟩ : Shape).Idx → EReal) (b h : Fin 4) (r : Fin 8192) (d : Fin 64) : ℝ :=
  Online.mean (score q k b h r) (fun j => (v (ix4 b h j d)).toReal)

/-- The attention's value at batch `b`, head `h`, query `r` and column `d`. -/
def value (q1 q2 : (⟨4, ![4, 4, 8192, 32]⟩ : Shape).Idx → EReal) (k1 k2 : (⟨4, ![4, 4, 8448, 32]⟩ : Shape).Idx → EReal)
    (v : (⟨4, ![4, 4, 8448, 64]⟩ : Shape).Idx → EReal) (p : (⟨2, ![4, 32]⟩ : Shape).Idx → EReal)
    (g : (⟨1, ![64]⟩ : Shape).Idx → EReal) (b h : Fin 4) (r : Fin 8192) (d : Fin 64) : EReal :=
  finish (fun e => (head q1 k1 v b h r e : EReal) - lam (fun i j => p (ix2 i j)) * (head q2 k2 v b h r e : EReal))
    (fun e => g (ix1 e)) d

/-- … as an array. -/
def out (q1 q2 : (⟨4, ![4, 4, 8192, 32]⟩ : Shape).Idx → EReal) (k1 k2 : (⟨4, ![4, 4, 8448, 32]⟩ : Shape).Idx → EReal)
    (v : (⟨4, ![4, 4, 8448, 64]⟩ : Shape).Idx → EReal) (p : (⟨2, ![4, 32]⟩ : Shape).Idx → EReal)
    (g : (⟨1, ![64]⟩ : Shape).Idx → EReal) : (⟨4, ![4, 4, 8192, 64]⟩ : Shape).Idx → EReal :=
  fun i => value q1 q2 k1 k2 v p g (i 0) (i 1) (i 2) (i 3)

end Cert.AttnSpec

end
-- ==== Proof.AttnChunk.lean ====
/- One chunk of the differential attention's loop, read at a row: the scores, the running maximum, the running sum
   and the running weighted sum after it, from those before it. -/
module

public import proofs.«01_k».proof.Proof.AttnSpec
public import proofs.«01_k».proof.Proof.Gen.AttnIdeal.Skeleton
public import Idealize.ShloMosaic.Lib.Pointwise

@[expose] public section

noncomputable section

namespace Cert.AttnIdeal.Chunk

open Idealize.ShloMosaic Idealize.ShloMosaic.TcCoe Cert.AttnIdeal Cert.AttnIdeal.Gen

/-- The scores of a chunk: the dot products of a query row with the chunk's keys. -/
theorem score (q : FVec Ideal S256x32 .bf16) (kc : Vec Ideal S1x1x256x32 .bf16) (r c : Fin 256) :
    k0_pay3 q kc (ix2 r c) = ∑ x : Fin 32, q (ix2 r x) * kc (ix4 0 0 c x) := by
  pointwise [k0_pay3]

/-- The word of minus infinity. -/
theorem bot_word : Ideal.ofBits .f32 0xFF800000#32 = (⊥ : EReal) := by
  simp [Ideal.ofBits, Ideal.ieee, FTy.bits]

/-- The running maximum after a chunk. -/
theorem top (q : FVec Ideal S256x32 .bf16) (m : FVec Ideal S256x1 .f32) (kc : Vec Ideal S1x1x256x32 .bf16) (r : Fin 256) :
    k0_pay4 q m kc (ix2 r 0) = max (m (ix2 r 0)) (Finset.univ.fold max ⊥ fun c : Fin 256 => k0_pay3 q kc (ix2 r c)) := by
  pointwise [k0_pay4]
  exact congrArg (fun b => max (m (ix2 r 0)) (Finset.univ.fold max b fun c : Fin 256 => k0_pay3 q kc (ix2 r c))) bot_word

/-- The factor that rescales what was summed before. -/
theorem shift (q : FVec Ideal S256x32 .bf16) (m : FVec Ideal S256x1 .f32) (kc : Vec Ideal S1x1x256x32 .bf16) (r : Fin 256) :
    k0_pay5 q m kc (ix2 r 0) = Ideal.exp (m (ix2 r 0) - k0_pay4 q m kc (ix2 r 0)) := by
  pointwise [k0_pay5]

/-- The weight of one key of the chunk. -/
theorem weight (q : FVec Ideal S256x32 .bf16) (m : FVec Ideal S256x1 .f32) (kc : Vec Ideal S1x1x256x32 .bf16) (r c : Fin 256) :
    k0_pay6 q m kc (ix2 r c) = Ideal.exp (k0_pay3 q kc (ix2 r c) - k0_pay4 q m kc (ix2 r 0)) := by
  pointwise [k0_pay6]

/-- The running sum of weights after a chunk. -/
theorem total (q : FVec Ideal S256x32 .bf16) (m l : FVec Ideal S256x1 .f32) (kc : Vec Ideal S1x1x256x32 .bf16) (r : Fin 256) :
    k0_pay7 q m l kc (ix2 r 0)
      = k0_pay5 q m kc (ix2 r 0) * l (ix2 r 0) + ∑ c : Fin 256, k0_pay6 q m kc (ix2 r c) := by
  pointwise [k0_pay7]

/-- The running weighted sum of values after a chunk. -/
theorem acc (q : FVec Ideal S256x32 .bf16) (m : FVec Ideal S256x1 .f32) (a : FVec Ideal S256x64 .f32)
    (vc : Vec Ideal S1x1x256x64 .bf16) (kc : Vec Ideal S1x1x256x32 .bf16) (r : Fin 256) (d : Fin 64) :
    k0_pay8 q m a vc kc (ix2 r d)
      = k0_pay5 q m kc (ix2 r 0) * a (ix2 r d) + ∑ c : Fin 256, k0_pay6 q m kc (ix2 r c) * vc (ix4 0 0 c d) := by
  pointwise [k0_pay8, k0_pay2]

/-! The second map's chunk is the first's, at its own arguments. -/

theorem same9 : k0_pay9 (F := Ideal) = k0_pay3 := rfl
theorem same10 : k0_pay10 (F := Ideal) = k0_pay4 := rfl
theorem same11 : k0_pay11 (F := Ideal) = k0_pay5 := rfl
theorem same12 : k0_pay12 (F := Ideal) = k0_pay6 := rfl
theorem same13 : k0_pay13 (F := Ideal) = k0_pay7 := rfl

theorem same19 (q : FVec Ideal S256x32 .bf16) (m : FVec Ideal S256x1 .f32) (a : FVec Ideal S256x64 .f32)
    (vc : Vec Ideal S1x1x256x64 .bf16) (kc : Vec Ideal S1x1x256x32 .bf16) :
    k0_pay19 a (k0_pay2 vc) (k0_pay5 q m kc) (k0_pay6 q m kc) = k0_pay8 q m a vc kc := rfl

/-- A query block without its unit axes. -/
theorem query (q : Vec Ideal S1x1x256x32 .bf16) (r : Fin 256) (x : Fin 32) : k0_pay14 q (ix2 r x) = q (ix4 0 0 r x) := by
  pointwise [k0_pay14]

theorem same15 : k0_pay15 (F := Ideal) = k0_pay14 := rfl

/-- What the loop starts from: the mask value, and zeros. -/
theorem start_top (r : Fin 256) : k0_pay16 (F := Ideal) (ix2 r 0) = Ideal.ofBits .f32 0xF149F2CA#32 := by
  pointwise [k0_pay16]

theorem start_total (r : Fin 256) : k0_pay17 (F := Ideal) (ix2 r 0) = 0 := by
  pointwise [k0_pay17]

theorem start_acc (r : Fin 256) (d : Fin 64) : k0_pay18 (F := Ideal) (ix2 r d) = 0 := by
  pointwise [k0_pay18]

/-- The mask value is a real number. -/
theorem mask_real : ∃ M : ℝ, Ideal.ofBits .f32 0xF149F2CA#32 = (M : EReal) := by
  unfold Ideal.ofBits Ideal.ieee
  dsimp only
  rw [if_neg (by decide), if_neg (by decide)]
  exact ⟨_, rfl⟩

/-- The first map's quotient. -/
theorem quot (l : FVec Ideal S256x1 .f32) (a : FVec Ideal S256x64 .f32) (r : Fin 256) (d : Fin 64) :
    k0_pay20 l a (ix2 r d) = Ideal.div (a (ix2 r d)) (l (ix2 r 0)) := by
  pointwise [k0_pay20]

/-- The second map's quotient, times its weight. -/
theorem quot2 (p : Vec Ideal S4x32 .f32) (l : FVec Ideal S256x1 .f32) (a : FVec Ideal S256x64 .f32) (r : Fin 256) (d : Fin 64) :
    k0_pay21 p l a (ix2 r d) = AttnSpec.lam (fun i j => p (ix2 i j)) * Ideal.div (a (ix2 r d)) (l (ix2 r 0)) := by
  unfold AttnSpec.lam
  pointwise [k0_pay21]
  simp only [Fin.sum_univ_one, Finset.univ_unique, Finset.sum_const, Finset.card_singleton, one_smul]

/-- The difference of the maps, normalised and scaled. -/
theorem final (u w : FVec Ideal S256x64 .f32) (g : Vec Ideal S1x64 .f32) (r : Fin 256) (d : Fin 64) :
    k0_pay1 u w g (ix4 0 0 r d)
      = AttnSpec.finish (fun e => u (ix2 r e) - w (ix2 r e)) (fun e => g (ix2 0 e)) d := by
  unfold AttnSpec.finish
  pointwise [k0_pay1]

end Cert.AttnIdeal.Chunk

end
-- ==== Proof.AttnLoop.lean ====
/- The differential attention's loop over the chunks of keys: after each trip every row of the carried state holds the
   one-pass softmax of the keys seen so far, for both maps; and the block a grid point leaves, from the final state. -/
module

public import proofs.«01_k».proof.Proof.AttnChunk
public import proofs.«01_k».proof.Proof.Online
public import proofs.«01_k».proof.Proof.Gen.AttnIdeal.Value

@[expose] public section

noncomputable section

namespace Cert.AttnIdeal.Chunk

open Idealize.ShloMosaic Idealize.ShloMosaic.TcCoe Cert.AttnIdeal Cert.AttnIdeal.Gen Idealize.ShloMosaic.Pipeline

variable (m : (ℓ : Loc nD τ sig) → Buf (Elt Ideal) ℓ)

/-- What the loop carries: for each map a running maximum, a running sum and a running weighted sum. -/
abbrev State := FVec Ideal S256x1 .f32 × FVec Ideal S256x1 .f32 × FVec Ideal S256x64 .f32
  × FVec Ideal S256x1 .f32 × FVec Ideal S256x1 .f32 × FVec Ideal S256x64 .f32

/-- Trip `k`'s chunk of a map's keys. -/
def keys (K : Vec Ideal S1x1x8448x32 .bf16) (k : Fin k0_t1_loop.trips) : Vec Ideal S1x1x256x32 .bf16 :=
  View.ld K (Rect.unit (s := S1x1x8448x32) (k0_off2 k) S1x1x256x32.size (k0_off2_inb k))

/-- Trip `k`'s chunk of the values. -/
def vals (V : Vec Ideal S1x1x8448x64 .bf16) (k : Fin k0_t1_loop.trips) : Vec Ideal S1x1x256x64 .bf16 :=
  View.ld V (Rect.unit (s := S1x1x8448x64) (k0_off1 k) S1x1x256x64.size (k0_off1_inb k))

/-- One trip, as a function of the state. -/
def step (q1 q2 : Vec Ideal S1x1x256x32 .bf16) (K1 K2 : Vec Ideal S1x1x8448x32 .bf16) (V : Vec Ideal S1x1x8448x64 .bf16)
    (k : Fin k0_t1_loop.trips) (s : State) : State :=
  (k0_pay4 (k0_pay14 q1) s.1 (keys K1 k),
   k0_pay7 (k0_pay14 q1) s.1 s.2.1 (keys K1 k),
   k0_pay8 (k0_pay14 q1) s.1 s.2.2.1 (vals V k) (keys K1 k),
   k0_pay4 (k0_pay14 q2) s.2.2.2.1 (keys K2 k),
   k0_pay7 (k0_pay14 q2) s.2.2.2.1 s.2.2.2.2.1 (keys K2 k),
   k0_pay8 (k0_pay14 q2) s.2.2.2.1 s.2.2.2.2.2 (vals V k) (keys K2 k))

/-- What the run of a trip yields is `step`. -/
theorem trip_eq (𝒱 : Variants) (c : Dev nD) (bd : Option 𝒱.V) (i : grid0.Coords) (arg3 : Memref sig .tc .vmem S4x32 .f32) (harg3 : arg3.IsWhole) (arg4 : Memref sig .tc .vmem S1x64 .f32) (harg4 : arg4.IsWhole) (arg5 : Memref sig .tc .vmem S1x1x256x32 .bf16) (harg5 : arg5.IsWhole) (arg6 : Memref sig .tc .vmem S1x1x256x32 .bf16) (harg6 : arg6.IsWhole) (arg7 : Memref sig .tc .vmem S1x1x8448x32 .bf16) (harg7 : arg7.IsWhole) (arg8 : Memref sig .tc .vmem S1x1x8448x32 .bf16) (harg8 : arg8.IsWhole) (arg9 : Memref sig .tc .vmem S1x1x8448x64 .bf16) (harg9 : arg9.IsWhole) (arg10 : Memref sig .tc .vmem S1x1x256x64 .f32) (harg10 : arg10.IsWhole)
    (q1 q2 : Vec Ideal S1x1x256x32 .bf16) (K1 K2 : Vec Ideal S1x1x8448x32 .bf16) (V : Vec Ideal S1x1x8448x64 .bf16)
    (k : Fin k0_t1_loop.trips) (s : State) :
    tripR_k0_t1 (F := Ideal) 𝒱 c bd i arg3 harg3 arg4 harg4 arg5 harg5 arg6 harg6 arg7 harg7 arg8 harg8 arg9 harg9 arg10 harg10 q1 q2
      (harg7.unread K1) (harg8.unread K2) (harg9.unread V) k s = step q1 q2 K1 K2 V k s := by
  unfold tripR_k0_t1 trip_k0_t1
  dsimp only
  sl_unfold_words
  simp only [View.readAt_eq_ld, harg7.read_unread, harg8.read_unread, harg9.read_unread]
  rfl

/-- The state before trip `k`. -/
def state (q1 q2 : Vec Ideal S1x1x256x32 .bf16) (K1 K2 : Vec Ideal S1x1x8448x32 .bf16) (V : Vec Ideal S1x1x8448x64 .bf16) : ℕ → State
  | 0 => (k0_pay16, k0_pay17, k0_pay18, k0_pay16, k0_pay17, k0_pay18)
  | k + 1 => if h : k < k0_t1_loop.trips then step q1 q2 K1 K2 V ⟨k, h⟩ (state q1 q2 K1 K2 V k) else state q1 q2 K1 K2 V k

/-- The run's state before trip `k` is `state k`. -/
theorem st_eq (𝒱 : Variants) (c : Dev nD) (bd : Option 𝒱.V) (i : grid0.Coords) (arg3 : Memref sig .tc .vmem S4x32 .f32) (harg3 : arg3.IsWhole) (arg4 : Memref sig .tc .vmem S1x64 .f32) (harg4 : arg4.IsWhole) (arg5 : Memref sig .tc .vmem S1x1x256x32 .bf16) (harg5 : arg5.IsWhole) (arg6 : Memref sig .tc .vmem S1x1x256x32 .bf16) (harg6 : arg6.IsWhole) (arg7 : Memref sig .tc .vmem S1x1x8448x32 .bf16) (harg7 : arg7.IsWhole) (arg8 : Memref sig .tc .vmem S1x1x8448x32 .bf16) (harg8 : arg8.IsWhole) (arg9 : Memref sig .tc .vmem S1x1x8448x64 .bf16) (harg9 : arg9.IsWhole) (arg10 : Memref sig .tc .vmem S1x1x256x64 .f32) (harg10 : arg10.IsWhole)
    (q1 q2 : Vec Ideal S1x1x256x32 .bf16) (K1 K2 : Vec Ideal S1x1x8448x32 .bf16) (V : Vec Ideal S1x1x8448x64 .bf16)
    (k : ℕ) (hk : k ≤ k0_t1_loop.trips) :
    st_k0_t1 (F := Ideal) 𝒱 c bd i arg3 harg3 arg4 harg4 arg5 harg5 arg6 harg6 arg7 harg7 arg8 harg8 arg9 harg9 arg10 harg10 q1 q2
      (harg7.unread K1) (harg8.unread K2) (harg9.unread V) (k0_pay16, k0_pay17, k0_pay18, k0_pay16, k0_pay17, k0_pay18) k
      = state q1 q2 K1 K2 V k := by
  induction k with
  | zero => rw [st_k0_t1_zero]; rfl
  | succ k ih =>
    have h := st_k0_t1_succ (F := Ideal) 𝒱 c bd i arg3 harg3 arg4 harg4 arg5 harg5 arg6 harg6 arg7 harg7 arg8 harg8 arg9 harg9 arg10 harg10 q1 q2
      (harg7.unread K1) (harg8.unread K2) (harg9.unread V) (k0_pay16, k0_pay17, k0_pay18, k0_pay16, k0_pay17, k0_pay18) ⟨k, hk⟩
    rw [h, ih (Nat.le_of_succ_le hk), trip_eq]
    rw [state, dif_pos (show k < k0_t1_loop.trips from hk)]

/-- A chunk's key is the key of its place in the sequence. -/
theorem keys_apply (K : Vec Ideal S1x1x8448x32 .bf16) (k : Fin k0_t1_loop.trips) (c : Fin 256) (x : Fin 32)
    (h : 256 * k.val + c.val < 8448) : keys K k (ix4 0 0 c x) = K (ix4 0 0 ⟨256 * k.val + c.val, h⟩ x) := by
  unfold keys
  rw [View.ld_unit]
  unfold extractStridedSlice
  refine congrArg K (funext fun a => Fin.ext ?_)
  show k0_off2 k a + ((ix4 0 0 c x : S1x1x256x32.Idx) a).val = _
  rw [k0_off2_eq k]
  match a with
  | ⟨0, _⟩ => rfl
  | ⟨1, _⟩ => rfl
  | ⟨2, _⟩ => rfl
  | ⟨3, _⟩ => exact Nat.zero_add _

/-- A chunk's value is the value of its place in the sequence. -/
theorem vals_apply (V : Vec Ideal S1x1x8448x64 .bf16) (k : Fin k0_t1_loop.trips) (c : Fin 256) (d : Fin 64)
    (h : 256 * k.val + c.val < 8448) : vals V k (ix4 0 0 c d) = V (ix4 0 0 ⟨256 * k.val + c.val, h⟩ d) := by
  unfold vals
  rw [View.ld_unit]
  unfold extractStridedSlice
  refine congrArg V (funext fun a => Fin.ext ?_)
  show k0_off1 k a + ((ix4 0 0 c d : S1x1x256x64.Idx) a).val = _
  rw [k0_off1_eq k]
  match a with
  | ⟨0, _⟩ => rfl
  | ⟨1, _⟩ => rfl
  | ⟨2, _⟩ => rfl
  | ⟨3, _⟩ => exact Nat.zero_add _

/-- One map's row through one trip. -/
theorem row_step (q : Vec Ideal S1x1x256x32 .bf16) (K : Vec Ideal S1x1x8448x32 .bf16) (V : Vec Ideal S1x1x8448x64 .bf16)
    (r : Fin 256) (s : ℕ → ℝ) (w : Fin 64 → ℕ → ℝ)
    (hs : ∀ j : Fin 8448, ∑ x : Fin 32, q (ix4 0 0 r x) * K (ix4 0 0 j x) = (s j.val : EReal))
    (hw : ∀ (j : Fin 8448) (d : Fin 64), V (ix4 0 0 j d) = (w d j.val : EReal))
    (k : Fin k0_t1_loop.trips) (mx l : FVec Ideal S256x1 .f32) (a : FVec Ideal S256x64 .f32)
    (h : Online.Row 256 s w k.val (mx (ix2 r 0)) (l (ix2 r 0)) (fun d => a (ix2 r d))) :
    Online.Row 256 s w (k.val + 1) (k0_pay4 (k0_pay14 q) mx (keys K k) (ix2 r 0))
      (k0_pay7 (k0_pay14 q) mx l (keys K k) (ix2 r 0)) (fun d => k0_pay8 (k0_pay14 q) mx a (vals V k) (keys K k) (ix2 r d)) := by
  have hk : k.val < 33 := Nat.lt_of_lt_of_le k.isLt k0_t1_abs.2.1
  have hlt : ∀ c : Fin 256, 256 * k.val + c.val < 8448 := fun c => by have := c.isLt; omega
  refine h.succ (fun c => k0_pay3 (k0_pay14 q) (keys K k) (ix2 r c)) (fun c d => vals V k (ix4 0 0 c d)) ?_ ?_ _ _ _ ?_ ?_ ?_
  · intro c
    show k0_pay3 (k0_pay14 q) (keys K k) (ix2 r c) = _
    rw [score, ← hs ⟨256 * k.val + c.val, hlt c⟩]
    exact Finset.sum_congr rfl fun x _ => by rw [query, keys_apply K k c x (hlt c)]
  · intro c d
    show vals V k (ix4 0 0 c d) = _
    rw [vals_apply V k c d (hlt c), hw]
  · exact top _ _ _ _
  · rw [total, shift]
    exact congrArg _ (Finset.sum_congr rfl fun c _ => weight _ _ _ _ _)
  · intro d
    show k0_pay8 (k0_pay14 q) mx a (vals V k) (keys K k) (ix2 r d) = _
    rw [acc, shift]
    exact congrArg _ (Finset.sum_congr rfl fun c _ => by rw [weight])

/-- Both maps' rows before every trip. -/
theorem rows (q1 q2 : Vec Ideal S1x1x256x32 .bf16) (K1 K2 : Vec Ideal S1x1x8448x32 .bf16) (V : Vec Ideal S1x1x8448x64 .bf16)
    (r : Fin 256) (s1 s2 : ℕ → ℝ) (w : Fin 64 → ℕ → ℝ)
    (hs1 : ∀ j : Fin 8448, ∑ x : Fin 32, q1 (ix4 0 0 r x) * K1 (ix4 0 0 j x) = (s1 j.val : EReal))
    (hs2 : ∀ j : Fin 8448, ∑ x : Fin 32, q2 (ix4 0 0 r x) * K2 (ix4 0 0 j x) = (s2 j.val : EReal))
    (hw : ∀ (j : Fin 8448) (d : Fin 64), V (ix4 0 0 j d) = (w d j.val : EReal)) (k : ℕ) (hk : k ≤ k0_t1_loop.trips) :
    Online.Row 256 s1 w k ((state q1 q2 K1 K2 V k).1 (ix2 r 0)) ((state q1 q2 K1 K2 V k).2.1 (ix2 r 0))
        (fun d => (state q1 q2 K1 K2 V k).2.2.1 (ix2 r d))
      ∧ Online.Row 256 s2 w k ((state q1 q2 K1 K2 V k).2.2.2.1 (ix2 r 0)) ((state q1 q2 K1 K2 V k).2.2.2.2.1 (ix2 r 0))
        (fun d => (state q1 q2 K1 K2 V k).2.2.2.2.2 (ix2 r d)) := by
  induction k with
  | zero =>
    obtain ⟨M, hM⟩ := mask_real
    have h0 : ∀ s : ℕ → ℝ, Online.Row 256 s w 0 (k0_pay16 (F := Ideal) (ix2 r 0)) (k0_pay17 (F := Ideal) (ix2 r 0))
        (fun d => k0_pay18 (F := Ideal) (ix2 r d)) := fun s => by
      rw [start_top, start_total, hM, show (fun d => k0_pay18 (F := Ideal) (ix2 r d)) = fun _ => (0 : EReal) from
        funext fun d => start_acc r d]
      exact Online.Row.zero 256 s w M
    exact ⟨h0 s1, h0 s2⟩
  | succ k ih =>
    have hk' : k < k0_t1_loop.trips := hk
    obtain ⟨h1, h2⟩ := ih hk'.le
    rw [state, dif_pos hk']
    exact ⟨row_step q1 K1 V r s1 w hs1 hw ⟨k, hk'⟩ _ _ _ h1, row_step q2 K2 V r s2 w hs2 hw ⟨k, hk'⟩ _ _ _ h2⟩

theorem trips_eq : k0_t1_loop.trips = 33 := by decide +kernel

/-- The block point `t` leaves, from the state after the last trip. -/
theorem outs_eq (c : Dev nD) (t : Fin cfg0.N) : outsAt0 m c t =
    k0_pay1
      (k0_pay20 (state (iblk m c 2 t) (iblk m c 3 t) (iblk m c 4 t) (iblk m c 5 t) (iblk m c 6 t) 33).2.1
        (state (iblk m c 2 t) (iblk m c 3 t) (iblk m c 4 t) (iblk m c 5 t) (iblk m c 6 t) 33).2.2.1)
      (k0_pay21 (iblk m c 0 t) (state (iblk m c 2 t) (iblk m c 3 t) (iblk m c 4 t) (iblk m c 5 t) (iblk m c 6 t) 33).2.2.2.2.1
        (state (iblk m c 2 t) (iblk m c 3 t) (iblk m c 4 t) (iblk m c 5 t) (iblk m c 6 t) 33).2.2.2.2.2)
      (iblk m c 1 t) := by
  unfold outsAt0 out0_A_7
  rw [View.read_writes_eq_canon _ _ _ (cover0_A_7 c _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [show Scf.trips (0#32) (Scalar.addi 0#32 33#32) 1#32 = 33 from trips_eq]
  have z4 : (![0, 0, 0, 0] : Fin 4 → ℕ) = fun _ => 0 := by decide
  have z2 : (![0, 0] : Fin 2 → ℕ) = fun _ => 0 := by decide
  refine (View.canon_unit_zero z4 _ _).trans ?_
  have e2 := View.ld_unit_zero z4 inb_S1x1x256x32_S1x1x256x32_0_0_0_0 (iblk m c 2 t)
  have e3 := View.ld_unit_zero z4 inb_S1x1x256x32_S1x1x256x32_0_0_0_0 (iblk m c 3 t)
  have e0 := View.ld_unit_zero z2 inb_S4x32_S4x32_0_0 (iblk m c 0 t)
  have e1 := View.ld_unit_zero z2 inb_S1x64_S1x64_0_0 (iblk m c 1 t)
  erw [e0, e1, e2, e3]
  rw [st_eq _ _ _ _ _ _ _ _ _ _ _ _ _ _ _ _ _ _ _ _ _ _ _ _ _ 33 trips_eq.ge]

end Cert.AttnIdeal.Chunk

end
-- ==== Proof.AttnArray.lean ====
/- The differential attention's result array: every grid point's block holds the attention's values at its place, and
   the blocks cover the array. -/
module

public import proofs.«01_k».proof.Proof.AttnLoop
public import Idealize.ShloMosaic.Lib.Pipeline.ValueKit.Point

@[expose] public section

noncomputable section

namespace Cert.AttnIdeal.Array

open Idealize.ShloMosaic Idealize.ShloMosaic.TcCoe Cert.AttnIdeal Cert.AttnIdeal.Gen Cert.AttnIdeal.Chunk
open Idealize.ShloMosaic.Pipeline Idealize.SL.Sem

variable (m : (ℓ : Loc nD τ sig) → Buf (Elt Ideal) ℓ)

/-- Where the blocks of grid point `t` lie. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 128, t.val / 32 % 4, t.val % 32, 0] :=
  (by decide +kernel : ∀ t : Fin grid0.N, _)
theorem idx3 : ∀ t : Fin cfg0.N, win0_3.index t = ![t.val / 128, t.val / 32 % 4, t.val % 32, 0] :=
  (by decide +kernel : ∀ t : Fin grid0.N, _)
theorem idx4 : ∀ t : Fin cfg0.N, win0_4.index t = ![t.val / 128, t.val / 32 % 4, 0, 0] :=
  (by decide +kernel : ∀ t : Fin grid0.N, _)
theorem idx5 : ∀ t : Fin cfg0.N, win0_5.index t = ![t.val / 128, t.val / 32 % 4, 0, 0] :=
  (by decide +kernel : ∀ t : Fin grid0.N, _)
theorem idx6 : ∀ t : Fin cfg0.N, win0_6.index t = ![t.val / 128, t.val / 32 % 4, 0, 0] :=
  (by decide +kernel : ∀ t : Fin grid0.N, _)
theorem idx7 : ∀ t : Fin cfg0.N, win0_7.index t = ![t.val / 128, t.val / 32 % 4, t.val % 32, 0] :=
  (by decide +kernel : ∀ t : Fin grid0.N, _)

theorem point_lt (t : Fin cfg0.N) : t.val < 512 := t.isLt

/-- The batch, the head and the first query of a grid point. -/
abbrev bat (t : Fin cfg0.N) : Fin 4 := ⟨t.val / 128, by have := point_lt t; omega⟩
abbrev hd (t : Fin cfg0.N) : Fin 4 := ⟨t.val / 32 % 4, by omega⟩
abbrev row (t : Fin cfg0.N) (r : Fin 256) : Fin 8192 := ⟨t.val % 32 * 256 + r.val, by have := r.isLt; omega⟩

theorem blk2 (c : Dev nD) (t : Fin cfg0.N) (r : Fin 256) (x : Fin 32) :
    iblk m c 2 t (ix4 0 0 r x) = m ((c : Thread nD τ).loc main_arg0) (ix4 (bat t) (hd t) (row t r) x) := by
  blk_ext! [iblk, V_main_arg0, idx2]
theorem blk3 (c : Dev nD) (t : Fin cfg0.N) (r : Fin 256) (x : Fin 32) :
    iblk m c 3 t (ix4 0 0 r x) = m ((c : Thread nD τ).loc main_arg1) (ix4 (bat t) (hd t) (row t r) x) := by
  blk_ext! [iblk, V_main_arg1, idx3]
theorem blk4 (c : Dev nD) (t : Fin cfg0.N) (j : Fin 8448) (x : Fin 32) :
    iblk m c 4 t (ix4 0 0 j x) = m ((c : Thread nD τ).loc main_arg2) (ix4 (bat t) (hd t) j x) := by
  blk_ext! [iblk, V_main_arg2, idx4]
theorem blk5 (c : Dev nD) (t : Fin cfg0.N) (j : Fin 8448) (x : Fin 32) :
    iblk m c 5 t (ix4 0 0 j x) = m ((c : Thread nD τ).loc main_arg3) (ix4 (bat t) (hd t) j x) := by
  blk_ext! [iblk, V_main_arg3, idx5]
theorem blk6 (c : Dev nD) (t : Fin cfg0.N) (j : Fin 8448) (d : Fin 64) :
    iblk m c 6 t (ix4 0 0 j d) = m ((c : Thread nD τ).loc main_arg4) (ix4 (bat t) (hd t) j d) := by
  blk_ext! [iblk, V_main_arg4, idx6]
theorem blk0 (c : Dev nD) (t : Fin cfg0.N) (i : Fin 4) (j : Fin 32) :
    iblk m c 0 t (ix2 i j) = m ((c : Thread nD τ).loc main_arg5) (ix2 i j) := by
  blk_ext! [iblk, V_main_arg5, idx0]
theorem blk1 (c : Dev nD) (t : Fin cfg0.N) (d : Fin 64) :
    iblk m c 1 t (ix2 0 d) = m ((c : Thread nD τ).loc main_arg6) (ix1 d) := by
  blk_ext! [iblk, V, idx1]

/-- The attention's values, of a core's arguments. -/
def spec (c : Dev nD) : Buf (Elt Ideal) ((c : Thread nD τ).loc main_v1) :=
  AttnSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- A sequence of keys, continued by zero. -/
def ext (s : Fin 8448 → ℝ) (j : ℕ) : ℝ := if h : j < 8448 then s ⟨j, h⟩ else 0

theorem ext_val (s : Fin 8448 → ℝ) (j : Fin 8448) : ext s j.val = s j := dif_pos j.isLt

/-- Row `r` of the block that point `t` leaves. -/
theorem block (c : Dev nD) (t : Fin cfg0.N)
    (h0 : AttnSpec.Reals (m ((c : Thread nD τ).loc main_arg0))) (h1 : AttnSpec.Reals (m ((c : Thread nD τ).loc main_arg1)))
    (h2 : AttnSpec.Reals (m ((c : Thread nD τ).loc main_arg2))) (h3 : AttnSpec.Reals (m ((c : Thread nD τ).loc main_arg3)))
    (h4 : AttnSpec.Reals (m ((c : Thread nD τ).loc main_arg4))) (r : Fin 256) (d : Fin 64) :
    outsAt0 m c t (ix4 0 0 r d) = AttnSpec.value (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (bat t) (hd t) (row t r) d := by
  obtain ⟨r1, r2⟩ := rows (iblk m c 2 t) (iblk m c 3 t) (iblk m c 4 t) (iblk m c 5 t) (iblk m c 6 t) r
    (ext (AttnSpec.score (m ((c : Thread nD τ).loc main_arg0)) (m ((c : Thread nD τ).loc main_arg2)) (bat t) (hd t) (row t r)))
    (ext (AttnSpec.score (m ((c : Thread nD τ).loc main_arg1)) (m ((c : Thread nD τ).loc main_arg3)) (bat t) (hd t) (row t r)))
    (fun d => ext fun j => (m ((c : Thread nD τ).loc main_arg4) (ix4 (bat t) (hd t) j d) : EReal).toReal)
    (fun j => by
      rw [ext_val, ← AttnSpec.score_eq h0 h2]
      exact Finset.sum_congr rfl fun x _ => by rw [blk2, blk4])
    (fun j => by
      rw [ext_val, ← AttnSpec.score_eq h1 h3]
      exact Finset.sum_congr rfl fun x _ => by rw [blk3, blk5])
    (fun j d => by rw [ext_val, blk6]; exact h4 _) 33 trips_eq.ge
  have e1 := fun e => r1.quotient (J := 33) (T := 256) (N := 8448) rfl (by decide) e
  have e2 := fun e => r2.quotient (J := 33) (T := 256) (N := 8448) rfl (by decide) e
  simp only [ext_val] at e1 e2
  have hp : (fun i j => iblk m c 0 t (ix2 i j)) = fun i j => m ((c : Thread nD τ).loc main_arg5) (ix2 i j) :=
    funext fun i => funext fun j => blk0 m c t i j
  rw [outs_eq]
  refine (final _ _ _ r d).trans ?_
  unfold AttnSpec.value
  refine congrArg₂ (fun y g => AttnSpec.finish y g d) (funext fun e => ?_) (funext fun e => blk1 m c t e)
  refine congrArg₂ (fun a b : EReal => a - b) ((quot _ _ r e).trans (e1 e)) ((quot2 _ _ _ r e).trans ?_)
  exact congrArg₂ (fun a b : EReal => a * b) (congrArg AttnSpec.lam hp) (e2 e)

/-- … at any index of the block. -/
theorem block_at (c : Dev nD) (t : Fin cfg0.N)
    (h0 : AttnSpec.Reals (m ((c : Thread nD τ).loc main_arg0))) (h1 : AttnSpec.Reals (m ((c : Thread nD τ).loc main_arg1)))
    (h2 : AttnSpec.Reals (m ((c : Thread nD τ).loc main_arg2))) (h3 : AttnSpec.Reals (m ((c : Thread nD τ).loc main_arg3)))
    (h4 : AttnSpec.Reals (m ((c : Thread nD τ).loc main_arg4))) (y : S1x1x256x64.Idx) :
    outsAt0 m c t y = spec m c (ix4 (bat t) (hd t) (row t (y 2)) (y 3)) := by
  have hy : y = ix4 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  exact (congrArg (outsAt0 m c t) hy).trans (block m c t h0 h1 h2 h3 h4 (y 2) (y 3))

/-- Where an index of the block lies in the array. -/
theorem place (t : Fin cfg0.N) (y : S1x1x256x64.Idx) :
    (win0_7.blk t).view.emb y = ix4 (bat t) (hd t) (row t (y 2)) (y 3) := by
  have e0 : (y 0).val < 1 := (y 0).isLt
  have e1 : (y 1).val < 1 := (y 1).isLt
  blk_ext [idx7]

/-- The blocks cover the array. -/
theorem covers : (cfg0.win 7).Covers := by decide +kernel

/-- The result array. -/
theorem array (c : Dev nD)
    (h0 : AttnSpec.Reals (m ((c : Thread nD τ).loc main_arg0))) (h1 : AttnSpec.Reals (m ((c : Thread nD τ).loc main_arg1)))
    (h2 : AttnSpec.Reals (m ((c : Thread nD τ).loc main_arg2))) (h3 : AttnSpec.Reals (m ((c : Thread nD τ).loc main_arg3)))
    (h4 : AttnSpec.Reals (m ((c : Thread nD τ).loc main_arg4))) : (dats m 0 c).arrAt 7 cfg0.N = spec m c := by
  refine (dats m 0 c).arrAt_eq_of_covers 7 _ covers fun t hf y => ?_
  blk_simp
  rw [after0_7]
  exact (block_at m c t h0 h1 h2 h3 h4 y).trans (congrArg (spec m c) (place t y).symm)

end Cert.AttnIdeal.Array

end
-- ==== Proof.AttnRefMax.lean ====
/- The reference's scores, and the row maximum that its softmax subtracts: with real queries and keys a real number. -/
module

public import proofs.«01_k».proof.Proof.AttnSpec
public import proofs.«01_k».proof.Proof.Gen.AttnRefIdeal.Read
public import Idealize.ShloMosaic.Lib.Pointwise

@[expose] public section

noncomputable section

namespace Cert.AttnRefIdeal.At

open Idealize.ShloMosaic Idealize.ShloMosaic.TcCoe Cert.AttnRefIdeal Cert.AttnRefIdeal.Gen Cert.AttnRefIdeal.Read

variable (x0 x1 : (⟨S4x4x8192x32, .bf16⟩ : BufTy).Contents (Elt Ideal)) (x2 x3 : (⟨S4x4x8448x32, .bf16⟩ : BufTy).Contents (Elt Ideal))
  (x4 : (⟨S4x4x8448x64, .bf16⟩ : BufTy).Contents (Elt Ideal)) (x5 : (⟨S4x32, .f32⟩ : BufTy).Contents (Elt Ideal))
  (x6 : (⟨S64, .f32⟩ : BufTy).Contents (Elt Ideal))

/-- The word of the reductions' start is minus infinity. -/
theorem bot_word : Ideal.ofBits .f32 0xFF800000#32 = ⊥ := by simp [Ideal.ofBits, Ideal.ieee]

/-- A query's score against a key. -/
theorem scores (b h : Fin 4) (r : Fin 8192) (j : Fin 8448) :
    val_main_v21 x0 x2 (ix4 b h r j) = ∑ x : Fin 32, x0 (ix4 b h r x) * x2 (ix4 b h j x) := by
  pointwise [val_main_v21, val_main_v16, val_main_v18]

/-- The maximum of real numbers along an axis that has some is real. -/
theorem max_real {s t u : Shape} {a : Fin s.rank} (h' : s.ReducesTo [a] t) (h : s.Reduces [a] t) (hu : 0 < u.numel) (hp : 0 < s.size a)
    (f : s.Idx → ℝ) (init : u.Idx → EReal) (hi : init (Shape.Idx.first hu) = ⊥) (j : t.Idx) :
    ∃ M : ℝ, Host.reduce (FloatOps.maximumf (F := Ideal) (φ := .f32)) (fun i => ((f i : ℝ) : EReal)) init h' hu j = (M : EReal) := by
  rw [Host.reduce_eq_fold_single (FloatOps.maximumf (F := Ideal) (φ := .f32)) _ _ h' h hu j, hi]
  rcases Online.fold_max_coe (Finset.univ : Finset (Fin (s.size a))) (fun k => f (h.lift j k)) with ⟨-, e⟩ | ⟨M, e⟩
  · exact absurd (Finset.mem_univ (⟨0, hp⟩ : Fin (s.size a))) (by rw [e]; exact Finset.notMem_empty _)
  · exact ⟨M, e⟩

/-- With real queries and keys, the subtracted maximum is a real number. -/
theorem top (h0 : AttnSpec.Reals x0) (h2 : AttnSpec.Reals x2) (b h : Fin 4) (r : Fin 8192) :
    ∃ M : ℝ, val_main_v25 x0 x2 (ix3 b h r) = (M : EReal) := by
  have hy : val_main_v21 x0 x2 = fun i => ((AttnSpec.score x0 x2 (i 0) (i 1) (i 2) (i 3) : ℝ) : EReal) := funext fun i => by
    obtain ⟨b, h, r, j, rfl⟩ : ∃ b h r j, i = ix4 b h r j := ⟨i 0, i 1, i 2, i 3, by
      funext a
      match a with
      | ⟨0, _⟩ => rfl
      | ⟨1, _⟩ => rfl
      | ⟨2, _⟩ => rfl
      | ⟨3, _⟩ => rfl⟩
    rw [scores]
    exact AttnSpec.score_eq h0 h2 b h r j
  obtain ⟨M, hM⟩ : ∃ M : ℝ, val_main_v23 x0 x2 (ix3 b h r) = (M : EReal) := by
    unfold val_main_v23
    rw [hy]
    exact max_real _ (by decide) _ (by decide) _ _ bot_word _
  refine ⟨M, ?_⟩
  rw [val_main_v25_apply, hM]
  show max (Ideal.ofBits .f32 0xFF800000#32) (M : EReal) = M
  rw [bot_word]
  exact max_eq_right bot_le

end Cert.AttnRefIdeal.At

end
-- ==== Proof.AttnRef.lean ====
/- The reference's differential attention, read at a place of the result: two-pass softmaxes of the scores, their
   weighted difference, the values' weighted sum, normalised and scaled. -/
module

public import proofs.«01_k».proof.Proof.AttnRefMax
public import Idealize.ShloMosaic.Lib.Pointwise

@[expose] public section

noncomputable section

namespace Cert.AttnRefIdeal.At

open Idealize.ShloMosaic Idealize.ShloMosaic.TcCoe Cert.AttnRefIdeal Cert.AttnRefIdeal.Gen Cert.AttnRefIdeal.Read

variable (x0 x1 : (⟨S4x4x8192x32, .bf16⟩ : BufTy).Contents (Elt Ideal)) (x2 x3 : (⟨S4x4x8448x32, .bf16⟩ : BufTy).Contents (Elt Ideal))
  (x4 : (⟨S4x4x8448x64, .bf16⟩ : BufTy).Contents (Elt Ideal)) (x5 : (⟨S4x32, .f32⟩ : BufTy).Contents (Elt Ideal))
  (x6 : (⟨S64, .f32⟩ : BufTy).Contents (Elt Ideal))

/-- The second map's scores, sums and weights are the first's, at its own arguments. -/
theorem same22 : val_main_v22 x1 x3 = val_main_v21 x1 x3 := rfl
theorem same44 : val_main_v44 x1 x3 = val_main_v33 x1 x3 := rfl

theorem expo (b h : Fin 4) (r : Fin 8192) (j : Fin 8448) :
    val_main_v29 x0 x2 (ix4 b h r j) = Ideal.exp (val_main_v21 x0 x2 (ix4 b h r j) - val_main_v25 x0 x2 (ix3 b h r)) := by
  pointwise [val_main_v29, val_main_v28, val_main_v27, val_main_v26]

theorem weight (b h : Fin 4) (r : Fin 8192) (j : Fin 8448) :
    val_main_v33 x0 x2 (ix4 b h r j) = Ideal.div (val_main_v29 x0 x2 (ix4 b h r j)) (∑ j : Fin 8448, val_main_v29 x0 x2 (ix4 b h r j)) := by
  pointwise [val_main_v33, val_main_v32, val_main_v31, val_main_v30, val_main_cst_4]

theorem second (b h : Fin 4) (r : Fin 8192) (j : Fin 8448) :
    val_main_v46 x1 x3 x5 (ix4 b h r j) = AttnSpec.lam (fun a b => x5 (ix2 a b)) * val_main_v44 x1 x3 (ix4 b h r j) := by
  unfold AttnSpec.lam
  pointwise [val_main_v46, val_main_v45, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The first softmax's weight is the score's exponential over the sum of the row's. -/
theorem soft (h0 : AttnSpec.Reals x0) (h2 : AttnSpec.Reals x2) (b h : Fin 4) (r : Fin 8192) (j : Fin 8448) :
    val_main_v33 x0 x2 (ix4 b h r j)
      = ((Real.exp (AttnSpec.score x0 x2 b h r j) / ∑ c, Real.exp (AttnSpec.score x0 x2 b h r c) : ℝ) : EReal) := by
  obtain ⟨M, hM⟩ := top x0 x2 h0 h2 b h r
  rw [weight]
  simp only [expo, scores, AttnSpec.score_eq h0 h2, hM]
  exact Online.weight _ M j

/-- The weighted sum of the values. -/
theorem heads (b h : Fin 4) (r : Fin 8192) (d : Fin 64) :
    val_main_v48 x0 x1 x2 x3 x4 x5 (ix4 b h r d)
      = ∑ j : Fin 8448, (val_main_v33 x0 x2 (ix4 b h r j) - val_main_v46 x1 x3 x5 (ix4 b h r j)) * x4 (ix4 b h j d) := by
  pointwise [val_main_v48, val_main_v47, val_main_v20]

/-- … of real arguments. -/
theorem heads_eq (h0 : AttnSpec.Reals x0) (h1 : AttnSpec.Reals x1) (h2 : AttnSpec.Reals x2) (h3 : AttnSpec.Reals x3)
    (h4 : AttnSpec.Reals x4) (l : ℝ) (hl : AttnSpec.lam (fun a b => x5 (ix2 a b)) = (l : EReal))
    (b h : Fin 4) (r : Fin 8192) (d : Fin 64) :
    val_main_v48 x0 x1 x2 x3 x4 x5 (ix4 b h r d)
      = (AttnSpec.head x0 x2 x4 b h r d : EReal) - AttnSpec.lam (fun a b => x5 (ix2 a b)) * (AttnSpec.head x1 x3 x4 b h r d : EReal) := by
  rw [heads, hl]
  unfold AttnSpec.head
  rw [← Online.difference]
  refine Finset.sum_congr rfl fun j _ => ?_
  rw [second, same44, soft x0 x2 h0 h2, soft x1 x3 h1 h3, hl, ← h4]

/-- Normalised and scaled. -/
theorem normed (b h : Fin 4) (r : Fin 8192) (d : Fin 64) :
    val_main_v63 x0 x1 x2 x3 x4 x5 x6 (ix4 b h r d)
      = AttnSpec.finish (fun e => val_main_v48 x0 x1 x2 x3 x4 x5 (ix4 b h r e)) (fun e => x6 (ix1 e)) d := by
  unfold AttnSpec.finish
  pointwise [val_main_v63, val_main_v62, val_main_cst_11, val_main_v61, val_main_v60, val_main_v59, val_main_v58, val_main_v57,
    val_main_v56, val_main_v55, val_main_v54, val_main_cst_10, val_main_v53, val_main_v52, val_main_cst_9, val_main_v51, val_main_v50,
    val_main_cst_8, val_main_v49]

/-- The reference's result is the attention of its arguments. -/
theorem result (h0 : AttnSpec.Reals x0) (h1 : AttnSpec.Reals x1) (h2 : AttnSpec.Reals x2) (h3 : AttnSpec.Reals x3)
    (h4 : AttnSpec.Reals x4) (l : ℝ) (hl : AttnSpec.lam (fun a b => x5 (ix2 a b)) = (l : EReal)) :
    val_main_v63 x0 x1 x2 x3 x4 x5 x6 = AttnSpec.out x0 x1 x2 x3 x4 x5 x6 := by
  funext i
  obtain ⟨b, h, r, d, rfl⟩ : ∃ b h r d, i = ix4 b h r d := ⟨i 0, i 1, i 2, i 3, by
    funext a
    match a with
    | ⟨0, _⟩ => rfl
    | ⟨1, _⟩ => rfl
    | ⟨2, _⟩ => rfl
    | ⟨3, _⟩ => rfl⟩
  rw [normed]
  show _ = AttnSpec.value x0 x1 x2 x3 x4 x5 x6 b h r d
  unfold AttnSpec.value
  exact congrArg (AttnSpec.finish · _ d) (funext fun e => heads_eq x0 x1 x2 x3 x4 x5 h0 h1 h2 h3 h4 l hl b h r e)

end Cert.AttnRefIdeal.At

end
-- ==== Proof.AttnPre.lean ====
/- What the precondition says in the extended reals: the arguments it looks at are real numbers, and with them the second
   map's weight. -/
module

public import proofs.«01_k».proof.Proof.AttnSpec
public import proofs.«01_k».proof.Defs
public import proofs.«01_k».proof.Proof.Gen.Pre_finite
public import Idealize.ShloMosaic.Lib.ReduceAll
public import Idealize.ShloMosaic.Lib.Affine

@[expose] public section

noncomputable section

namespace Cert.AttnPre

open Idealize.ShloMosaic Idealize.ShloMosaic.TcCoe Cert.Pre_finite

/-- A number whose absolute value lies below infinity is real. -/
theorem real_of_abs {x : EReal} (h : Ideal.cmp .olt (max x (-x)) (Ideal.ofBits .f32 0x7F800000#32) = 1#1) :
    x = (x.toReal : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  refine (EReal.coe_toReal (fun e => ?_) (fun e => ?_)).symm
  · rw [e] at hlt; simp at hlt
  · rw [e] at hlt; simp at hlt

/-- An array that passes the test has real elements. -/
theorem reals_of_all {s : Shape} {axes : List (Fin s.rank)} (x : s.Idx → EReal) (init : S_.Idx → BitVec 1) (hb : S_.BroadcastsInDim s ![])
    (hr : s.ReducesTo axes S_) (hu : 0 < S_.numel) (j : S_.Idx)
    (e : Host.reduce IntOp.andi (cmpf (F := Ideal) (φ := .f32) .olt (Host.absf (F := Ideal) (φ := .f32) x)
      (broadcastInDim s ![] hb (constant (F := Ideal) S_ .f32 0x7F800000#32))) init hr hu j = 1#1) : AttnSpec.Reals x := fun i => by
  haveI : Subsingleton S_.Idx := ⟨fun a b => funext fun k => k.elim0⟩
  exact real_of_abs (Host.reduce_andi_all _ init hr hu j e i)

/-- All the arguments that the precondition tests. -/
theorem reals {x0 x1 : S4x4x8192x32.Idx → EReal} {x2 x3 : S4x4x8448x32.Idx → EReal} {x4 : S4x4x8448x64.Idx → EReal}
    {x5 : S4x32.Idx → EReal} {x6 : S64.Idx → EReal}
    (h : Cert.Pre_finite.fn (F := Ideal) x0 x1 x2 x3 x4 x5 x6 = fun _ => 1#1) :
    AttnSpec.Reals x0 ∧ AttnSpec.Reals x1 ∧ AttnSpec.Reals x2 ∧ AttnSpec.Reals x3 ∧ AttnSpec.Reals x4 ∧ AttnSpec.Reals x5 := by
  have e := congrFun h (fun k => k.elim0)
  unfold Cert.Pre_finite.fn Cert.Pre_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  exact ⟨reals_of_all _ _ _ _ _ _ e0, reals_of_all _ _ _ _ _ _ e1, reals_of_all _ _ _ _ _ _ e2, reals_of_all _ _ _ _ _ _ e3,
    reals_of_all _ _ _ _ _ _ e4, reals_of_all _ _ _ _ _ _ e5⟩

/-- With real parameters the second map's weight is real. -/
theorem lam_real {p : S4x32.Idx → EReal} (hp : AttnSpec.Reals p) : ∃ l : ℝ, AttnSpec.lam (fun i j => p (ix2 i j)) = (l : EReal) := by
  have hs : ∀ i i' : Fin 4, ∑ j : Fin 32, p (ix2 i j) * p (ix2 i' j)
      = ((∑ j : Fin 32, (p (ix2 i j)).toReal * (p (ix2 i' j)).toReal : ℝ) : EReal) := fun i i' => by
    rw [← Online.coe_sum]
    exact Finset.sum_congr rfl fun x _ => by rw [EReal.coe_mul, ← hp, ← hp]
  have hc : ∃ r : ℝ, Ideal.ofBits .f32 0x3E4CCCCD#32 = (r : EReal) := by
    unfold Ideal.ofBits Ideal.ieee
    dsimp only
    rw [if_neg (by decide), if_neg (by decide)]
    exact ⟨_, rfl⟩
  obtain ⟨r, hr⟩ := hc
  unfold AttnSpec.lam
  rw [hs, hs, hr]
  exact ⟨Real.exp _ - Real.exp _ + r, by rw [EReal.coe_add, EReal.coe_sub]; rfl⟩

end Cert.AttnPre

end
-- ==== Proof.AttnValue.lean ====
/- The attention claim: on finite arguments the kernel and the reference leave the same array, the spec of `AttnSpec`. -/
module

public import proofs.«01_k».proof.Defs
public import proofs.«01_k».proof.Proof.AttnArray
public import proofs.«01_k».proof.Proof.AttnRef
public import proofs.«01_k».proof.Proof.AttnPre
public import proofs.«01_k».proof.Proof.Gen.AttnRefIdeal
public import proofs.«01_k».proof.Proof.Gen.AttnRefIdeal.Run
public import proofs.«01_k».proof.Proof.Gen.Pre_finite

@[expose] public section

noncomputable section

namespace Cert.AttnValue

open Idealize.ShloMosaic Idealize.ShloMosaic.TcCoe Idealize.SL.Sem

/-- Kernel and reference attention compute the same function on finite arguments. -/
theorem algebraic : Cert.algebraic_AttnIdeal_AttnRefIdeal_pre_finite (hAttnIdeal := Cert.AttnIdeal.Gen.facts)
    (hAttnRefIdeal := Cert.AttnRefIdeal.Gen.facts) (hPre_finite := Cert.Pre_finite.Gen.facts) := by
  intro m g m' g' hpre hargs
  refine ⟨fun c => Cert.AttnIdeal.Array.spec m c, ?_, ?_⟩
  · refine (θ_run _ _ _).mono (fun r h c => ?_) (Cert.AttnIdeal.Value.run_blocks m g)
    obtain ⟨h0, h1, h2, h3, h4, _⟩ := AttnPre.reals (hpre c)
    exact ⟨(h c).1.trans (Cert.AttnIdeal.Array.array m c h0 h1 h2 h3 h4), (h c).2⟩
  · refine (θ_run _ _ _).mono (fun r h c => ?_) (Cert.AttnRefIdeal.Value.run m' g')
    obtain ⟨a0, a1, a2, a3, a4, a5, a6⟩ := hargs c
    obtain ⟨h0, h1, h2, h3, h4, h5⟩ := AttnPre.reals (hpre c)
    obtain ⟨l, hl⟩ := AttnPre.lam_real h5
    refine ⟨((h c).1.trans (Cert.AttnRefIdeal.Read.val_main_v63_eq m' c)).trans ?_, (h c).2⟩
    rw [a0, a1, a2, a3, a4, a5, a6]
    exact Cert.AttnRefIdeal.At.result _ _ _ _ _ _ _ h0 h1 h2 h3 h4 l hl

end Cert.AttnValue

end
-- ==== Proof.ProjSpec.lean ====
/- The input projection in plain words: a row is normalised by its root mean square, scaled and shifted, and multiplied
   with the weights' columns. -/
module

public import Idealize.ShloMosaic.PureOps.Ideal
public import Idealize.ShloMosaic.Lib.Pointwise

@[expose] public section

noncomputable section

namespace Cert.ProjSpec

open Idealize.ShloMosaic

/-- A row of 1024 numbers normalised by its root mean square, scaled by `g` and by `1 + c`, shifted by `s`. -/
def norm (x g c s : Fin 1024 → EReal) (k : Fin 1024) : EReal :=
  x k * Ideal.rsqrt (Ideal.div (∑ e, x e * x e) (Ideal.ofBits .f32 0x44800000#32) + Ideal.ofBits .f32 0x358637BD#32) * g k
    * (Ideal.ofBits .f32 0x3F800000#32 + c k) + s k

/-- The modulated row `r` of batch `b`. -/
def row (x : (⟨3, ![4, 8192, 1024]⟩ : Shape).Idx → EReal) (md : (⟨3, ![4, 1, 6144]⟩ : Shape).Idx → EReal)
    (g : (⟨1, ![1024]⟩ : Shape).Idx → EReal) (b : Fin 4) (r : Fin 8192) : Fin 1024 → EReal :=
  norm (fun k => x (ix3 b r k)) (fun k => g (ix1 k)) (fun k => md (ix3 b 0 ⟨1024 + k.val, by have := k.isLt; omega⟩))
    (fun k => md (ix3 b 0 ⟨k.val, by have := k.isLt; omega⟩))

/-- … times column `n` of the weights. -/
def value (x : (⟨3, ![4, 8192, 1024]⟩ : Shape).Idx → EReal) (md : (⟨3, ![4, 1, 6144]⟩ : Shape).Idx → EReal)
    (g : (⟨1, ![1024]⟩ : Shape).Idx → EReal) (w : (⟨2, ![1024, 6656]⟩ : Shape).Idx → EReal)
    (b : Fin 4) (r : Fin 8192) (n : Fin 6656) : EReal :=
  ∑ k, row x md g b r k * w (ix2 k n)

/-- The `d` columns from column `o` on, as an array. -/
def cols {d : ℕ} (o : ℕ) (h : o + d ≤ 6656) (x : (⟨3, ![4, 8192, 1024]⟩ : Shape).Idx → EReal)
    (md : (⟨3, ![4, 1, 6144]⟩ : Shape).Idx → EReal) (g : (⟨1, ![1024]⟩ : Shape).Idx → EReal)
    (w : (⟨2, ![1024, 6656]⟩ : Shape).Idx → EReal) : (⟨3, ![4, 8192, d]⟩ : Shape).Idx → EReal :=
  fun i => value x md g w (i 0) (i 1) ⟨o + (i 2).val, Nat.lt_of_lt_of_le (Nat.add_lt_add_left (i 2).isLt o) h⟩

end Cert.ProjSpec

end
-- ==== Proof.ProjArray.lean ====
/- The input projection's five result arrays: a grid point's blocks hold the modulated rows times the weights' columns,
   and the blocks cover the arrays. -/
module

public import proofs.«01_k».proof.Proof.ProjSpec
public import proofs.«01_k».proof.Proof.Gen.ProjIdeal.Value
public import Idealize.ShloMosaic.Lib.Pipeline.ValueKit.Point
public import Idealize.ShloMosaic.Lib.Pipeline.ValueKit.Tiles

@[expose] public section

noncomputable section

namespace Cert.ProjIdeal.Array

open Idealize.ShloMosaic Idealize.ShloMosaic.TcCoe Cert.ProjIdeal Cert.ProjIdeal.Gen
open Idealize.ShloMosaic.Pipeline Idealize.SL.Sem

/-- The modulated row that the products start from. -/
theorem modulated (x0 : Vec Ideal S1x256x1024 .f32) (x1 : Vec Ideal S1x1x6144 .f32) (x2 : Vec Ideal S1x1024 .f32) (r : Fin 256) (k : Fin 1024) :
    k0_pay4 x0 (View.ld x1 r0_1) (View.ld x1 r0_2) x2 (ix2 r k)
      = ProjSpec.norm (fun k => x0 (ix3 0 r k)) (fun k => x2 (ix2 0 k)) (fun k => x1 (ix3 0 0 ⟨1024 + k.val, by have := k.isLt; omega⟩))
          (fun k => x1 (ix3 0 0 ⟨k.val, by have := k.isLt; omega⟩)) k := by
  unfold ProjSpec.norm
  pointwise [k0_pay4]

variable (m : (ℓ : Loc nD τ sig) → Buf (Elt Ideal) ℓ)

/-- Where the blocks of grid point `t` lie. -/
theorem idx0 : ∀ t : Fin cfg0.N, win0_0.index t = ![t.val / 32, t.val % 32, 0] := (by decide +kernel : ∀ t : Fin grid0.N, _)
theorem idx1 : ∀ t : Fin cfg0.N, win0_1.index t = ![t.val / 32, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 32, t.val % 32, 0] := (by decide +kernel : ∀ t : Fin grid0.N, _)
theorem idx9 : ∀ t : Fin cfg0.N, win0_9.index t = ![t.val / 32, t.val % 32, 0] := (by decide +kernel : ∀ t : Fin grid0.N, _)
theorem idx10 : ∀ t : Fin cfg0.N, win0_10.index t = ![t.val / 32, t.val % 32, 0] := (by decide +kernel : ∀ t : Fin grid0.N, _)
theorem idx11 : ∀ t : Fin cfg0.N, win0_11.index t = ![t.val / 32, t.val % 32, 0] := (by decide +kernel : ∀ t : Fin grid0.N, _)
theorem idx12 : ∀ t : Fin cfg0.N, win0_12.index t = ![t.val / 32, t.val % 32, 0] := (by decide +kernel : ∀ t : Fin grid0.N, _)

theorem point_lt (t : Fin cfg0.N) : t.val < 128 := t.isLt

/-- The batch and the first row of a grid point. -/
abbrev bat (t : Fin cfg0.N) : Fin 4 := ⟨t.val / 32, by have := point_lt t; omega⟩
abbrev row (t : Fin cfg0.N) (r : Fin 256) : Fin 8192 := ⟨t.val % 32 * 256 + r.val, by have := r.isLt; omega⟩

theorem blk0 (c : Dev nD) (t : Fin cfg0.N) (r : Fin 256) (k : Fin 1024) :
    iblk m c 0 t (ix3 0 r k) = m ((c : Thread nD τ).loc main_arg0) (ix3 (bat t) (row t r) k) := by
  blk_ext! [iblk, V_main_arg0, idx0]
theorem blk1 (c : Dev nD) (t : Fin cfg0.N) (k : Fin 6144) :
    iblk m c 1 t (ix3 0 0 k) = m ((c : Thread nD τ).loc main_arg1) (ix3 (bat t) 0 k) := by
  blk_ext! [iblk, V_main_arg1, idx1]
theorem blk2 (c : Dev nD) (t : Fin cfg0.N) (k : Fin 1024) :
    iblk m c 2 t (ix2 0 k) = m ((c : Thread nD τ).loc main_arg2) (ix1 k) := by
  blk_ext! [iblk, V, idx2]
theorem blk3 (c : Dev nD) (t : Fin cfg0.N) (k : Fin 1024) (n : Fin 768) :
    iblk m c 3 t (ix2 k n) = m ((c : Thread nD τ).loc main_arg3) (ix2 k ⟨0 + n.val, by have := n.isLt; omega⟩) := by
  blk_ext! [iblk, V, idx3]
theorem blk4 (c : Dev nD) (t : Fin cfg0.N) (k : Fin 1024) (n : Fin 768) :
    iblk m c 4 t (ix2 k n) = m ((c : Thread nD τ).loc main_arg3) (ix2 k ⟨768 + n.val, by have := n.isLt; omega⟩) := by
  blk_ext! [iblk, V, idx4]
theorem blk5 (c : Dev nD) (t : Fin cfg0.N) (k : Fin 1024) (n : Fin 512) :
    iblk m c 5 t (ix2 k n) = m ((c : Thread nD τ).loc main_arg3) (ix2 k ⟨1536 + n.val, by have := n.isLt; omega⟩) := by
  blk_ext! [iblk, V, idx5]
theorem blk6 (c : Dev nD) (t : Fin cfg0.N) (k : Fin 1024) (n : Fin 512) :
    iblk m c 6 t (ix2 k n) = m ((c : Thread nD τ).loc main_arg3) (ix2 k ⟨2048 + n.val, by have := n.isLt; omega⟩) := by
  blk_ext! [iblk, V, idx6]
theorem blk7 (c : Dev nD) (t : Fin cfg0.N) (k : Fin 1024) (n : Fin 4096) :
    iblk m c 7 t (ix2 k n) = m ((c : Thread nD τ).loc main_arg3) (ix2 k ⟨2560 + n.val, by have := n.isLt; omega⟩) := by
  blk_ext! [iblk, V, idx7]

/-- The modulated row of grid point `t` is the modulated row of the arguments. -/
theorem rows (c : Dev nD) (t : Fin cfg0.N) (r : Fin 256) (k : Fin 1024) :
    k0_pay4 (iblk m c 0 t) (View.ld (iblk m c 1 t) r0_1) (View.ld (iblk m c 1 t) r0_2) (iblk m c 2 t) (ix2 r k)
      = ProjSpec.row (m ((c : Thread nD τ).loc main_arg0)) (m ((c : Thread nD τ).loc main_arg1)) (m ((c : Thread nD τ).loc main_arg2))
          (bat t) (row t r) k := by
  refine (modulated _ _ _ r k).trans ?_
  unfold ProjSpec.row
  congr 1 <;> funext k
  · exact blk0 m c t r k
  · exact blk2 m c t k
  · exact blk1 m c t _
  · exact blk1 m c t _

/-- A block of products, at a place. -/
theorem out8 (x0 : Vec Ideal S1x256x1024 .f32) (x1 : Vec Ideal S1x1x6144 .f32) (x2 : Vec Ideal S1x1024 .f32) (x3 x4 : Vec Ideal S1024x768 .bf16)
    (x5 x6 : Vec Ideal S1024x512 .bf16) (x7 : Vec Ideal S1024x4096 .bf16) (r : Fin 256) (n : Fin 768) :
    out0_8 x0 x1 x2 x3 x4 x5 x6 x7 (ix3 0 r n)
      = ∑ k : Fin 1024, k0_pay4 x0 (View.ld x1 r0_1) (View.ld x1 r0_2) x2 (ix2 r k) * x3 (ix2 k n) := by
  frame_out
  pointwise [k0_pay5]
theorem out9 (x0 : Vec Ideal S1x256x1024 .f32) (x1 : Vec Ideal S1x1x6144 .f32) (x2 : Vec Ideal S1x1024 .f32) (x3 x4 : Vec Ideal S1024x768 .bf16)
    (x5 x6 : Vec Ideal S1024x512 .bf16) (x7 : Vec Ideal S1024x4096 .bf16) (r : Fin 256) (n : Fin 768) :
    out0_9 x0 x1 x2 x3 x4 x5 x6 x7 (ix3 0 r n)
      = ∑ k : Fin 1024, k0_pay4 x0 (View.ld x1 r0_1) (View.ld x1 r0_2) x2 (ix2 r k) * x4 (ix2 k n) := by
  unfold out0_9 k0_pay11
  frame_out
  pointwise [k0_pay6]
theorem out10 (x0 : Vec Ideal S1x256x1024 .f32) (x1 : Vec Ideal S1x1x6144 .f32) (x2 : Vec Ideal S1x1024 .f32) (x3 x4 : Vec Ideal S1024x768 .bf16)
    (x5 x6 : Vec Ideal S1024x512 .bf16) (x7 : Vec Ideal S1024x4096 .bf16) (r : Fin 256) (n : Fin 512) :
    out0_10 x0 x1 x2 x3 x4 x5 x6 x7 (ix3 0 r n)
      = ∑ k : Fin 1024, k0_pay4 x0 (View.ld x1 r0_1) (View.ld x1 r0_2) x2 (ix2 r k) * x5 (ix2 k n) := by
  unfold out0_10 k0_pay11
  frame_out
  pointwise [k0_pay7]
theorem out11 (x0 : Vec Ideal S1x256x1024 .f32) (x1 : Vec Ideal S1x1x6144 .f32) (x2 : Vec Ideal S1x1024 .f32) (x3 x4 : Vec Ideal S1024x768 .bf16)
    (x5 x6 : Vec Ideal S1024x512 .bf16) (x7 : Vec Ideal S1024x4096 .bf16) (r : Fin 256) (n : Fin 512) :
    out0_11 x0 x1 x2 x3 x4 x5 x6 x7 (ix3 0 r n)
      = ∑ k : Fin 1024, k0_pay4 x0 (View.ld x1 r0_1) (View.ld x1 r0_2) x2 (ix2 r k) * x6 (ix2 k n) := by
  unfold out0_11 k0_pay11
  frame_out
  pointwise [k0_pay8]

/-- A block of 256 × 1024 products that lies at column `o` of the wider block. -/
theorem tile (p : FVec Ideal S1x256x1024 .f32) (A : FVec Ideal S256x1024 .bf16) (x7 : Vec Ideal S1024x4096 .bf16) (o : ℕ) (ho : o + 1024 ≤ 4096)
    (hp : ∀ (r : Fin 256) (n : Fin 1024), p (ix3 0 r n) = ∑ k : Fin 1024, A (ix2 r k) * x7 (ix2 k ⟨o + n.val, by have := n.isLt; omega⟩))
    (r : Fin 256) (n : Fin 4096) (x : S1x256x1024.Idx) (h1 : r.val = (x 1).val) (h2 : n.val = o + (x 2).val) :
    p x = ∑ k : Fin 1024, A (ix2 r k) * x7 (ix2 k n) := by
  obtain rfl : r = x 1 := Fin.ext h1
  have hn : n = ⟨o + (x 2).val, by rw [← h2]; exact n.isLt⟩ := Fin.ext h2
  have hx : x = ix3 0 (x 1) (x 2) := by
    funext a
    match a with
    | ⟨0, _⟩ => exact Subsingleton.elim (α := Fin 1) _ _
    | ⟨1, _⟩ => rfl
    | ⟨2, _⟩ => rfl
  rw [hn]
  exact (congrArg p hx).trans (hp (x 1) (x 2))

/-- The widest block, four stores of 1024 columns each. -/
theorem out12 (x0 : Vec Ideal S1x256x1024 .f32) (x1 : Vec Ideal S1x1x6144 .f32) (x2 : Vec Ideal S1x1024 .f32) (x3 x4 : Vec Ideal S1024x768 .bf16)
    (x5 x6 : Vec Ideal S1024x512 .bf16) (x7 : Vec Ideal S1024x4096 .bf16) (r : Fin 256) (n : Fin 4096) :
    out0_12 x0 x1 x2 x3 x4 x5 x6 x7 (ix3 0 r n)
      = ∑ k : Fin 1024, k0_pay4 x0 (View.ld x1 r0_1) (View.ld x1 r0_2) x2 (ix2 r k) * x7 (ix2 k n) := by
  have hw : k0_pay11 x0 x1 x2 x3 x4 x5 x6 x7 = k0_pay4 x0 (View.ld x1 r0_1) (View.ld x1 r0_2) x2 := by
    unfold k0_pay11
    frame_out
  unfold out0_12
  rw [hw]
  generalize k0_pay4 x0 (View.ld x1 r0_1) (View.ld x1 r0_2) x2 = A
  canon_tiles x h
  · exact tile _ A x7 3072 (by decide) (fun r n => by pointwise [k0_pay3]) r n x h1 h2
  · exact tile _ A x7 2048 (by decide) (fun r n => by pointwise [k0_pay2]) r n x h1 h2
  · exact tile _ A x7 1024 (by decide) (fun r n => by pointwise [k0_pay1, k0_pay10]) r n x h1 h2
  · exact tile _ A x7 0 (by decide) (fun r n => by pointwise [k0_pay9]) r n x h1 (h2.trans (Nat.zero_add _).symm)

/-- The columns from `o` on of the arguments' product. -/
abbrev spec {d : ℕ} (o : ℕ) (h : o + d ≤ 6656) (c : Dev nD) : (⟨3, ![4, 8192, d]⟩ : Shape).Idx → EReal :=
  ProjSpec.cols o h (m ((c : Thread nD τ).loc main_arg0)) (m ((c : Thread nD τ).loc main_arg1)) (m ((c : Thread nD τ).loc main_arg2))
    (m ((c : Thread nD τ).loc main_arg3))

theorem spec_at {d : ℕ} (o : ℕ) (h : o + d ≤ 6656) (c : Dev nD) (b : Fin 4) (r : Fin 8192) (n : Fin d) :
    spec m o h c (ix3 b r n) = ∑ k : Fin 1024, ProjSpec.row (m ((c : Thread nD τ).loc main_arg0)) (m ((c : Thread nD τ).loc main_arg1))
      (m ((c : Thread nD τ).loc main_arg2)) b r k * m ((c : Thread nD τ).loc main_arg3) (ix2 k ⟨o + n.val, by have := n.isLt; omega⟩) := rfl

theorem corner {d : ℕ} (y : (⟨3, ![1, 256, d]⟩ : Shape).Idx) : y = ix3 0 (y 1) (y 2) := by
  funext a
  match a with
  | ⟨0, _⟩ => exact Subsingleton.elim (α := Fin 1) _ _
  | ⟨1, _⟩ => rfl
  | ⟨2, _⟩ => rfl

theorem block8 (c : Dev nD) (t : Fin cfg0.N) (y : S1x256x768.Idx) :
    out0_8 (iblk m c 0 t) (iblk m c 1 t) (iblk m c 2 t) (iblk m c 3 t) (iblk m c 4 t) (iblk m c 5 t) (iblk m c 6 t) (iblk m c 7 t) y
      = spec m 0 (by decide) c (ix3 (bat t) (row t (y 1)) (y 2)) := by
  refine (congrArg (out0_8 (iblk m c 0 t) (iblk m c 1 t) (iblk m c 2 t) (iblk m c 3 t) (iblk m c 4 t) (iblk m c 5 t) (iblk m c 6 t) (iblk m c 7 t)) (corner y)).trans ?_
  refine (out8 _ _ _ _ _ _ _ _ (y 1) (y 2)).trans ((Finset.sum_congr rfl fun k _ => ?_).trans (spec_at m 0 (by decide) c _ _ _).symm)
  exact congrArg₂ (fun a b : EReal => a * b) (rows m c t (y 1) k) (blk3 m c t k (y 2))
theorem place8 (t : Fin cfg0.N) (y : S1x256x768.Idx) : (win0_8.blk t).view.emb y = ix3 (bat t) (row t (y 1)) (y 2) := by
  have e0 : (y 0).val < 1 := (y 0).isLt
  blk_ext [idx8]
theorem covers8 : (cfg0.win 8).Covers := by decide +kernel
theorem array8 (c : Dev nD) : (dats m 0 c).arrAt 8 cfg0.N = spec m 0 (by decide) c := by
  refine (dats m 0 c).arrAt_eq_of_covers 8 _ covers8 fun t hf y => ?_
  blk_simp
  rw [after0_8]
  exact (block8 m c t y).trans (congrArg (spec m 0 (by decide) c) (place8 t y).symm)

theorem block9 (c : Dev nD) (t : Fin cfg0.N) (y : S1x256x768.Idx) :
    out0_9 (iblk m c 0 t) (iblk m c 1 t) (iblk m c 2 t) (iblk m c 3 t) (iblk m c 4 t) (iblk m c 5 t) (iblk m c 6 t) (iblk m c 7 t) y
      = spec m 768 (by decide) c (ix3 (bat t) (row t (y 1)) (y 2)) := by
  refine (congrArg (out0_9 (iblk m c 0 t) (iblk m c 1 t) (iblk m c 2 t) (iblk m c 3 t) (iblk m c 4 t) (iblk m c 5 t) (iblk m c 6 t) (iblk m c 7 t)) (corner y)).trans ?_
  refine (out9 _ _ _ _ _ _ _ _ (y 1) (y 2)).trans ((Finset.sum_congr rfl fun k _ => ?_).trans (spec_at m 768 (by decide) c _ _ _).symm)
  exact congrArg₂ (fun a b : EReal => a * b) (rows m c t (y 1) k) (blk4 m c t k (y 2))
theorem place9 (t : Fin cfg0.N) (y : S1x256x768.Idx) : (win0_9.blk t).view.emb y = ix3 (bat t) (row t (y 1)) (y 2) := by
  have e0 : (y 0).val < 1 := (y 0).isLt
  blk_ext [idx9]
theorem covers9 : (cfg0.win 9).Covers := by decide +kernel
theorem array9 (c : Dev nD) : (dats m 0 c).arrAt 9 cfg0.N = spec m 768 (by decide) c := by
  refine (dats m 0 c).arrAt_eq_of_covers 9 _ covers9 fun t hf y => ?_
  blk_simp
  rw [after0_9]
  exact (block9 m c t y).trans (congrArg (spec m 768 (by decide) c) (place9 t y).symm)

theorem block10 (c : Dev nD) (t : Fin cfg0.N) (y : S1x256x512.Idx) :
    out0_10 (iblk m c 0 t) (iblk m c 1 t) (iblk m c 2 t) (iblk m c 3 t) (iblk m c 4 t) (iblk m c 5 t) (iblk m c 6 t) (iblk m c 7 t) y
      = spec m 1536 (by decide) c (ix3 (bat t) (row t (y 1)) (y 2)) := by
  refine (congrArg (out0_10 (iblk m c 0 t) (iblk m c 1 t) (iblk m c 2 t) (iblk m c 3 t) (iblk m c 4 t) (iblk m c 5 t) (iblk m c 6 t) (iblk m c 7 t)) (corner y)).trans ?_
  refine (out10 _ _ _ _ _ _ _ _ (y 1) (y 2)).trans ((Finset.sum_congr rfl fun k _ => ?_).trans (spec_at m 1536 (by decide) c _ _ _).symm)
  exact congrArg₂ (fun a b : EReal => a * b) (rows m c t (y 1) k) (blk5 m c t k (y 2))
theorem place10 (t : Fin cfg0.N) (y : S1x256x512.Idx) : (win0_10.blk t).view.emb y = ix3 (bat t) (row t (y 1)) (y 2) := by
  have e0 : (y 0).val < 1 := (y 0).isLt
  blk_ext [idx10]
theorem covers10 : (cfg0.win 10).Covers := by decide +kernel
theorem array10 (c : Dev nD) : (dats m 0 c).arrAt 10 cfg0.N = spec m 1536 (by decide) c := by
  refine (dats m 0 c).arrAt_eq_of_covers 10 _ covers10 fun t hf y => ?_
  blk_simp
  rw [after0_10]
  exact (block10 m c t y).trans (congrArg (spec m 1536 (by decide) c) (place10 t y).symm)

theorem block11 (c : Dev nD) (t : Fin cfg0.N) (y : S1x256x512.Idx) :
    out0_11 (iblk m c 0 t) (iblk m c 1 t) (iblk m c 2 t) (iblk m c 3 t) (iblk m c 4 t) (iblk m c 5 t) (iblk m c 6 t) (iblk m c 7 t) y
      = spec m 2048 (by decide) c (ix3 (bat t) (row t (y 1)) (y 2)) := by
  refine (congrArg (out0_11 (iblk m c 0 t) (iblk m c 1 t) (iblk m c 2 t) (iblk m c 3 t) (iblk m c 4 t) (iblk m c 5 t) (iblk m c 6 t) (iblk m c 7 t)) (corner y)).trans ?_
  refine (out11 _ _ _ _ _ _ _ _ (y 1) (y 2)).trans ((Finset.sum_congr rfl fun k _ => ?_).trans (spec_at m 2048 (by decide) c _ _ _).symm)
  exact congrArg₂ (fun a b : EReal => a * b) (rows m c t (y 1) k) (blk6 m c t k (y 2))
theorem place11 (t : Fin cfg0.N) (y : S1x256x512.Idx) : (win0_11.blk t).view.emb y = ix3 (bat t) (row t (y 1)) (y 2) := by
  have e0 : (y 0).val < 1 := (y 0).isLt
  blk_ext [idx11]
theorem covers11 : (cfg0.win 11).Covers := by decide +kernel
theorem array11 (c : Dev nD) : (dats m 0 c).arrAt 11 cfg0.N = spec m 2048 (by decide) c := by
  refine (dats m 0 c).arrAt_eq_of_covers 11 _ covers11 fun t hf y => ?_
  blk_simp
  rw [after0_11]
  exact (block11 m c t y).trans (congrArg (spec m 2048 (by decide) c) (place11 t y).symm)

theorem block12 (c : Dev nD) (t : Fin cfg0.N) (y : S1x256x4096.Idx) :
    out0_12 (iblk m c 0 t) (iblk m c 1 t) (iblk m c 2 t) (iblk m c 3 t) (iblk m c 4 t) (iblk m c 5 t) (iblk m c 6 t) (iblk m c 7 t) y
      = spec m 2560 (by decide) c (ix3 (bat t) (row t (y 1)) (y 2)) := by
  refine (congrArg (out0_12 (iblk m c 0 t) (iblk m c 1 t) (iblk m c 2 t) (iblk m c 3 t) (iblk m c 4 t) (iblk m c 5 t) (iblk m c 6 t) (iblk m c 7 t)) (corner y)).trans ?_
  refine (out12 _ _ _ _ _ _ _ _ (y 1) (y 2)).trans ((Finset.sum_congr rfl fun k _ => ?_).trans (spec_at m 2560 (by decide) c _ _ _).symm)
  exact congrArg₂ (fun a b : EReal => a * b) (rows m c t (y 1) k) (blk7 m c t k (y 2))
theorem place12 (t : Fin cfg0.N) (y : S1x256x4096.Idx) : (win0_12.blk t).view.emb y = ix3 (bat t) (row t (y 1)) (y 2) := by
  have e0 : (y 0).val < 1 := (y 0).isLt
  blk_ext [idx12]
theorem covers12 : (cfg0.win 12).Covers := by decide +kernel
theorem array12 (c : Dev nD) : (dats m 0 c).arrAt 12 cfg0.N = spec m 2560 (by decide) c := by
  refine (dats m 0 c).arrAt_eq_of_covers 12 _ covers12 fun t hf y => ?_
  blk_simp
  rw [after0_12]
  exact (block12 m c t y).trans (congrArg (spec m 2560 (by decide) c) (place12 t y).symm)

end Cert.ProjIdeal.Array

end
-- ==== Proof.ProjRef.lean ====
/- The reference's projection, read at a place of its results. -/
module

public import proofs.«01_k».proof.Proof.ProjSpec
public import proofs.«01_k».proof.Proof.Gen.ProjRefIdeal.Read

@[expose] public section

noncomputable section

namespace Cert.ProjRefIdeal.At

open Idealize.ShloMosaic Idealize.ShloMosaic.TcCoe Cert.ProjRefIdeal Cert.ProjRefIdeal.Gen Cert.ProjRefIdeal.Read

variable (x0 : (⟨S4x8192x1024, .f32⟩ : BufTy).Contents (Elt Ideal)) (x1 : (⟨S4x1x6144, .f32⟩ : BufTy).Contents (Elt Ideal))
  (x2 : (⟨S1024, .f32⟩ : BufTy).Contents (Elt Ideal)) (x3 : (⟨S1024x6656, .f32⟩ : BufTy).Contents (Elt Ideal))

/-- The modulated rows. -/
theorem rows (b : Fin 4) (r : Fin 8192) (k : Fin 1024) :
    val_main_v24 x0 x1 x2 (ix3 b r k) = ProjSpec.row x0 x1 x2 b r k := by
  unfold ProjSpec.row ProjSpec.norm
  pointwise [val_main_v24, val_main_v23, val_main_v22, val_main_v21, val_main_v20, val_main_v19, val_main_cst_2, val_main_v18, val_main_v17,
    val_main_v16, val_main_v15, val_main_v14, val_main_v13, val_main_v12, val_main_v11, val_main_cst_1, val_main_v10, val_main_v9,
    val_main_cst_0, val_main_v8, val_main_v7, val_main_cst, val_main_v6, val_main_v1, val_main_v0]

/-- The rows' products with the weights. -/
theorem product (b : Fin 4) (r : Fin 8192) (n : Fin 6656) :
    val_main_v25 x0 x1 x2 x3 (ix3 b r n) = ProjSpec.value x0 x1 x2 x3 b r n := by
  have h : val_main_v25 x0 x1 x2 x3 (ix3 b r n) = ∑ k : Fin 1024, val_main_v24 x0 x1 x2 (ix3 b r k) * x3 (ix2 k n) := by
    pointwise [val_main_v25]
  rw [h]
  exact Finset.sum_congr rfl fun k _ => by rw [rows]

/-- An array that holds the products' columns from `o` on, at every place. -/
theorem cols_of {d : ℕ} (o : ℕ) (h : o + d ≤ 6656) (v : (⟨3, ![4, 8192, d]⟩ : Shape).Idx → EReal)
    (hv : ∀ (b : Fin 4) (r : Fin 8192) (n : Fin d), v (ix3 b r n) = val_main_v25 x0 x1 x2 x3 (ix3 b r ⟨o + n.val, by have := n.isLt; omega⟩)) :
    v = ProjSpec.cols o h x0 x1 x2 x3 := funext fun i => by
  obtain ⟨b, r, n, rfl⟩ : ∃ b r n, i = ix3 b r n := ⟨i 0, i 1, i 2, by
    funext a
    match a with
    | ⟨0, _⟩ => rfl
    | ⟨1, _⟩ => rfl
    | ⟨2, _⟩ => rfl⟩
  rw [hv, product]
  rfl

/-- The five groups of columns. -/
theorem result0 : val_main_v26 x0 x1 x2 x3 = ProjSpec.cols 0 (by decide) x0 x1 x2 x3 :=
  cols_of x0 x1 x2 x3 0 (by decide) _ fun b r n => by pointwise [val_main_v26]
theorem result1 : val_main_v27 x0 x1 x2 x3 = ProjSpec.cols 768 (by decide) x0 x1 x2 x3 :=
  cols_of x0 x1 x2 x3 768 (by decide) _ fun b r n => by pointwise [val_main_v27]
theorem result2 : val_main_v28 x0 x1 x2 x3 = ProjSpec.cols 1536 (by decide) x0 x1 x2 x3 :=
  cols_of x0 x1 x2 x3 1536 (by decide) _ fun b r n => by pointwise [val_main_v28]
theorem result3 : val_main_v29 x0 x1 x2 x3 = ProjSpec.cols 2048 (by decide) x0 x1 x2 x3 :=
  cols_of x0 x1 x2 x3 2048 (by decide) _ fun b r n => by pointwise [val_main_v29]
theorem result4 : val_main_v30 x0 x1 x2 x3 = ProjSpec.cols 2560 (by decide) x0 x1 x2 x3 :=
  cols_of x0 x1 x2 x3 2560 (by decide) _ fun b r n => by pointwise [val_main_v30]

end Cert.ProjRefIdeal.At

end
-- ==== Proof.ProjValue.lean ====
/- The projection claim: the kernel's five results are the five column ranges of the normalised, modulated input times the weights, as the reference's. -/
module

public import proofs.«01_k».proof.Defs
public import proofs.«01_k».proof.Proof.ProjArray
public import proofs.«01_k».proof.Proof.ProjRef
public import proofs.«01_k».proof.Proof.Gen.ProjRefIdeal
public import proofs.«01_k».proof.Proof.Gen.ProjRefIdeal.Run

@[expose] public section

noncomputable section

namespace Cert.ProjValue

open Idealize.ShloMosaic Idealize.ShloMosaic.TcCoe Idealize.SL.Sem

/-- Kernel and reference projection compute the same five functions. -/
theorem algebraic : Cert.algebraic_ProjIdeal_ProjRefIdeal (hProjIdeal := Cert.ProjIdeal.Gen.facts)
    (hProjRefIdeal := Cert.ProjRefIdeal.Gen.facts) := by
  intro m g m' g' _ hargs
  refine ⟨fun c => Cert.ProjIdeal.Array.spec m 0 (by decide) c, fun c => Cert.ProjIdeal.Array.spec m 768 (by decide) c,
    fun c => Cert.ProjIdeal.Array.spec m 1536 (by decide) c, fun c => Cert.ProjIdeal.Array.spec m 2048 (by decide) c,
    fun c => Cert.ProjIdeal.Array.spec m 2560 (by decide) c, ?_, ?_⟩
  · refine (θ_run _ _ _).mono (fun r h c => ?_) (Cert.ProjIdeal.Value.run_blocks m g)
    obtain ⟨r0, r1, r2, r3, r4, k⟩ := h c
    exact ⟨r0.trans (Cert.ProjIdeal.Array.array8 m c), r1.trans (Cert.ProjIdeal.Array.array9 m c),
      r2.trans (Cert.ProjIdeal.Array.array10 m c), r3.trans (Cert.ProjIdeal.Array.array11 m c),
      r4.trans (Cert.ProjIdeal.Array.array12 m c), k⟩
  · refine (θ_run _ _ _).mono (fun r h c => ?_) (Cert.ProjRefIdeal.Value.run m' g')
    obtain ⟨a0, a1, a2, a3⟩ := hargs c
    obtain ⟨r0, r1, r2, r3, r4, k⟩ := h c
    refine ⟨(r0.trans (Cert.ProjRefIdeal.Read.val_main_v26_eq _ _ _ _)).trans ?_,
      (r1.trans (Cert.ProjRefIdeal.Read.val_main_v27_eq _ _ _ _)).trans ?_,
      (r2.trans (Cert.ProjRefIdeal.Read.val_main_v28_eq _ _ _ _)).trans ?_,
      (r3.trans (Cert.ProjRefIdeal.Read.val_main_v29_eq _ _ _ _)).trans ?_,
      (r4.trans (Cert.ProjRefIdeal.Read.val_main_v30_eq _ _ _ _)).trans ?_, k⟩ <;> rw [a0, a1, a2, a3]
    · exact Cert.ProjRefIdeal.At.result0 _ _ _ _
    · exact Cert.ProjRefIdeal.At.result1 _ _ _ _
    · exact Cert.ProjRefIdeal.At.result2 _ _ _ _
    · exact Cert.ProjRefIdeal.At.result3 _ _ _ _
    · exact Cert.ProjRefIdeal.At.result4 _ _ _ _

end Cert.ProjValue

end
-- ==== Proof.MergeSpec.lean ====
/- The merge in plain words: four branches, each projected and gated, are summed, projected, scaled and added to the
   input. -/
module

public import Idealize.ShloMosaic.PureOps.Ideal
public import Idealize.ShloMosaic.Lib.Pointwise

@[expose] public section

noncomputable section

namespace Cert.MergeSpec

open Idealize.ShloMosaic

/-- A gate times a branch's projection. -/
def gated (z b : EReal) (y w : Fin 256 → EReal) : EReal := Ideal.logistic (z + b) * ∑ e, y e * w e

/-- The four gated branches' sum: gates' rows `z` and offsets `b`, branch rows `y`, weights `w`, at column `k`. -/
def mixed (z b : Fin 4096 → EReal) (y0 y1 y2 y3 : Fin 256 → EReal) (w : Fin 4 → Fin 256 → Fin 1024 → EReal) (k : Fin 1024) : EReal :=
  gated (z ⟨k.val, by have := k.isLt; omega⟩) (b ⟨k.val, by have := k.isLt; omega⟩) y0 (fun e => w 0 e k)
    + gated (z ⟨1024 + k.val, by have := k.isLt; omega⟩) (b ⟨1024 + k.val, by have := k.isLt; omega⟩) y1 (fun e => w 1 e k)
    + gated (z ⟨2048 + k.val, by have := k.isLt; omega⟩) (b ⟨2048 + k.val, by have := k.isLt; omega⟩) y2 (fun e => w 2 e k)
    + gated (z ⟨3072 + k.val, by have := k.isLt; omega⟩) (b ⟨3072 + k.val, by have := k.isLt; omega⟩) y3 (fun e => w 3 e k)

/-- The merged value from a row `x` of the input and the scale `g`. -/
def merged (x g : EReal) (s wo : Fin 1024 → EReal) : EReal := x + g * ∑ k, s k * wo k

/-- The merge at batch `b`, row `r` and column `n`. -/
def value (x : (⟨3, ![4, 8192, 1024]⟩ : Shape).Idx → EReal) (md : (⟨3, ![4, 1, 6144]⟩ : Shape).Idx → EReal)
    (y0 y1 y2 y3 : (⟨3, ![4, 8192, 256]⟩ : Shape).Idx → EReal) (zg : (⟨3, ![4, 8192, 4096]⟩ : Shape).Idx → EReal)
    (bg : (⟨1, ![4096]⟩ : Shape).Idx → EReal) (wb : (⟨3, ![4, 256, 1024]⟩ : Shape).Idx → EReal)
    (wo : (⟨2, ![1024, 1024]⟩ : Shape).Idx → EReal) (b : Fin 4) (r : Fin 8192) (n : Fin 1024) : EReal :=
  merged (x (ix3 b r n)) (md (ix3 b 0 ⟨2048 + n.val, by have := n.isLt; omega⟩))
    (mixed (fun k => zg (ix3 b r k)) (fun k => bg (ix1 k)) (fun e => y0 (ix3 b r e)) (fun e => y1 (ix3 b r e))
      (fun e => y2 (ix3 b r e)) (fun e => y3 (ix3 b r e)) (fun i e k => wb (ix3 i e k)))
    (fun k => wo (ix2 k n))

/-- … as an array. -/
def out (x : (⟨3, ![4, 8192, 1024]⟩ : Shape).Idx → EReal) (md : (⟨3, ![4, 1, 6144]⟩ : Shape).Idx → EReal)
    (y0 y1 y2 y3 : (⟨3, ![4, 8192, 256]⟩ : Shape).Idx → EReal) (zg : (⟨3, ![4, 8192, 4096]⟩ : Shape).Idx → EReal)
    (bg : (⟨1, ![4096]⟩ : Shape).Idx → EReal) (wb : (⟨3, ![4, 256, 1024]⟩ : Shape).Idx → EReal)
    (wo : (⟨2, ![1024, 1024]⟩ : Shape).Idx → EReal) : (⟨3, ![4, 8192, 1024]⟩ : Shape).Idx → EReal :=
  fun i => value x md y0 y1 y2 y3 zg bg wb wo (i 0) (i 1) (i 2)

theorem mixed_congr {z z' b b' : Fin 4096 → EReal} {y0 y0' y1 y1' y2 y2' y3 y3' : Fin 256 → EReal} {w w' : Fin 4 → Fin 256 → Fin 1024 → EReal}
    (hz : ∀ k, z k = z' k) (hb : ∀ k, b k = b' k) (h0 : ∀ e, y0 e = y0' e) (h1 : ∀ e, y1 e = y1' e) (h2 : ∀ e, y2 e = y2' e)
    (h3 : ∀ e, y3 e = y3' e) (hw : ∀ i e k, w i e k = w' i e k) : mixed z b y0 y1 y2 y3 w = mixed z' b' y0' y1' y2' y3' w' := by
  obtain rfl : z = z' := funext hz
  obtain rfl : b = b' := funext hb
  obtain rfl : y0 = y0' := funext h0
  obtain rfl : y1 = y1' := funext h1
  obtain rfl : y2 = y2' := funext h2
  obtain rfl : y3 = y3' := funext h3
  obtain rfl : w = w' := funext fun i => funext fun e => funext fun k => hw i e k
  rfl

theorem merged_congr {x x' g g' : EReal} {s s' w w' : Fin 1024 → EReal} (hx : x = x') (hg : g = g') (hs : s = s') (hw : ∀ k, w k = w' k) :
    merged x g s w = merged x' g' s' w' := by
  obtain rfl : w = w' := funext hw
  rw [hx, hg, hs]

end Cert.MergeSpec

end
-- ==== Proof.MergeArray.lean ====
/- The merge's result array: a grid point's block holds the merged rows, and the blocks cover the array. -/
module

public import proofs.«01_k».proof.Proof.MergeSpec
public import proofs.«01_k».proof.Proof.Gen.MergeIdeal.Value
public import Idealize.ShloMosaic.Lib.Pipeline.ValueKit.Point

@[expose] public section

noncomputable section

namespace Cert.MergeIdeal.Array

open Idealize.ShloMosaic Idealize.ShloMosaic.TcCoe Cert.MergeIdeal Cert.MergeIdeal.Gen
open Idealize.ShloMosaic.Pipeline Idealize.SL.Sem

variable (m : (ℓ : Loc nD τ sig) → Buf (Elt Ideal) ℓ)

/-- Where the blocks of grid point `t` lie. -/
theorem idx0 : ∀ t : Fin cfg0.N, win0_0.index t = ![t.val / 32, t.val % 32, 0] := (by decide +kernel : ∀ t : Fin grid0.N, _)
theorem idx1 : ∀ t : Fin cfg0.N, win0_1.index t = ![t.val / 32, 0, 0] := (by decide +kernel : ∀ t : Fin grid0.N, _)
theorem idx2 : ∀ t : Fin cfg0.N, win0_2.index t = ![t.val / 32, t.val % 32, 0] := (by decide +kernel : ∀ t : Fin grid0.N, _)
theorem idx3 : ∀ t : Fin cfg0.N, win0_3.index t = ![t.val / 32, t.val % 32, 0] := (by decide +kernel : ∀ t : Fin grid0.N, _)
theorem idx4 : ∀ t : Fin cfg0.N, win0_4.index t = ![t.val / 32, t.val % 32, 0] := (by decide +kernel : ∀ t : Fin grid0.N, _)
theorem idx5 : ∀ t : Fin cfg0.N, win0_5.index t = ![t.val / 32, t.val % 32, 0] := (by decide +kernel : ∀ t : Fin grid0.N, _)
theorem idx6 : ∀ t : Fin cfg0.N, win0_6.index t = ![t.val / 32, t.val % 32, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val / 32, t.val % 32, 0] := (by decide +kernel : ∀ t : Fin grid0.N, _)

theorem point_lt (t : Fin cfg0.N) : t.val < 128 := t.isLt

/-- The batch and the first row of a grid point. -/
abbrev bat (t : Fin cfg0.N) : Fin 4 := ⟨t.val / 32, by have := point_lt t; omega⟩
abbrev row (t : Fin cfg0.N) (r : Fin 256) : Fin 8192 := ⟨t.val % 32 * 256 + r.val, by have := r.isLt; omega⟩

theorem blk0 (c : Dev nD) (t : Fin cfg0.N) (r : Fin 256) (k : Fin 1024) :
    iblk m c 0 t (ix3 0 r k) = m ((c : Thread nD τ).loc main_arg0) (ix3 (bat t) (row t r) k) := by
  blk_ext! [iblk, V_main_arg0, V, idx0]
theorem blk1 (c : Dev nD) (t : Fin cfg0.N) (k : Fin 6144) :
    iblk m c 1 t (ix3 0 0 k) = m ((c : Thread nD τ).loc main_arg1) (ix3 (bat t) 0 k) := by
  blk_ext! [iblk, V_main_arg1, idx1]
theorem blk2 (c : Dev nD) (t : Fin cfg0.N) (r : Fin 256) (e : Fin 256) :
    iblk m c 2 t (ix3 0 r e) = m ((c : Thread nD τ).loc main_arg2) (ix3 (bat t) (row t r) e) := by
  blk_ext! [iblk, V_main_arg2, idx2]
theorem blk3 (c : Dev nD) (t : Fin cfg0.N) (r : Fin 256) (e : Fin 256) :
    iblk m c 3 t (ix3 0 r e) = m ((c : Thread nD τ).loc main_arg3) (ix3 (bat t) (row t r) e) := by
  blk_ext! [iblk, V_main_arg3, idx3]
theorem blk4 (c : Dev nD) (t : Fin cfg0.N) (r : Fin 256) (e : Fin 256) :
    iblk m c 4 t (ix3 0 r e) = m ((c : Thread nD τ).loc main_arg4) (ix3 (bat t) (row t r) e) := by
  blk_ext! [iblk, V_main_arg4, idx4]
theorem blk5 (c : Dev nD) (t : Fin cfg0.N) (r : Fin 256) (e : Fin 256) :
    iblk m c 5 t (ix3 0 r e) = m ((c : Thread nD τ).loc main_arg5) (ix3 (bat t) (row t r) e) := by
  blk_ext! [iblk, V_main_arg5, idx5]
theorem blk6 (c : Dev nD) (t : Fin cfg0.N) (r : Fin 256) (k : Fin 4096) :
    iblk m c 6 t (ix3 0 r k) = m ((c : Thread nD τ).loc main_arg6) (ix3 (bat t) (row t r) k) := by
  blk_ext! [iblk, V_main_arg6, idx6]
theorem blk7 (c : Dev nD) (t : Fin cfg0.N) (k : Fin 4096) :
    iblk m c 7 t (ix2 0 k) = m ((c : Thread nD τ).loc main_arg7) (ix1 k) := by
  blk_ext! [iblk, V, idx7]
theorem blk8 (c : Dev nD) (t : Fin cfg0.N) (i : Fin 4) (e : Fin 256) (k : Fin 1024) :
    iblk m c 8 t (ix3 i e k) = m ((c : Thread nD τ).loc main_arg8) (ix3 i e k) := by
  blk_ext! [iblk, V, idx8]
theorem blk9 (c : Dev nD) (t : Fin cfg0.N) (k n : Fin 1024) :
    iblk m c 9 t (ix2 k n) = m ((c : Thread nD τ).loc main_arg9) (ix2 k n) := by
  blk_ext! [iblk, V, idx9]

/-- The block of merged rows, from the input blocks. -/
theorem out10 (x0 : Vec Ideal S1x256x1024 .f32) (x1 : Vec Ideal S1x1x6144 .f32) (x2 x3 x4 x5 : Vec Ideal S1x256x256 .f32)
    (x6 : Vec Ideal S1x256x4096 .f32) (x7 : Vec Ideal S1x4096 .f32) (x8 : Vec Ideal S4x256x1024 .bf16) (x9 : Vec Ideal S1024x1024 .bf16)
    (r : Fin 256) (n : Fin 1024) :
    out0_10 x0 x1 x2 x3 x4 x5 x6 x7 x8 x9 (ix3 0 r n)
      = MergeSpec.merged (x0 (ix3 0 r n)) (x1 (ix3 0 0 ⟨2048 + n.val, by have := n.isLt; omega⟩))
          (MergeSpec.mixed (fun k => x6 (ix3 0 r k)) (fun k => x7 (ix2 0 k)) (fun e => x2 (ix3 0 r e)) (fun e => x3 (ix3 0 r e))
            (fun e => x4 (ix3 0 r e)) (fun e => x5 (ix3 0 r e)) (fun i e k => x8 (ix3 i e k)))
          (fun k => x9 (ix2 k n)) := by
  unfold MergeSpec.merged MergeSpec.mixed MergeSpec.gated
  frame_out
  pointwise [k0_pay1, k0_pay2, k0_pay3]

/-- The merge of a core's arguments. -/
abbrev spec (c : Dev nD) : (⟨3, ![4, 8192, 1024]⟩ : Shape).Idx → EReal :=
  MergeSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem corner (y : S1x256x1024.Idx) : y = ix3 0 (y 1) (y 2) := by
  funext a
  match a with
  | ⟨0, _⟩ => exact Subsingleton.elim (α := Fin 1) _ _
  | ⟨1, _⟩ => rfl
  | ⟨2, _⟩ => rfl

/-- The block that point `t` leaves. -/
theorem block (c : Dev nD) (t : Fin cfg0.N) (y : S1x256x1024.Idx) :
    out0_10 (iblk m c 0 t) (iblk m c 1 t) (iblk m c 2 t) (iblk m c 3 t) (iblk m c 4 t) (iblk m c 5 t) (iblk m c 6 t) (iblk m c 7 t)
      (iblk m c 8 t) (iblk m c 9 t) y = spec m c (ix3 (bat t) (row t (y 1)) (y 2)) := by
  refine (congrArg (out0_10 (iblk m c 0 t) (iblk m c 1 t) (iblk m c 2 t) (iblk m c 3 t) (iblk m c 4 t) (iblk m c 5 t) (iblk m c 6 t)
    (iblk m c 7 t) (iblk m c 8 t) (iblk m c 9 t)) (corner y)).trans ((out10 _ _ _ _ _ _ _ _ _ _ (y 1) (y 2)).trans ?_)
  show _ = MergeSpec.value _ _ _ _ _ _ _ _ _ _ (bat t) (row t (y 1)) (y 2)
  unfold MergeSpec.value
  exact MergeSpec.merged_congr (blk0 m c t _ _) (blk1 m c t _)
    (MergeSpec.mixed_congr (fun k => blk6 m c t _ k) (fun k => blk7 m c t k) (fun e => blk2 m c t _ e) (fun e => blk3 m c t _ e)
      (fun e => blk4 m c t _ e) (fun e => blk5 m c t _ e) (fun i e k => blk8 m c t i e k)) (fun k => blk9 m c t k _)

theorem place (t : Fin cfg0.N) (y : S1x256x1024.Idx) : (win0_10.blk t).view.emb y = ix3 (bat t) (row t (y 1)) (y 2) := by
  have e0 : (y 0).val < 1 := (y 0).isLt
  blk_ext [idx10]

theorem covers : (cfg0.win 10).Covers := by decide +kernel

/-- The result array. -/
theorem array (c : Dev nD) : (dats m 0 c).arrAt 10 cfg0.N = spec m c := by
  refine (dats m 0 c).arrAt_eq_of_covers 10 _ covers fun t hf y => ?_
  blk_simp
  rw [after0_10]
  exact (block m c t y).trans (congrArg (spec m c) (place t y).symm)

end Cert.MergeIdeal.Array

end
-- ==== Proof.MergeRef.lean ====
/- The reference's merge, read at a place of its result. -/
module

public import proofs.«01_k».proof.Proof.MergeSpec
public import proofs.«01_k».proof.Proof.Gen.MergeRefIdeal.Read

@[expose] public section

noncomputable section

namespace Cert.MergeRefIdeal.At

open Idealize.ShloMosaic Idealize.ShloMosaic.TcCoe Cert.MergeRefIdeal Cert.MergeRefIdeal.Gen Cert.MergeRefIdeal.Read

variable (x0 : (⟨S4x8192x1024, .f32⟩ : BufTy).Contents (Elt Ideal)) (x1 : (⟨S4x1x6144, .f32⟩ : BufTy).Contents (Elt Ideal))
  (x2 x3 x4 x5 : (⟨S4x8192x256, .f32⟩ : BufTy).Contents (Elt Ideal)) (x6 : (⟨S4x8192x4096, .f32⟩ : BufTy).Contents (Elt Ideal))
  (x7 : (⟨S4096, .f32⟩ : BufTy).Contents (Elt Ideal)) (x8 : (⟨S4x256x1024, .f32⟩ : BufTy).Contents (Elt Ideal))
  (x9 : (⟨S1024x1024, .f32⟩ : BufTy).Contents (Elt Ideal))

/-- The gated branches. -/
theorem branch0 (b : Fin 4) (r : Fin 8192) (k : Fin 1024) :
    val_main_v20 x2 x6 x7 x8 (ix3 b r k) = MergeSpec.gated (x6 (ix3 b r ⟨k.val, by have := k.isLt; omega⟩)) (x7 (ix1 ⟨k.val, by have := k.isLt; omega⟩)) (fun e => x2 (ix3 b r e))
      (fun e => x8 (ix3 0 e k)) := by
  unfold MergeSpec.gated
  pointwise [val_main_v6, val_main_v7, val_main_v8, val_main_v9, val_main_v10, val_main_v11, val_main_v12, val_main_v13, val_main_v14, val_main_v15, val_main_v16, val_main_v17, val_main_v18, val_main_v19, val_main_v20, val_main_cst, val_main_cst_0]
  rfl
theorem branch1 (b : Fin 4) (r : Fin 8192) (k : Fin 1024) :
    val_main_v37 x3 x6 x7 x8 (ix3 b r k) = MergeSpec.gated (x6 (ix3 b r ⟨1024 + k.val, by have := k.isLt; omega⟩)) (x7 (ix1 ⟨1024 + k.val, by have := k.isLt; omega⟩)) (fun e => x3 (ix3 b r e))
      (fun e => x8 (ix3 1 e k)) := by
  unfold MergeSpec.gated
  pointwise [val_main_v23, val_main_v24, val_main_v25, val_main_v26, val_main_v27, val_main_v28, val_main_v29, val_main_v30, val_main_v31, val_main_v32, val_main_v33, val_main_v34, val_main_v35, val_main_v36, val_main_v37, val_main_cst_2, val_main_cst_3]
  rfl
theorem branch2 (b : Fin 4) (r : Fin 8192) (k : Fin 1024) :
    val_main_v53 x4 x6 x7 x8 (ix3 b r k) = MergeSpec.gated (x6 (ix3 b r ⟨2048 + k.val, by have := k.isLt; omega⟩)) (x7 (ix1 ⟨2048 + k.val, by have := k.isLt; omega⟩)) (fun e => x4 (ix3 b r e))
      (fun e => x8 (ix3 2 e k)) := by
  unfold MergeSpec.gated
  pointwise [val_main_v39, val_main_v40, val_main_v41, val_main_v42, val_main_v43, val_main_v44, val_main_v45, val_main_v46, val_main_v47, val_main_v48, val_main_v49, val_main_v50, val_main_v51, val_main_v52, val_main_v53, val_main_cst_4, val_main_cst_5]
  rfl
theorem branch3 (b : Fin 4) (r : Fin 8192) (k : Fin 1024) :
    val_main_v69 x5 x6 x7 x8 (ix3 b r k) = MergeSpec.gated (x6 (ix3 b r ⟨3072 + k.val, by have := k.isLt; omega⟩)) (x7 (ix1 ⟨3072 + k.val, by have := k.isLt; omega⟩)) (fun e => x5 (ix3 b r e))
      (fun e => x8 (ix3 3 e k)) := by
  unfold MergeSpec.gated
  pointwise [val_main_v55, val_main_v56, val_main_v57, val_main_v58, val_main_v59, val_main_v60, val_main_v61, val_main_v62, val_main_v63, val_main_v64, val_main_v65, val_main_v66, val_main_v67, val_main_v68, val_main_v69, val_main_cst_6, val_main_cst_7]
  rfl

/-- Their sum. -/
theorem mixed (b : Fin 4) (r : Fin 8192) (k : Fin 1024) :
    val_main_v70 x2 x3 x4 x5 x6 x7 x8 (ix3 b r k) = MergeSpec.mixed (fun k => x6 (ix3 b r k)) (fun k => x7 (ix1 k)) (fun e => x2 (ix3 b r e))
      (fun e => x3 (ix3 b r e)) (fun e => x4 (ix3 b r e)) (fun e => x5 (ix3 b r e)) (fun i e k => x8 (ix3 i e k)) k := by
  unfold MergeSpec.mixed
  rw [← branch0, ← branch1, ← branch2, ← branch3]
  pointwise [val_main_v70, val_main_v54, val_main_v38, val_main_v22, val_main_v21, val_main_cst_1]

/-- The reference's result is the merge of its arguments. -/
theorem result : val_main_v74 x0 x1 x2 x3 x4 x5 x6 x7 x8 x9 = MergeSpec.out x0 x1 x2 x3 x4 x5 x6 x7 x8 x9 := by
  funext i
  obtain ⟨b, r, n, rfl⟩ : ∃ b r n, i = ix3 b r n := ⟨i 0, i 1, i 2, by
    funext a
    match a with
    | ⟨0, _⟩ => rfl
    | ⟨1, _⟩ => rfl
    | ⟨2, _⟩ => rfl⟩
  have h : val_main_v74 x0 x1 x2 x3 x4 x5 x6 x7 x8 x9 (ix3 b r n)
      = MergeSpec.merged (x0 (ix3 b r n)) (x1 (ix3 b 0 ⟨2048 + n.val, by have := n.isLt; omega⟩))
        (fun k => val_main_v70 x2 x3 x4 x5 x6 x7 x8 (ix3 b r k)) (fun k => x9 (ix2 k n)) := by
    unfold MergeSpec.merged
    pointwise [val_main_v74, val_main_v73, val_main_v72, val_main_v71, val_main_v2]
  rw [h]
  show _ = MergeSpec.value x0 x1 x2 x3 x4 x5 x6 x7 x8 x9 b r n
  unfold MergeSpec.value
  exact congrArg (MergeSpec.merged _ _ · _) (funext fun k => mixed x2 x3 x4 x5 x6 x7 x8 b r k)

end Cert.MergeRefIdeal.At

end
-- ==== Proof.MergeValue.lean ====
/- The merge claim: kernel and reference leave the merge of `MergeSpec`. -/
module

public import proofs.«01_k».proof.Defs
public import proofs.«01_k».proof.Proof.MergeArray
public import proofs.«01_k».proof.Proof.MergeRef
public import proofs.«01_k».proof.Proof.Gen.MergeRefIdeal
public import proofs.«01_k».proof.Proof.Gen.MergeRefIdeal.Run

@[expose] public section

noncomputable section

namespace Cert.MergeValue

open Idealize.ShloMosaic Idealize.ShloMosaic.TcCoe Idealize.SL.Sem

/-- Kernel and reference merge compute the same function. -/
theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => Cert.MergeIdeal.Array.spec m c, ?_, ?_⟩
  · refine (θ_run _ _ _).mono (fun r h c => ?_) (Cert.MergeIdeal.Value.run_blocks m g)
    exact ⟨(h c).1.trans (Cert.MergeIdeal.Array.array m c), (h c).2⟩
  · refine (θ_run _ _ _).mono (fun r h c => ?_) (Cert.MergeRefIdeal.Value.run m' g')
    obtain ⟨a0, a1, a2, a3, a4, a5, a6, a7, a8, a9⟩ := hargs c
    refine ⟨((h c).1.trans (Cert.MergeRefIdeal.Read.val_main_v74_eq m' c)).trans ?_, (h c).2⟩
    rw [a0, a1, a2, a3, a4, a5, a6, a7, a8, a9]
    exact Cert.MergeRefIdeal.At.result _ _ _ _ _ _ _ _ _ _

end Cert.MergeValue

end
-- ==== Proof.MoeRoute.lean ====
/- Choosing the largest of finitely many numbers, the lowest position first where two are equal: the maximum and the
   position found by masked reductions, and the same choice by counting the numbers that come before. -/
module

public import Idealize.ShloMosaic.Lib.Pointwise
public import Idealize.ShloMosaic.Lib.Affine
public import proofs.«01_k».proof.Proof.Online

@[expose] public section

noncomputable section

namespace Cert.MoeRoute

open scoped Classical

variable {n : ℕ}

/-- `i` is the first largest among the positions in `M`. -/
def Best (M : Fin n → Prop) (L : Fin n → ℝ) (i : Fin n) : Prop := M i ∧ ∀ j, M j → L j < L i ∨ (L j = L i ∧ i ≤ j)

theorem Best.le {M : Fin n → Prop} {L : Fin n → ℝ} {i : Fin n} (h : Best M L i) (j : Fin n) (hj : M j) : L j ≤ L i :=
  (h.2 j hj).elim (·.le) (·.1.le)

theorem exists_best (M : Fin n → Prop) (L : Fin n → ℝ) (h : ∃ i, M i) : ∃ i, Best M L i := by
  obtain ⟨i0, h0⟩ := h
  obtain ⟨m, hm, hmax⟩ := (Finset.univ.filter M).exists_max_image L ⟨i0, by simpa using h0⟩
  have hne : (Finset.univ.filter fun j => M j ∧ L j = L m).Nonempty := ⟨m, by simpa using hm⟩
  have hi := Finset.min'_mem _ hne
  simp only [Finset.mem_filter, Finset.mem_univ, true_and] at hi
  refine ⟨_, hi.1, fun j hj => ?_⟩
  rcases lt_or_eq_of_le (hmax j (by simpa using hj)) with hlt | heq
  · exact Or.inl (lt_of_lt_of_eq hlt hi.2.symm)
  · exact Or.inr ⟨heq.trans hi.2.symm, Finset.min'_le _ _ (by simpa using ⟨hj, heq⟩)⟩

theorem Best.unique {M : Fin n → Prop} {L : Fin n → ℝ} {i j : Fin n} (hi : Best M L i) (hj : Best M L j) : i = j := by
  rcases hi.2 j hj.1 with h | h
  · exact absurd (hj.le i hi.1) (not_le.2 h)
  · rcases hj.2 i hi.1 with h' | h'
    · exact absurd h.1 h'.ne'
    · exact le_antisymm h.2 h'.2

/-- The choice depends on the order of the numbers alone. -/
theorem Best.of_mono {M : Fin n → Prop} {L K : Fin n → ℝ} (h : ∀ i j, L i < L j ↔ K i < K j) {i : Fin n} (hi : Best M L i) :
    Best M K i := by
  refine ⟨hi.1, fun j hj => ?_⟩
  rcases hi.2 j hj with h' | h'
  · exact Or.inl ((h _ _).1 h')
  · refine Or.inr ⟨le_antisymm ?_ ?_, h'.2⟩
    · exact not_lt.1 fun c => absurd ((h _ _).2 c) (by rw [h'.1]; exact lt_irrefl _)
    · exact not_lt.1 fun c => absurd ((h _ _).2 c) (by rw [h'.1]; exact lt_irrefl _)

/-- The masked maximum is the chosen number. -/
theorem Best.top {M : Fin n → Prop} {L : Fin n → ℝ} {i : Fin n} (h : Best M L i) (f : Fin n → EReal)
    (h1 : ∀ j, M j → f j = (L j : EReal)) (h0 : ∀ j, ¬M j → f j = ⊥) : Finset.univ.fold max ⊥ f = (L i : EReal) := by
  refine le_antisymm ((Finset.fold_max_le _).2 ⟨bot_le, fun j _ => ?_⟩)
    ((Finset.le_fold_max _).2 (Or.inr ⟨i, Finset.mem_univ _, (h1 i h.1).ge⟩))
  by_cases hj : M j
  · rw [h1 j hj]; exact EReal.coe_le_coe_iff.2 (h.le j hj)
  · rw [h0 j hj]; exact bot_le

/-- The lowest position among the masked ones that hold the chosen number is the chosen position. -/
theorem Best.first {M : Fin n → Prop} {L : Fin n → ℝ} {i : Fin n} (h : Best M L i) (f : Fin n → EReal) (b : EReal)
    (hb : (((i : ℕ) : ℝ) : EReal) ≤ b) (h1 : ∀ j, M j → L j = L i → f j = (((j : ℕ) : ℝ) : EReal))
    (h0 : ∀ j, ¬(M j ∧ L j = L i) → f j = b) : Finset.univ.fold min ⊤ f = (((i : ℕ) : ℝ) : EReal) := by
  refine le_antisymm ((Finset.fold_min_le _).2 (Or.inr ⟨i, Finset.mem_univ _, (h1 i h.1 rfl).le⟩))
    ((Finset.le_fold_min _).2 ⟨le_top, fun j _ => ?_⟩)
  by_cases hj : M j ∧ L j = L i
  · rw [h1 j hj.1 hj.2]
    rcases h.2 j hj.1 with h' | h'
    · exact absurd hj.2 h'.ne
    · exact EReal.coe_le_coe_iff.2 (Nat.cast_le.2 h'.2)
  · rw [h0 j hj]; exact hb

/-- `j` comes before `i`. -/
def Before (L : Fin n → ℝ) (j i : Fin n) : Prop := L i < L j ∨ (L j = L i ∧ j < i)

theorem Best.before {M : Fin n → Prop} {L : Fin n → ℝ} {i : Fin n} (h : Best M L i) (j : Fin n) (hj : M j) (hne : j ≠ i) :
    Before L i j :=
  (h.2 j hj).imp id fun h' => ⟨h'.1.symm, lt_of_le_of_ne h'.2 (Ne.symm hne)⟩

theorem Best.not_before {M : Fin n → Prop} {L : Fin n → ℝ} {i : Fin n} (h : Best M L i) (j : Fin n) (hj : M j) : ¬Before L j i := by
  rintro (c | c)
  · exact absurd (h.le j hj) (not_le.2 c)
  · rcases h.2 j hj with h' | h'
    · exact absurd c.1 h'.ne
    · exact absurd c.2 (not_lt.2 h'.2)

/-- How many numbers come before the one at `i`, as the sum of comparisons that it is. -/
theorem rank_eq (L : Fin n → ℝ) (i : Fin n) :
    (∑ j : Fin n, if Before L j i then (1 : EReal) else 0)
      = (((Finset.univ.filter fun j => Before L j i).card : ℝ) : EReal) := by
  have : ∀ j, (if Before L j i then (1 : EReal) else 0) = (((if Before L j i then 1 else 0 : ℝ)) : EReal) := fun j => by
    split <;> simp
  rw [Finset.sum_congr rfl fun j _ => this j, Online.coe_sum, Finset.sum_boole]

/-- Nothing comes before the first largest, and it is the only such. -/
theorem rank_lt_one {L : Fin n → ℝ} {a : Fin n} (h : Best (fun _ => True) L a) (i : Fin n) :
    (Finset.univ.filter fun j => Before L j i).card < 1 ↔ i = a := by
  rw [Nat.lt_one_iff, Finset.card_eq_zero, Finset.filter_eq_empty_iff]
  constructor
  · intro hi
    by_contra hne
    exact hi (Finset.mem_univ a) (h.before i trivial hne)
  · rintro rfl j -
    exact h.not_before j trivial

/-- Fewer than two come before the first largest and the first largest of the others, and before no other. -/
theorem rank_lt_two {L : Fin n → ℝ} {a b : Fin n} (h : Best (fun _ => True) L a) (h' : Best (fun j => j ≠ a) L b) (i : Fin n) :
    (Finset.univ.filter fun j => Before L j i).card < 2 ↔ i = a ∨ i = b := by
  constructor
  · intro hi
    by_contra hne
    rw [not_or] at hne
    have hs : ({a, b} : Finset (Fin n)) ⊆ Finset.univ.filter fun j => Before L j i := by
      intro j hj
      simp only [Finset.mem_insert, Finset.mem_singleton] at hj
      rcases hj with rfl | rfl
      · simpa using h.before i trivial hne.1
      · simpa using h'.before i hne.1 hne.2
    have := Finset.card_le_card hs
    rw [Finset.card_pair (Ne.symm h'.1)] at this
    omega
  · rintro (rfl | rfl)
    · have := (rank_lt_one h i).2 rfl
      omega
    · have hs : (Finset.univ.filter fun j => Before L j i) ⊆ {a} := by
        intro j hj
        simp only [Finset.mem_filter, Finset.mem_univ, true_and] at hj
        by_contra hne
        exact h'.not_before j (by simpa using hne) hj
      have := Finset.card_le_card hs
      rw [Finset.card_singleton] at this
      omega

end Cert.MoeRoute

end
-- ==== Proof.MoePay.lean ====
/- The router's part of the experts' kernel, read at a row of 128 lanes: the first four hold the groups' logits, the next
   sixteen the experts'. The group chosen, the two experts chosen in it, and the lanes' weights. -/
module

public import proofs.«01_k».proof.Proof.MoeRoute
public import proofs.«01_k».proof.Proof.Gen.MoeIdeal.Skeleton
public import proofs.«01_k».proof.Proof.Online
public import Idealize.ShloMosaic.Lib.WordCmp
public import Idealize.ShloMosaic.Lib.Pointwise

@[expose] public section

noncomputable section

namespace Cert.MoeIdeal.Pay

open Idealize.ShloMosaic Idealize.ShloMosaic.TcCoe Cert.MoeIdeal Cert.MoeIdeal.Gen Cert.MoeRoute
open Idealize.ShloMosaic.WordCmp (ofBool_decide_eq_one_iff)

theorem four_word : Ideal.ofBits .f32 0x40800000#32 = ((4 : ℝ) : EReal) := by
  unfold Ideal.ofBits Ideal.ieee
  dsimp only
  rw [if_neg (by decide), if_neg (by decide), if_neg (by decide)]
  rw [EReal.coe_eq_coe_iff]
  norm_num [Nat.shiftRight_eq_div_pow]
theorem top_word : Ideal.ofBits .f32 0x7F800000#32 = (⊤ : EReal) := by
  simp [Ideal.ofBits, Ideal.ieee, FTy.bits]
theorem bot_word : Ideal.ofBits .f32 0xFF800000#32 = (⊥ : EReal) := by
  simp [Ideal.ofBits, Ideal.ieee, FTy.bits]
/-- The constant named the mask is minus infinity. -/
theorem mask_bot : (Named.named κ "mask" 0xF149F2CA#32 : Ideal .f32) = (⊥ : EReal) := rfl
theorem lanes_word : (((128#32).toInt : ℝ) : EReal) = ((128 : ℝ) : EReal) := by
  rw [show (128#32).toInt = 128 by decide]; norm_num

theorem sel_pos {α : Type} {c : BitVec 1} {a b : α} (h : c = 1#1) : Scalar.select c a b = a := if_pos h
theorem sel_neg {α : Type} {c : BitVec 1} {a b : α} (h : ¬c = 1#1) : Scalar.select c a b = b := if_neg h

/-- A lane's number. -/
theorem lane (r : Fin 1024) (j : Fin 128) : k0_pay13 (F := Ideal) (ix2 r j) = (((j : ℕ) : ℝ) : EReal) := by
  have e : (BitVec.ofNat 32 j.val).toInt = (j.val : ℤ) := by revert j; decide +kernel
  have e' : k0_pay13 (F := Ideal) (ix2 r j) = (((BitVec.ofNat 32 j.val).toInt : ℝ) : EReal) := by
    pointwise [k0_pay13]
    rfl
  rw [e', e, Int.cast_natCast]

/-- The lanes of the groups' logits. -/
abbrev Groups (j : Fin 128) : Prop := j.val < 4
/-- The lanes of the logits of group `g`'s experts. -/
abbrev Experts (g : Fin 128) (j : Fin 128) : Prop := 4 + 4 * g.val ≤ j.val ∧ j.val < 8 + 4 * g.val

variable {v : FVec Ideal S1024x128 .f32} {r : Fin 1024} {L : Fin 128 → ℝ} {g a b : Fin 128}

theorem groups_mask (j : Fin 128) : k0_pay6 (k0_pay13 (F := Ideal)) (ix2 r j) = 1#1 ↔ Groups j := by
  have e : k0_pay6 (k0_pay13 (F := Ideal)) (ix2 r j)
      = BitVec.ofBool (decide (k0_pay13 (F := Ideal) (ix2 r j) < Ideal.ofBits .f32 0x40800000#32)) := by
    pointwise [k0_pay6]
  rw [e, ofBool_decide_eq_one_iff, lane, four_word, EReal.coe_lt_coe_iff]
  exact_mod_cast Iff.rfl

theorem group_top (hv : ∀ j, v (ix2 r j) = (L j : EReal)) (hg : Best Groups L g) :
    k0_pay7 k0_pay13 v (ix2 r 0) = (L g : EReal) := by
  have e : k0_pay7 k0_pay13 v (ix2 r 0) = Finset.univ.fold max (Ideal.ofBits .f32 0xFF800000#32)
      fun x : Fin 128 => Scalar.select (k0_pay6 (k0_pay13 (F := Ideal)) (ix2 r x)) (v (ix2 r x))
        (Named.named κ "mask" 0xF149F2CA#32 : Ideal .f32) := by
    pointwise [k0_pay7]
  rw [e, bot_word]
  exact hg.top _ (fun j hj => (sel_pos ((groups_mask j).2 hj)).trans (hv j))
    (fun j hj => (sel_neg fun h => hj ((groups_mask j).1 h)).trans mask_bot)

/-- The chosen group's weight. -/
def groupWeight (L : Fin 128 → ℝ) (g : Fin 128) : ℝ := 1 / ∑ x : Fin 128, if Groups x then Real.exp (L x - L g) else 0

theorem total_pos (hg : Groups g) : 0 < ∑ x : Fin 128, if Groups x then Real.exp (L x - L g) else 0 :=
  Finset.sum_pos' (fun x _ => by split <;> positivity) ⟨g, Finset.mem_univ _, by rw [if_pos hg]; positivity⟩

theorem group_weight (hv : ∀ j, v (ix2 r j) = (L j : EReal)) (hg : Best Groups L g) :
    k0_pay8 k0_pay13 v (ix2 r 0) = (groupWeight L g : EReal) := by
  have e : k0_pay8 k0_pay13 v (ix2 r 0) = Ideal.div 1 (∑ x : Fin 128, Scalar.select (k0_pay6 (k0_pay13 (F := Ideal)) (ix2 r x))
      (Ideal.exp (v (ix2 r x) - k0_pay7 k0_pay13 v (ix2 r 0))) 0) := by
    pointwise [k0_pay8]
  have es : ∀ x : Fin 128, Scalar.select (k0_pay6 (k0_pay13 (F := Ideal)) (ix2 r x))
      (Ideal.exp (v (ix2 r x) - k0_pay7 k0_pay13 v (ix2 r 0))) 0
        = ((if Groups x then Real.exp (L x - L g) else 0 : ℝ) : EReal) := fun x => by
    rw [group_top hv hg, hv]
    by_cases hx : Groups x
    · rw [sel_pos ((groups_mask x).2 hx), if_pos hx, ← EReal.coe_sub]; rfl
    · rw [sel_neg fun h => hx ((groups_mask x).1 h), if_neg hx]; rfl
  rw [e, Finset.sum_congr rfl fun x _ => es x, Online.coe_sum]
  exact Online.div_coe_coe 1 _ (total_pos hg.1).ne'

/-- The lanes of the chosen group's experts. -/
theorem experts_mask (hv : ∀ j, v (ix2 r j) = (L j : EReal)) (hg : Best Groups L g) (j : Fin 128) :
    k0_pay9 k0_pay13 v (ix2 r j) = 1#1 ↔ Experts g j := by
  have hi : (Finset.univ.fold min (Ideal.ofBits .f32 0x7F800000#32) fun x : Fin 128 =>
      Scalar.select (IntOp.andi (k0_pay6 (k0_pay13 (F := Ideal)) (ix2 r x))
        (BitVec.ofBool (decide (v (ix2 r x) = k0_pay7 k0_pay13 v (ix2 r 0))))) (k0_pay13 (F := Ideal) (ix2 r x))
        (((128#32).toInt : ℝ) : EReal)) = (((g : ℕ) : ℝ) : EReal) := by
    have hm : ∀ x, IntOp.andi (k0_pay6 (k0_pay13 (F := Ideal)) (ix2 r x))
        (BitVec.ofBool (decide (v (ix2 r x) = k0_pay7 k0_pay13 v (ix2 r 0)))) = 1#1 ↔ Groups x ∧ L x = L g := fun x => by
      rw [IntOp.andi_eq_one, groups_mask, ofBool_decide_eq_one_iff, group_top hv hg, hv, EReal.coe_eq_coe_iff]
    rw [top_word]
    exact hg.first _ ((128 : ℝ) : EReal) (EReal.coe_le_coe_iff.2 (by exact_mod_cast g.isLt.le))
      (fun x h1 h2 => (sel_pos ((hm x).2 ⟨h1, h2⟩)).trans (lane r x)) (fun x h => (sel_neg fun c => h ((hm x).1 c)).trans lanes_word)
  have e : k0_pay9 k0_pay13 v (ix2 r j) = IntOp.andi
      (BitVec.ofBool (decide (((4 : ℝ) : EReal) + (((g : ℕ) : ℝ) : EReal) * ((4 : ℝ) : EReal) ≤ k0_pay13 (F := Ideal) (ix2 r j))))
      (BitVec.ofBool (decide (k0_pay13 (F := Ideal) (ix2 r j)
        < ((4 : ℝ) : EReal) + (((g : ℕ) : ℝ) : EReal) * ((4 : ℝ) : EReal) + ((4 : ℝ) : EReal)))) := by
    rw [← hi, ← four_word]
    pointwise [k0_pay9]
  rw [e, IntOp.andi_eq_one, ofBool_decide_eq_one_iff, ofBool_decide_eq_one_iff, lane, ← EReal.coe_mul, ← EReal.coe_add,
    ← EReal.coe_add, EReal.coe_le_coe_iff, EReal.coe_lt_coe_iff]
  constructor
  · rintro ⟨h1, h2⟩
    exact ⟨by have : ((4 + 4 * g.val : ℕ) : ℝ) ≤ (j.val : ℝ) := by push_cast; linarith
              exact_mod_cast this,
      by have : (j.val : ℝ) < ((8 + 4 * g.val : ℕ) : ℝ) := by push_cast; linarith
         exact_mod_cast this⟩
  · rintro ⟨h1, h2⟩
    have h1' : ((4 + 4 * g.val : ℕ) : ℝ) ≤ (j.val : ℝ) := by exact_mod_cast h1
    have h2' : (j.val : ℝ) < ((8 + 4 * g.val : ℕ) : ℝ) := by exact_mod_cast h2
    push_cast at h1' h2'
    exact ⟨by linarith, by linarith⟩

theorem expert_masked (j : Fin 128) : k0_pay10 k0_pay13 v (ix2 r j)
    = Scalar.select (k0_pay9 k0_pay13 v (ix2 r j)) (v (ix2 r j)) (Named.named κ "mask" 0xF149F2CA#32 : Ideal .f32) := by
  pointwise [k0_pay10]

/-- The largest logit of the chosen group's experts. -/
theorem first_top (hv : ∀ j, v (ix2 r j) = (L j : EReal)) (hg : Best Groups L g) (ha : Best (Experts g) L a) :
    k0_pay11 k0_pay13 v (ix2 r 0) = (L a : EReal) := by
  have e : k0_pay11 k0_pay13 v (ix2 r 0) = Finset.univ.fold max (Ideal.ofBits .f32 0xFF800000#32)
      fun x : Fin 128 => k0_pay10 k0_pay13 v (ix2 r x) := by
    pointwise [k0_pay11]
  rw [e, bot_word]
  exact ha.top _ (fun j hj => (expert_masked j).trans ((sel_pos ((experts_mask hv hg j).2 hj)).trans (hv j)))
    (fun j hj => (expert_masked j).trans ((sel_neg fun h => hj ((experts_mask hv hg j).1 h)).trans mask_bot))

/-- Its lane. -/
theorem first_lane (hv : ∀ j, v (ix2 r j) = (L j : EReal)) (hg : Best Groups L g) (ha : Best (Experts g) L a) :
    k0_pay12 k0_pay13 v (ix1 r) = (((a : ℕ) : ℝ) : EReal) := by
  have e : k0_pay12 k0_pay13 v (ix1 r) = Finset.univ.fold min (Ideal.ofBits .f32 0x7F800000#32) fun x : Fin 128 =>
      Scalar.select (IntOp.andi (k0_pay9 k0_pay13 v (ix2 r x))
        (BitVec.ofBool (decide (k0_pay10 k0_pay13 v (ix2 r x) = k0_pay11 k0_pay13 v (ix2 r 0))))) (k0_pay13 (F := Ideal) (ix2 r x))
        (((128#32).toInt : ℝ) : EReal) := by
    pointwise [k0_pay12]
  have hm : ∀ x, IntOp.andi (k0_pay9 k0_pay13 v (ix2 r x))
      (BitVec.ofBool (decide (k0_pay10 k0_pay13 v (ix2 r x) = k0_pay11 k0_pay13 v (ix2 r 0)))) = 1#1 ↔ Experts g x ∧ L x = L a := fun x => by
    rw [IntOp.andi_eq_one, ofBool_decide_eq_one_iff, first_top hv hg ha, expert_masked]
    constructor
    · rintro ⟨h1, h2⟩
      rw [sel_pos h1, hv, EReal.coe_eq_coe_iff] at h2
      exact ⟨(experts_mask hv hg x).1 h1, h2⟩
    · rintro ⟨h1, h2⟩
      have h1' := (experts_mask hv hg x).2 h1
      exact ⟨h1', by rw [sel_pos h1', hv, h2]⟩
  rw [e, top_word]
  exact ha.first _ ((128 : ℝ) : EReal) (EReal.coe_le_coe_iff.2 (by exact_mod_cast a.isLt.le))
    (fun x h1 h2 => (sel_pos ((hm x).2 ⟨h1, h2⟩)).trans (lane r x)) (fun x h => (sel_neg fun c => h ((hm x).1 c)).trans lanes_word)

/-- The lanes' weights: the chosen group's, shared between its two chosen experts. -/
theorem weights (hv : ∀ j, v (ix2 r j) = (L j : EReal)) (hg : Best Groups L g) (ha : Best (Experts g) L a)
    (hb : Best (fun j => Experts g j ∧ j ≠ a) L b) (j : Fin 128) :
    k0_pay14 v (k0_pay8 k0_pay13 v) (k0_pay9 k0_pay13 v) (k0_pay11 k0_pay13 v) (k0_pay12 k0_pay13 v) (ix2 r j)
      = (((if j = a then groupWeight L g / (1 + Real.exp (L b - L a)) else 0)
          + if j = b then groupWeight L g / (1 + Real.exp (L b - L a)) * Real.exp (L b - L a) else 0 : ℝ) : EReal) := by
  have hm : ∀ x : Fin 128, IntOp.andi (k0_pay9 k0_pay13 v (ix2 r x))
      (BitVec.ofBool (decide (k0_pay13 (F := Ideal) (ix2 r x) ≠ k0_pay12 k0_pay13 v (ix1 r)))) = 1#1 ↔ Experts g x ∧ x ≠ a := fun x => by
    rw [IntOp.andi_eq_one, ofBool_decide_eq_one_iff, experts_mask hv hg, first_lane hv hg ha, lane, Ne, EReal.coe_eq_coe_iff,
      Nat.cast_inj, ← Fin.ext_iff]
  have htop : (Finset.univ.fold max (⊥ : EReal) fun x : Fin 128 => Scalar.select (IntOp.andi (k0_pay9 k0_pay13 v (ix2 r x))
        (BitVec.ofBool (decide (k0_pay13 (F := Ideal) (ix2 r x) ≠ k0_pay12 k0_pay13 v (ix1 r))))) (v (ix2 r x))
        (Named.named κ "mask" 0xF149F2CA#32 : Ideal .f32)) = (L b : EReal) :=
    hb.top _ (fun x hx => (sel_pos ((hm x).2 hx)).trans (hv x)) fun x hx => (sel_neg fun c => hx ((hm x).1 c)).trans mask_bot
  have hl : (Finset.univ.fold min (⊤ : EReal) fun x : Fin 128 => Scalar.select (IntOp.andi
      (IntOp.andi (k0_pay9 k0_pay13 v (ix2 r x)) (BitVec.ofBool (decide (k0_pay13 (F := Ideal) (ix2 r x) ≠ k0_pay12 k0_pay13 v (ix1 r)))))
      (BitVec.ofBool (decide (Scalar.select (IntOp.andi (k0_pay9 k0_pay13 v (ix2 r x))
        (BitVec.ofBool (decide (k0_pay13 (F := Ideal) (ix2 r x) ≠ k0_pay12 k0_pay13 v (ix1 r))))) (v (ix2 r x))
        (Named.named κ "mask" 0xF149F2CA#32 : Ideal .f32) = (L b : EReal))))) (k0_pay13 (F := Ideal) (ix2 r x)) (((128#32).toInt : ℝ) : EReal))
        = (((b : ℕ) : ℝ) : EReal) := by
    have hm' : ∀ x : Fin 128, IntOp.andi
        (IntOp.andi (k0_pay9 k0_pay13 v (ix2 r x)) (BitVec.ofBool (decide (k0_pay13 (F := Ideal) (ix2 r x) ≠ k0_pay12 k0_pay13 v (ix1 r)))))
        (BitVec.ofBool (decide (Scalar.select (IntOp.andi (k0_pay9 k0_pay13 v (ix2 r x))
        (BitVec.ofBool (decide (k0_pay13 (F := Ideal) (ix2 r x) ≠ k0_pay12 k0_pay13 v (ix1 r))))) (v (ix2 r x))
        (Named.named κ "mask" 0xF149F2CA#32 : Ideal .f32) = (L b : EReal)))) = 1#1 ↔ (Experts g x ∧ x ≠ a) ∧ L x = L b := fun x => by
      rw [IntOp.andi_eq_one, hm, ofBool_decide_eq_one_iff]
      constructor
      · rintro ⟨h1, h2⟩
        rw [sel_pos ((hm x).2 h1), hv, EReal.coe_eq_coe_iff] at h2
        exact ⟨h1, h2⟩
      · rintro ⟨h1, h2⟩
        exact ⟨h1, by rw [sel_pos ((hm x).2 h1), hv, h2]⟩
    exact hb.first _ ((128 : ℝ) : EReal) (EReal.coe_le_coe_iff.2 (by exact_mod_cast b.isLt.le))
      (fun x h1 h2 => (sel_pos ((hm' x).2 ⟨h1, h2⟩)).trans (lane r x)) (fun x h => (sel_neg fun c => h ((hm' x).1 c)).trans lanes_word)
  have e : k0_pay14 v (k0_pay8 k0_pay13 v) (k0_pay9 k0_pay13 v) (k0_pay11 k0_pay13 v) (k0_pay12 k0_pay13 v) (ix2 r j)
      = (if k0_pay13 (F := Ideal) (ix2 r j) = k0_pay12 k0_pay13 v (ix1 r) then
          Ideal.div (k0_pay8 k0_pay13 v (ix2 r 0)) (1 + Ideal.exp ((L b : EReal) - k0_pay11 k0_pay13 v (ix2 r 0))) else 0)
        + if k0_pay13 (F := Ideal) (ix2 r j) = (((b : ℕ) : ℝ) : EReal) then
          Ideal.div (k0_pay8 k0_pay13 v (ix2 r 0)) (1 + Ideal.exp ((L b : EReal) - k0_pay11 k0_pay13 v (ix2 r 0)))
            * Ideal.exp ((L b : EReal) - k0_pay11 k0_pay13 v (ix2 r 0)) else 0 := by
    rw [← hl, ← htop, ← bot_word, ← top_word]
    pointwise [k0_pay14]
  rw [e]
  simp only [group_weight hv hg, first_top hv hg ha]
  have hj : ∀ i : Fin 128, ((((j : ℕ) : ℝ) : EReal) = (((i : ℕ) : ℝ) : EReal)) ↔ j = i := fun i => by
    rw [EReal.coe_eq_coe_iff, Nat.cast_inj, ← Fin.ext_iff]
  simp only [first_lane hv hg ha, lane, hj]
  have hx : Ideal.exp ((L b : EReal) - (L a : EReal)) = ((Real.exp (L b - L a) : ℝ) : EReal) := by rw [← EReal.coe_sub]; rfl
  have hd : Ideal.div (groupWeight L g : EReal) (1 + ((Real.exp (L b - L a) : ℝ) : EReal))
      = ((groupWeight L g / (1 + Real.exp (L b - L a)) : ℝ) : EReal) := by
    rw [← EReal.coe_one, ← EReal.coe_add]
    exact Online.div_coe_coe _ _ (by positivity)
  rw [hx, hd, EReal.coe_add]
  refine congrArg₂ (fun p q : EReal => p + q) ?_ ?_
  · by_cases h : j = a
    · rw [if_pos h, if_pos h]
    · rw [if_neg h, if_neg h, EReal.coe_zero]
  · by_cases h : j = b
    · rw [if_pos h, if_pos h, EReal.coe_mul]
    · rw [if_neg h, if_neg h, EReal.coe_zero]

/-- One expert's step: its output, weighted by its lane, is added. -/
theorem step (i : grid0.Coords) (h : Vec Ideal S1024x1024 .bf16) (w1 w3 : Vec Ideal S1x1024x512 .bf16) (w : Vec Ideal S1024x128 .f32)
    (acc : Vec Ideal S1024x1024 .f32) (w2 : Vec Ideal S1x512x1024 .bf16) (r n : Fin 1024) (e : Fin 16) (he : (i 2).val = e.val) :
    k0_pay16 i h w1 w3 w acc w2 (ix2 r n) = acc (ix2 r n) + w (ix2 r ⟨e.val + 4, by have := e.isLt; omega⟩)
      * ∑ f : Fin 512, ((∑ k : Fin 1024, h (ix2 r k) * w1 (ix3 0 k f)) * Ideal.logistic (∑ k : Fin 1024, h (ix2 r k) * w1 (ix3 0 k f))
          * ∑ k : Fin 1024, h (ix2 r k) * w3 (ix3 0 k f)) * w2 (ix3 0 f n) := by
  have hc : ∀ x : Fin 128, k0_pay13 (F := Ideal) (ix2 r x) = (((Scalar.addi (BitVec.ofNat 32 (i 2).val) 4#32).toInt : ℝ) : EReal)
      ↔ x = ⟨e.val + 4, by have := e.isLt; omega⟩ := fun x => by
    have hi : (Scalar.addi (BitVec.ofNat 32 (i 2).val) 4#32).toInt = ((e.val + 4 : ℕ) : ℤ) := by
      rw [he]
      exact (by decide : ∀ e : Fin 16, (Scalar.addi (BitVec.ofNat 32 e.val) 4#32).toInt = ((e.val + 4 : ℕ) : ℤ)) e
    rw [lane, hi, EReal.coe_eq_coe_iff, Fin.ext_iff]
    constructor
    · intro h; exact_mod_cast h
    · intro h; rw [h]; push_cast; rfl
  pointwise [k0_pay16]
  simp only [hc, Finset.sum_ite_eq', Finset.sum_ite_eq, Finset.mem_univ, if_true]

end Cert.MoeIdeal.Pay

end
-- ==== Proof.MoeSpec.lean ====
/- The layer of experts in plain words: a row is normalised and modulated; of its group logits the best group is chosen,
   of that group's expert logits the best two; the experts' outputs are added up, weighted. -/
module

public import proofs.«01_k».proof.Proof.ProjSpec
public import proofs.«01_k».proof.Proof.MoePay

@[expose] public section

noncomputable section

namespace Cert.MoeSpec

open Idealize.ShloMosaic Cert.MoeRoute
open scoped Classical

/-- The modulated row `r` of batch `b`. -/
def row (x : (⟨3, ![4, 8192, 1024]⟩ : Shape).Idx → EReal) (md : (⟨3, ![4, 1, 6144]⟩ : Shape).Idx → EReal)
    (g : (⟨1, ![1024]⟩ : Shape).Idx → EReal) (b : Fin 4) (r : Fin 8192) : Fin 1024 → EReal :=
  ProjSpec.norm (fun k => x (ix3 b r k)) (fun k => g (ix1 k)) (fun k => md (ix3 b 0 ⟨4096 + k.val, by have := k.isLt; omega⟩))
    (fun k => md (ix3 b 0 ⟨3072 + k.val, by have := k.isLt; omega⟩))

/-- A column of the two routers' weights side by side, the groups' in lanes 0 to 3, the experts' in 4 to 19, zeros after. -/
def lanes {α : Type} (z : α) (u : Fin 4 → α) (v : Fin 16 → α) (j : Fin 128) : α :=
  if h : j.val < 4 then u ⟨j.val, h⟩ else if h : j.val - 4 < 16 then v ⟨j.val - 4, h⟩ else z

/-- A row's logits: its products with the routers' columns, and their biases. -/
def logit (h : Fin 1024 → EReal) (wg : (⟨2, ![1024, 4]⟩ : Shape).Idx → EReal) (bg : (⟨1, ![4]⟩ : Shape).Idx → EReal)
    (we : (⟨2, ![1024, 16]⟩ : Shape).Idx → EReal) (be : (⟨1, ![16]⟩ : Shape).Idx → EReal) (j : Fin 128) : EReal :=
  (∑ k, h k * lanes 0 (fun i => wg (ix2 k i)) (fun i => we (ix2 k i)) j) + lanes 0 (fun i => bg (ix1 i)) (fun i => be (ix1 i)) j

/-- The best of the lanes that satisfy `M`, if there is one. -/
def pick (M : Fin 128 → Prop) (L : Fin 128 → ℝ) : Fin 128 := if h : ∃ i, Best M L i then h.choose else 0

theorem pick_best {M : Fin 128 → Prop} (L : Fin 128 → ℝ) (h : ∃ i, M i) : Best M L (pick M L) := by
  have e : ∃ i, Best M L i := exists_best M L h
  unfold pick
  rw [dif_pos e]
  exact e.choose_spec

/-- The group chosen, and its two experts. -/
def group (L : Fin 128 → ℝ) : Fin 128 := pick MoeIdeal.Pay.Groups L
def first (L : Fin 128 → ℝ) : Fin 128 := pick (MoeIdeal.Pay.Experts (group L)) L
def second (L : Fin 128 → ℝ) : Fin 128 := pick (fun j => MoeIdeal.Pay.Experts (group L) j ∧ j ≠ first L) L

theorem group_best (L : Fin 128 → ℝ) : Best MoeIdeal.Pay.Groups L (group L) := pick_best L ⟨0, by decide⟩
theorem first_best (L : Fin 128 → ℝ) : Best (MoeIdeal.Pay.Experts (group L)) L (first L) :=
  pick_best L ⟨⟨4 + 4 * (group L).val, by have : (group L).val < 4 := (group_best L).1; omega⟩, by dsimp only; omega, by dsimp only; omega⟩
theorem second_best (L : Fin 128 → ℝ) : Best (fun j => MoeIdeal.Pay.Experts (group L) j ∧ j ≠ first L) L (second L) := by
  have hg : (group L).val < 4 := (group_best L).1
  refine pick_best L ?_
  by_cases h : (first L).val = 4 + 4 * (group L).val
  · exact ⟨⟨5 + 4 * (group L).val, by omega⟩, ⟨by dsimp only; omega, by dsimp only; omega⟩, fun e => by have := congrArg Fin.val e; dsimp only at this; omega⟩
  · exact ⟨⟨4 + 4 * (group L).val, by omega⟩, ⟨by dsimp only; omega, by dsimp only; omega⟩, fun e => by have := congrArg Fin.val e; dsimp only at this; omega⟩

/-- A lane's weight. -/
def weight (L : Fin 128 → ℝ) (j : Fin 128) : ℝ :=
  (if j = first L then MoeIdeal.Pay.groupWeight L (group L) / (1 + Real.exp (L (second L) - L (first L))) else 0)
    + if j = second L then MoeIdeal.Pay.groupWeight L (group L) / (1 + Real.exp (L (second L) - L (first L)))
        * Real.exp (L (second L) - L (first L)) else 0

/-- One expert's output at column `n`. -/
def expert (h : Fin 1024 → EReal) (w1 w3 : Fin 1024 → Fin 512 → EReal) (w2 : Fin 512 → EReal) : EReal :=
  ∑ f, ((∑ k, h k * w1 k f) * Ideal.logistic (∑ k, h k * w1 k f) * ∑ k, h k * w3 k f) * w2 f

theorem expert_congr {h h' : Fin 1024 → EReal} {w1 w1' w3 w3' : Fin 1024 → Fin 512 → EReal} {w2 w2' : Fin 512 → EReal}
    (e : ∀ k, h k = h' k) (e1 : ∀ k f, w1 k f = w1' k f) (e3 : ∀ k f, w3 k f = w3' k f) (e2 : ∀ f, w2 f = w2' f) :
    expert h w1 w3 w2 = expert h' w1' w3' w2' := by
  obtain rfl : h = h' := funext e
  obtain rfl : w1 = w1' := funext fun k => funext (e1 k)
  obtain rfl : w3 = w3' := funext fun k => funext (e3 k)
  obtain rfl : w2 = w2' := funext e2
  rfl

/-- The weighted sum of the experts' outputs. -/
def mixed (h : Fin 1024 → EReal) (L : Fin 128 → ℝ) (w1 w3 : (⟨3, ![16, 1024, 512]⟩ : Shape).Idx → EReal)
    (w2 : (⟨3, ![16, 512, 1024]⟩ : Shape).Idx → EReal) (n : Fin 1024) : EReal :=
  ∑ e : Fin 16, (weight L ⟨e.val + 4, by have := e.isLt; omega⟩ : EReal)
    * expert h (fun k f => w1 (ix3 e k f)) (fun k f => w3 (ix3 e k f)) (fun f => w2 (ix3 e f n))

/-- The layer at batch `b`, row `r`, column `n`. -/
def value (x : (⟨3, ![4, 8192, 1024]⟩ : Shape).Idx → EReal) (md : (⟨3, ![4, 1, 6144]⟩ : Shape).Idx → EReal)
    (g : (⟨1, ![1024]⟩ : Shape).Idx → EReal) (wg : (⟨2, ![1024, 4]⟩ : Shape).Idx → EReal) (bg : (⟨1, ![4]⟩ : Shape).Idx → EReal)
    (we : (⟨2, ![1024, 16]⟩ : Shape).Idx → EReal) (be : (⟨1, ![16]⟩ : Shape).Idx → EReal)
    (w1 w3 : (⟨3, ![16, 1024, 512]⟩ : Shape).Idx → EReal) (w2 : (⟨3, ![16, 512, 1024]⟩ : Shape).Idx → EReal)
    (b : Fin 4) (r : Fin 8192) (n : Fin 1024) : EReal :=
  x (ix3 b r n) + md (ix3 b 0 ⟨5120 + n.val, by have := n.isLt; omega⟩)
    * mixed (row x md g b r) (fun j => (logit (row x md g b r) wg bg we be j).toReal) w1 w3 w2 n

/-- … as an array. -/
def out (x : (⟨3, ![4, 8192, 1024]⟩ : Shape).Idx → EReal) (md : (⟨3, ![4, 1, 6144]⟩ : Shape).Idx → EReal)
    (g : (⟨1, ![1024]⟩ : Shape).Idx → EReal) (wg : (⟨2, ![1024, 4]⟩ : Shape).Idx → EReal) (bg : (⟨1, ![4]⟩ : Shape).Idx → EReal)
    (we : (⟨2, ![1024, 16]⟩ : Shape).Idx → EReal) (be : (⟨1, ![16]⟩ : Shape).Idx → EReal)
    (w1 w3 : (⟨3, ![16, 1024, 512]⟩ : Shape).Idx → EReal) (w2 : (⟨3, ![16, 512, 1024]⟩ : Shape).Idx → EReal) :
    (⟨3, ![4, 8192, 1024]⟩ : Shape).Idx → EReal :=
  fun i => value x md g wg bg we be w1 w3 w2 (i 0) (i 1) (i 2)

/-- All the routers' logits are real numbers. -/
def Routed (x : (⟨3, ![4, 8192, 1024]⟩ : Shape).Idx → EReal) (md : (⟨3, ![4, 1, 6144]⟩ : Shape).Idx → EReal)
    (g : (⟨1, ![1024]⟩ : Shape).Idx → EReal) (wg : (⟨2, ![1024, 4]⟩ : Shape).Idx → EReal) (bg : (⟨1, ![4]⟩ : Shape).Idx → EReal)
    (we : (⟨2, ![1024, 16]⟩ : Shape).Idx → EReal) (be : (⟨1, ![16]⟩ : Shape).Idx → EReal) : Prop :=
  ∀ b r j, logit (row x md g b r) wg bg we be j = ((logit (row x md g b r) wg bg we be j).toReal : EReal)

end Cert.MoeSpec

end
-- ==== Proof.MoeArray.lean ====
/- The experts' result array. A grid point is a batch, a block of 1024 rows and an expert. The first expert's point also
   normalises the rows and finds their weights; every point adds its expert's weighted output; the last one writes. -/
module

public import proofs.«01_k».proof.Proof.MoeSpec
public import Idealize.ShloMosaic.Lib.Pipeline.ReadBack
public import proofs.«01_k».proof.Proof.Gen.MoeIdeal.Value
public import Idealize.ShloMosaic.Lib.Pipeline.ValueKit.Point

@[expose] public section

noncomputable section

namespace Cert.MoeIdeal.Array

open Idealize.ShloMosaic Idealize.ShloMosaic.TcCoe Cert.MoeIdeal Cert.MoeIdeal.Gen
open Idealize.ShloMosaic.Pipeline Idealize.SL.Sem

variable (m : (ℓ : Loc nD τ sig) → Buf (Elt Ideal) ℓ)

/-- The modulation's shift, scale and gate. -/
abbrev rB : Rect S1x1x6144 := Rect.unit (s := S1x1x6144) ![0, 0, 3072] S1x1x1024.size inb_S1x1x6144_S1x1x1024_0_0_3072
abbrev rS : Rect S1x1x6144 := Rect.unit (s := S1x1x6144) ![0, 0, 4096] S1x1x1024.size inb_S1x1x6144_S1x1x1024_0_0_4096
abbrev rG : Rect S1x1x6144 := Rect.unit (s := S1x1x6144) ![0, 0, 5120] S1x1x1024.size inb_S1x1x6144_S1x1x1024_0_0_5120

/-- The rows' logits, and the weights found from logits. -/
abbrev logits (x0 : Vec Ideal S1x1024x1024 .f32) (x1 : Vec Ideal S1x1x6144 .f32) (x2 : Vec Ideal S1x1024 .f32) (x3 : Vec Ideal S1024x128 .f32)
    (x4 : Vec Ideal S1x128 .f32) : FVec Ideal S1024x128 .f32 := k0_pay5 x0 x2 (View.ld x1 rS) (View.ld x1 rB) x3 x4
abbrev weigh (v : FVec Ideal S1024x128 .f32) : FVec Ideal S1024x128 .f32 :=
  k0_pay14 v (k0_pay8 k0_pay13 v) (k0_pay9 k0_pay13 v) (k0_pay11 k0_pay13 v) (k0_pay12 k0_pay13 v)

theorem rows_A (c : Dev nD) (t : Fin cfg0.N) (h0 : t.val % 16 = 0) (h1 : ¬t.val % 16 = 15) :
    (outsAt0 m c t.val t.isLt).2.1 = k0_pay4 (iblk m c 0 t) (iblk m c 2 t) (View.ld (iblk m c 1 t) rS) (View.ld (iblk m c 1 t) rB) := by
  rw [outsAt0_A m c t h0 h1]
  dsimp only
  frame_out
  rfl
theorem weights_A (c : Dev nD) (t : Fin cfg0.N) (h0 : t.val % 16 = 0) (h1 : ¬t.val % 16 = 15) :
    (outsAt0 m c t.val t.isLt).2.2.1 = weigh (logits (iblk m c 0 t) (iblk m c 1 t) (iblk m c 2 t) (iblk m c 3 t) (iblk m c 4 t)) := by
  rw [outsAt0_A m c t h0 h1]
  dsimp only
  frame_out
  rfl
theorem acc_A (c : Dev nD) (t : Fin cfg0.N) (h0 : t.val % 16 = 0) (h1 : ¬t.val % 16 = 15) :
    (outsAt0 m c t.val t.isLt).2.2.2
      = k0_pay1 (k0_pay16 (grid0.coords t) (k0_pay4 (iblk m c 0 t) (iblk m c 2 t) (View.ld (iblk m c 1 t) rS) (View.ld (iblk m c 1 t) rB))
          (iblk m c 5 t) (iblk m c 6 t) (weigh (logits (iblk m c 0 t) (iblk m c 1 t) (iblk m c 2 t) (iblk m c 3 t) (iblk m c 4 t)))
          (k0_pay15 (F := Ideal)) (iblk m c 7 t)) := by
  rw [outsAt0_A m c t h0 h1]
  dsimp only
  frame_out
  rfl

/-- What the point before `t` left. -/
abbrev prev (c : Dev nD) (t : Fin cfg0.N) := (outsAt0 m c (t.val - 1) (Nat.lt_of_le_of_lt (Nat.sub_le _ _) t.isLt)).2

theorem rows_B (c : Dev nD) (t : Fin cfg0.N) (h0 : ¬t.val % 16 = 0) : (outsAt0 m c t.val t.isLt).2.1 = (prev m c t).1 := by
  by_cases h1 : t.val % 16 = 15
  · rw [outsAt0_C m c t h0 h1]
    rfl
  · rw [outsAt0_B m c t h0 h1]
    rfl
theorem weights_B (c : Dev nD) (t : Fin cfg0.N) (h0 : ¬t.val % 16 = 0) : (outsAt0 m c t.val t.isLt).2.2.1 = (prev m c t).2.1 := by
  by_cases h1 : t.val % 16 = 15
  · rw [outsAt0_C m c t h0 h1]
    rfl
  · rw [outsAt0_B m c t h0 h1]
    rfl
theorem acc_B (c : Dev nD) (t : Fin cfg0.N) (h0 : ¬t.val % 16 = 0) : (outsAt0 m c t.val t.isLt).2.2.2
    = k0_pay1 (k0_pay16 (grid0.coords t) (prev m c t).1 (iblk m c 5 t) (iblk m c 6 t) (prev m c t).2.1 (prev m c t).2.2 (iblk m c 7 t)) := by
  by_cases h1 : t.val % 16 = 15
  · rw [outsAt0_C m c t h0 h1]
    dsimp only
    frame_out
    simp only [read_unread_whole]
  · rw [outsAt0_B m c t h0 h1]
    dsimp only
    frame_out
    simp only [read_unread_whole]
theorem out_C (c : Dev nD) (t : Fin cfg0.N) (h0 : ¬t.val % 16 = 0) (h1 : t.val % 16 = 15) :
    (outsAt0 m c t.val t.isLt).1 = k0_pay2 (iblk m c 0 t) (View.ld (iblk m c 1 t) rG) ((outsAt0 m c t.val t.isLt).2.2.2) := by
  rw [acc_B m c t h0, outsAt0_C m c t h0 h1]
  dsimp only
  frame_out
  simp only [read_unread_whole]
  rfl

/-- What the operations before the kernel leave in the buffers it reads. -/
theorem pad1 (c : Dev nD) : V m c main_v1 = pad S1024x128 ![0, 0] ![0, 108] ![0, 0]
    (concatenate S1024x20 1 [⟨S1024x4, m ((c : Thread nD τ).loc main_arg3)⟩, ⟨S1024x16, m ((c : Thread nD τ).loc main_arg5)⟩]
      concatenates_S1024x4_S1024x16_S1024x20_d1) (sitofp (F := Ideal) .f32 (constantI S_ 32 0#32)) pads_S1024x20_S1024x128_000_01080 h_S_ := by
  rfl
theorem pad4 (c : Dev nD) : V m c main_v4 = shapeCast S1x128 (pad S128 ![0] ![108] ![0]
    (concatenate S20 0 [⟨S4, m ((c : Thread nD τ).loc main_arg4)⟩, ⟨S16, m ((c : Thread nD τ).loc main_arg6)⟩] concatenates_S4_S16_S20_d0)
      (sitofp (F := Ideal) .f32 (constantI S_ 32 0#32)) pads_S20_S128_01080 h_S_) shapeCasts_S128_S1x128 := by
  rfl
theorem gain8 (c : Dev nD) : V m c main_v8 = shapeCast S1x1024 (m ((c : Thread nD τ).loc main_arg2)) shapeCasts_S1024_S1x1024 := by
  rfl

/-- Where the blocks of grid point `t` lie, and its expert. -/
theorem idx0 : ∀ t : Fin cfg0.N, win0_0.index t = ![t.val / 128, t.val / 16 % 8, 0] := (by decide +kernel : ∀ t : Fin grid0.N, _)
theorem idx1 : ∀ t : Fin cfg0.N, win0_1.index t = ![t.val / 128, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 16, 0, 0] := (by decide +kernel : ∀ t : Fin grid0.N, _)
theorem idx6 : ∀ t : Fin cfg0.N, win0_6.index t = ![t.val % 16, 0, 0] := (by decide +kernel : ∀ t : Fin grid0.N, _)
theorem idx7 : ∀ t : Fin cfg0.N, win0_7.index t = ![t.val % 16, 0, 0] := (by decide +kernel : ∀ t : Fin grid0.N, _)
theorem idx8 : ∀ t : Fin cfg0.N, win0_8.index t = ![t.val / 128, t.val / 16 % 8, 0] := (by decide +kernel : ∀ t : Fin grid0.N, _)
theorem point_expert : ∀ t : Fin cfg0.N, (grid0.coords t 2).val = t.val % 16 := (by decide +kernel : ∀ t : Fin grid0.N, _)

theorem point_lt (t : Fin cfg0.N) : t.val < 512 := t.isLt

/-- The batch, the rows and the expert of a grid point. -/
abbrev bat (t : Fin cfg0.N) : Fin 4 := ⟨t.val / 128, by have := point_lt t; omega⟩
abbrev row (t : Fin cfg0.N) (r : Fin 1024) : Fin 8192 := ⟨t.val / 16 % 8 * 1024 + r.val, by have := r.isLt; omega⟩
abbrev exp (t : Fin cfg0.N) : Fin 16 := ⟨t.val % 16, Nat.mod_lt _ (by decide)⟩

theorem blk0 (c : Dev nD) (t : Fin cfg0.N) (r k : Fin 1024) :
    iblk m c 0 t (ix3 0 r k) = m ((c : Thread nD τ).loc main_arg0) (ix3 (bat t) (row t r) k) := by
  blk_ext! [iblk, V_main_arg0, idx0]
theorem blk1 (c : Dev nD) (t : Fin cfg0.N) (k : Fin 6144) :
    iblk m c 1 t (ix3 0 0 k) = m ((c : Thread nD τ).loc main_arg1) (ix3 (bat t) 0 k) := by
  blk_ext! [iblk, V_main_arg1, idx1]
theorem blk2 (c : Dev nD) (t : Fin cfg0.N) (k : Fin 1024) :
    iblk m c 2 t (ix2 0 k) = m ((c : Thread nD τ).loc main_arg2) (ix1 k) := by
  have e : iblk m c 2 t (ix2 0 k) = V m c main_v8 (ix2 0 k) := by blk_ext! [iblk, idx2]
  rw [e, gain8]
  pointwise
theorem zero_int : FloatOps.sitofp (F := Ideal) FTy.f32 0#32 = (0 : EReal) := by
  show (((0#32 : BitVec 32).toInt : ℝ) : EReal) = 0
  simp
theorem padded (a : FVec Ideal S1024x4 .f32) (b : FVec Ideal S1024x16 .f32) (k : Fin 1024) (j : Fin 128) :
    pad S1024x128 ![0, 0] ![0, 108] ![0, 0] (concatenate S1024x20 1 [⟨S1024x4, a⟩, ⟨S1024x16, b⟩]
      concatenates_S1024x4_S1024x16_S1024x20_d1) (sitofp (F := Ideal) .f32 (constantI S_ 32 0#32)) pads_S1024x20_S1024x128_000_01080 h_S_ (ix2 k j)
    = MoeSpec.lanes (0 : EReal) (fun i => a (ix2 k i)) (fun i => b (ix2 k i)) j := by
  unfold MoeSpec.lanes
  pointwise
  by_cases h4 : j.val < 4
  · rw [dif_pos (show j.val < 20 by omega), dif_pos h4, dif_pos h4]
  · rw [dif_neg h4]
    by_cases h16 : j.val - 4 < 16
    · rw [dif_pos (show j.val < 20 by omega), dif_neg h4, dif_pos h16]
    · rw [dif_neg (show ¬j.val < 20 by omega), dif_neg h16]
      exact zero_int
theorem padded' (a : FVec Ideal S4 .f32) (b : FVec Ideal S16 .f32) (j : Fin 128) :
    shapeCast S1x128 (pad S128 ![0] ![108] ![0] (concatenate S20 0 [⟨S4, a⟩, ⟨S16, b⟩] concatenates_S4_S16_S20_d0)
      (sitofp (F := Ideal) .f32 (constantI S_ 32 0#32)) pads_S20_S128_01080 h_S_) shapeCasts_S128_S1x128 (ix2 0 j)
    = MoeSpec.lanes (0 : EReal) (fun i => a (ix1 i)) (fun i => b (ix1 i)) j := by
  unfold MoeSpec.lanes
  pointwise
  by_cases h4 : j.val < 4
  · rw [dif_pos (show j.val < 20 by omega), dif_pos h4, dif_pos h4]
  · rw [dif_neg h4]
    by_cases h16 : j.val - 4 < 16
    · rw [dif_pos (show j.val < 20 by omega), dif_neg h4, dif_pos h16]
    · rw [dif_neg (show ¬j.val < 20 by omega), dif_neg h16]
      exact zero_int
theorem blk3 (c : Dev nD) (t : Fin cfg0.N) (k : Fin 1024) (j : Fin 128) :
    iblk m c 3 t (ix2 k j) = MoeSpec.lanes (0 : EReal) (fun i => m ((c : Thread nD τ).loc main_arg3) (ix2 k i))
      (fun i => m ((c : Thread nD τ).loc main_arg5) (ix2 k i)) j := by
  have e : iblk m c 3 t (ix2 k j) = V m c main_v1 (ix2 k j) := by blk_ext! [iblk, idx3]
  rw [e, pad1]
  exact padded _ _ k j
theorem blk4 (c : Dev nD) (t : Fin cfg0.N) (j : Fin 128) :
    iblk m c 4 t (ix2 0 j) = MoeSpec.lanes (0 : EReal) (fun i => m ((c : Thread nD τ).loc main_arg4) (ix1 i))
      (fun i => m ((c : Thread nD τ).loc main_arg6) (ix1 i)) j := by
  have e : iblk m c 4 t (ix2 0 j) = V m c main_v4 (ix2 0 j) := by blk_ext! [iblk, idx4]
  rw [e, pad4]
  exact padded' _ _ j
theorem blk5 (c : Dev nD) (t : Fin cfg0.N) (k : Fin 1024) (f : Fin 512) :
    iblk m c 5 t (ix3 0 k f) = m ((c : Thread nD τ).loc main_arg7) (ix3 (exp t) k f) := by
  blk_ext! [iblk, V, idx5]
theorem blk6 (c : Dev nD) (t : Fin cfg0.N) (k : Fin 1024) (f : Fin 512) :
    iblk m c 6 t (ix3 0 k f) = m ((c : Thread nD τ).loc main_arg8) (ix3 (exp t) k f) := by
  blk_ext! [iblk, V, idx6]
theorem blk7 (c : Dev nD) (t : Fin cfg0.N) (f : Fin 512) (n : Fin 1024) :
    iblk m c 7 t (ix3 0 f n) = m ((c : Thread nD τ).loc main_arg9) (ix3 (exp t) f n) := by
  blk_ext! [iblk, V, idx7]

/-- The modulated rows, in both of the kernel's readings. -/
theorem modulated (x0 : Vec Ideal S1x1024x1024 .f32) (x1 : Vec Ideal S1x1x6144 .f32) (x2 : Vec Ideal S1x1024 .f32) (r k : Fin 1024) :
    k0_pay3 x0 x2 (View.ld x1 rS) (View.ld x1 rB) (ix2 r k)
      = ProjSpec.norm (fun k => x0 (ix3 0 r k)) (fun k => x2 (ix2 0 k)) (fun k => x1 (ix3 0 0 ⟨4096 + k.val, by have := k.isLt; omega⟩))
          (fun k => x1 (ix3 0 0 ⟨3072 + k.val, by have := k.isLt; omega⟩)) k := by
  unfold ProjSpec.norm
  pointwise [k0_pay3]
theorem kept (x0 : Vec Ideal S1x1024x1024 .f32) (x1 : Vec Ideal S1x1x6144 .f32) (x2 : Vec Ideal S1x1024 .f32) (r k : Fin 1024) :
    k0_pay4 x0 x2 (View.ld x1 rS) (View.ld x1 rB) (ix2 r k) = k0_pay3 x0 x2 (View.ld x1 rS) (View.ld x1 rB) (ix2 r k) := by
  pointwise [k0_pay4]
theorem logits_at (x0 : Vec Ideal S1x1024x1024 .f32) (x1 : Vec Ideal S1x1x6144 .f32) (x2 : Vec Ideal S1x1024 .f32) (x3 : Vec Ideal S1024x128 .f32)
    (x4 : Vec Ideal S1x128 .f32) (r : Fin 1024) (j : Fin 128) : logits x0 x1 x2 x3 x4 (ix2 r j)
      = (∑ k : Fin 1024, k0_pay3 x0 x2 (View.ld x1 rS) (View.ld x1 rB) (ix2 r k) * x3 (ix2 k j)) + x4 (ix2 0 j) := by
  pointwise [k0_pay5]
theorem added (v : FVec Ideal S1024x1024 .f32) (r n : Fin 1024) : k0_pay1 v (ix2 r n) = v (ix2 r n) := by
  pointwise [k0_pay1]
theorem start (r n : Fin 1024) : k0_pay15 (F := Ideal) (ix2 r n) = 0 := by
  pointwise [k0_pay15]
theorem written (x0 : Vec Ideal S1x1024x1024 .f32) (x1 : Vec Ideal S1x1x6144 .f32) (v : FVec Ideal S1024x1024 .f32) (r n : Fin 1024) :
    k0_pay2 x0 (View.ld x1 rG) v (ix3 0 r n)
      = x0 (ix3 0 r n) + x1 (ix3 0 0 ⟨5120 + n.val, by have := n.isLt; omega⟩) * v (ix2 r n) := by
  pointwise [k0_pay2]

/-- A core's modulated row, its logits as real numbers, and the layer. -/
abbrev hrow (c : Dev nD) (b : Fin 4) (r : Fin 8192) : Fin 1024 → EReal :=
  MoeSpec.row (m ((c : Thread nD τ).loc main_arg0)) (m ((c : Thread nD τ).loc main_arg1)) (m ((c : Thread nD τ).loc main_arg2)) b r
abbrev lgt (c : Dev nD) (b : Fin 4) (r : Fin 8192) (j : Fin 128) : EReal :=
  MoeSpec.logit (hrow m c b r) (m ((c : Thread nD τ).loc main_arg3)) (m ((c : Thread nD τ).loc main_arg4))
    (m ((c : Thread nD τ).loc main_arg5)) (m ((c : Thread nD τ).loc main_arg6)) j
abbrev spec (c : Dev nD) : (⟨3, ![4, 8192, 1024]⟩ : Shape).Idx → EReal :=
  MoeSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))
abbrev Routed (c : Dev nD) : Prop :=
  MoeSpec.Routed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- One expert's weighted output. -/
def term (c : Dev nD) (b : Fin 4) (r : Fin 8192) (n : Fin 1024) (e : Fin 16) : EReal :=
  (MoeSpec.weight (fun j => (lgt m c b r j).toReal) ⟨e.val + 4, by have := e.isLt; omega⟩ : EReal)
    * MoeSpec.expert (hrow m c b r) (fun k f => m ((c : Thread nD τ).loc main_arg7) (ix3 e k f))
        (fun k f => m ((c : Thread nD τ).loc main_arg8) (ix3 e k f)) (fun f => m ((c : Thread nD τ).loc main_arg9) (ix3 e f n))
def termN (c : Dev nD) (b : Fin 4) (r : Fin 8192) (n : Fin 1024) (e : ℕ) : EReal :=
  if h : e < 16 then term m c b r n ⟨e, h⟩ else 0

theorem row_at (c : Dev nD) (t : Fin cfg0.N) (r k : Fin 1024) :
    k0_pay3 (iblk m c 0 t) (iblk m c 2 t) (View.ld (iblk m c 1 t) rS) (View.ld (iblk m c 1 t) rB) (ix2 r k)
      = hrow m c (bat t) (row t r) k := by
  refine (modulated (iblk m c 0 t) (iblk m c 1 t) (iblk m c 2 t) r k).trans ?_
  unfold hrow MoeSpec.row
  congr 1
  · funext k; exact blk0 m c t r k
  · funext k; exact blk2 m c t k
  · funext k; exact blk1 m c t _
  · funext k; exact blk1 m c t _
theorem logit_at (c : Dev nD) (t : Fin cfg0.N) (r : Fin 1024) (j : Fin 128) :
    logits (iblk m c 0 t) (iblk m c 1 t) (iblk m c 2 t) (iblk m c 3 t) (iblk m c 4 t) (ix2 r j) = lgt m c (bat t) (row t r) j := by
  rw [logits_at]
  unfold lgt MoeSpec.logit
  rw [blk4]
  exact congrArg (· + _) (Finset.sum_congr rfl fun k _ => congrArg₂ (fun p q : EReal => p * q) (row_at m c t r k) (blk3 m c t k j))

/-- What the scratch holds after a point: the rows, their weights, and the sum of the experts so far. -/
structure State (c : Dev nD) (t : Fin cfg0.N) : Prop where
  rows : ∀ r k, (outsAt0 m c t.val t.isLt).2.1 (ix2 r k) = hrow m c (bat t) (row t r) k
  weights : ∀ r j, (outsAt0 m c t.val t.isLt).2.2.1 (ix2 r j)
    = (MoeSpec.weight (fun j => (lgt m c (bat t) (row t r) j).toReal) j : EReal)
  acc : ∀ r n, (outsAt0 m c t.val t.isLt).2.2.2 (ix2 r n) = ∑ e ∈ Finset.range (t.val % 16 + 1), termN m c (bat t) (row t r) n e

/-- What a point adds, when its rows and weights are the token's. -/
theorem adds (c : Dev nD) (t : Fin cfg0.N) (h : Vec Ideal S1024x1024 .bf16) (w : Vec Ideal S1024x128 .f32) (acc : Vec Ideal S1024x1024 .f32)
    (hh : ∀ r k, h (ix2 r k) = hrow m c (bat t) (row t r) k)
    (hw : ∀ r j, w (ix2 r j) = (MoeSpec.weight (fun j => (lgt m c (bat t) (row t r) j).toReal) j : EReal)) (r n : Fin 1024) :
    k0_pay1 (k0_pay16 (grid0.coords t) h (iblk m c 5 t) (iblk m c 6 t) w acc (iblk m c 7 t)) (ix2 r n)
      = acc (ix2 r n) + termN m c (bat t) (row t r) n (t.val % 16) := by
  rw [added, Pay.step (grid0.coords t) h _ _ w acc _ r n (exp t) (point_expert t), hw]
  unfold termN
  rw [dif_pos (Nat.mod_lt _ (by decide))]
  unfold term
  refine congrArg (acc (ix2 r n) + ·) (congrArg (_ * ·) ?_)
  exact MoeSpec.expert_congr (h := fun k => h (ix2 r k)) (w1 := fun k f => iblk m c 5 t (ix3 0 k f)) (w3 := fun k f => iblk m c 6 t (ix3 0 k f))
    (w2 := fun f => iblk m c 7 t (ix3 0 f n)) (fun k => hh r k) (fun k f => blk5 m c t k f) (fun k f => blk6 m c t k f) (fun f => blk7 m c t f n)

theorem state_first (c : Dev nD) (hR : Routed m c) (t : Fin cfg0.N) (h0 : t.val % 16 = 0) : State m c t := by
  have h1 : ¬t.val % 16 = 15 := by omega
  have hrows : ∀ r k, k0_pay4 (iblk m c 0 t) (iblk m c 2 t) (View.ld (iblk m c 1 t) rS) (View.ld (iblk m c 1 t) rB) (ix2 r k)
      = hrow m c (bat t) (row t r) k := fun r k =>
    (kept (iblk m c 0 t) (iblk m c 1 t) (iblk m c 2 t) r k).trans (row_at m c t r k)
  have hweights : ∀ r j, weigh (logits (iblk m c 0 t) (iblk m c 1 t) (iblk m c 2 t) (iblk m c 3 t) (iblk m c 4 t)) (ix2 r j)
      = (MoeSpec.weight (fun j => (lgt m c (bat t) (row t r) j).toReal) j : EReal) := fun r j =>
    Pay.weights (fun j => (logit_at m c t r j).trans (hR _ _ _)) (MoeSpec.group_best _) (MoeSpec.first_best _) (MoeSpec.second_best _) j
  refine ⟨fun r k => ?_, fun r j => ?_, fun r n => ?_⟩
  · rw [rows_A m c t h0 h1]; exact hrows r k
  · rw [weights_A m c t h0 h1]; exact hweights r j
  · rw [acc_A m c t h0 h1, adds m c t _ _ _ hrows hweights, start, h0, Finset.sum_range_one, zero_add]

theorem state_next (c : Dev nD) (t p : Fin cfg0.N) (hp : p.val = t.val - 1) (h0 : ¬t.val % 16 = 0) (ih : State m c p) : State m c t := by
  obtain ⟨p, lp⟩ := p
  obtain rfl : p = t.val - 1 := hp
  have hb : bat ⟨t.val - 1, lp⟩ = bat t := Fin.ext (show (t.val - 1) / 128 = t.val / 128 by omega)
  have hr : ∀ r, row ⟨t.val - 1, lp⟩ r = row t r := fun r =>
    Fin.ext (show (t.val - 1) / 16 % 8 * 1024 + r.val = t.val / 16 % 8 * 1024 + r.val by omega)
  have hrows : ∀ r k, (prev m c t).1 (ix2 r k) = hrow m c (bat t) (row t r) k := fun r k => by rw [← hb, ← hr r]; exact ih.rows r k
  have hweights : ∀ r j, (prev m c t).2.1 (ix2 r j) = (MoeSpec.weight (fun j => (lgt m c (bat t) (row t r) j).toReal) j : EReal) :=
    fun r j => by rw [← hb, ← hr r]; exact ih.weights r j
  have hacc : ∀ r n, (prev m c t).2.2 (ix2 r n) = ∑ e ∈ Finset.range (t.val % 16), termN m c (bat t) (row t r) n e := fun r n => by
    rw [← hb, ← hr r, show t.val % 16 = (t.val - 1) % 16 + 1 by omega]; exact ih.acc r n
  refine ⟨fun r k => ?_, fun r j => ?_, fun r n => ?_⟩
  · rw [rows_B m c t h0]; exact hrows r k
  · rw [weights_B m c t h0]; exact hweights r j
  · rw [acc_B m c t h0, adds m c t _ _ _ hrows hweights, hacc, Finset.sum_range_succ]

theorem state (c : Dev nD) (hR : Routed m c) : ∀ (n : ℕ) (hn : n < cfg0.N), State m c ⟨n, hn⟩
  | 0, hn => state_first m c hR ⟨0, hn⟩ rfl
  | n + 1, hn => by
    by_cases h0 : (n + 1) % 16 = 0
    · exact state_first m c hR ⟨n + 1, hn⟩ h0
    · exact state_next m c ⟨n + 1, hn⟩ ⟨n, Nat.lt_of_succ_lt hn⟩ rfl h0 (state c hR n _)

theorem corner (y : S1x1024x1024.Idx) : y = ix3 0 (y 1) (y 2) := by
  funext a
  match a with
  | ⟨0, _⟩ => exact Subsingleton.elim (α := Fin 1) _ _
  | ⟨1, _⟩ => rfl
  | ⟨2, _⟩ => rfl

/-- The block that an expert's last point writes. -/
theorem block_at (c : Dev nD) (hR : Routed m c) (t : Fin cfg0.N) (h1 : t.val % 16 = 15) (r n : Fin 1024) :
    (outsAt0 m c t.val t.isLt).1 (ix3 0 r n) = spec m c (ix3 (bat t) (row t r) n) := by
  rw [out_C m c t (by omega) h1]
  refine (written (iblk m c 0 t) (iblk m c 1 t) _ r n).trans ?_
  rw [(state m c hR t.val t.isLt).acc r n, blk0, blk1]
  show _ = MoeSpec.value _ _ _ _ _ _ _ _ _ _ (bat t) (row t r) n
  unfold MoeSpec.value MoeSpec.mixed
  refine congrArg₂ (fun p q : EReal => p + q) rfl (congrArg₂ (fun p q : EReal => p * q) rfl ?_)
  show ∑ e ∈ Finset.range (t.val % 16 + 1), _ = _
  rw [h1, Finset.sum_range]
  refine Finset.sum_congr rfl fun e _ => ?_
  unfold termN
  rw [dif_pos e.isLt]
  rfl
theorem block (c : Dev nD) (hR : Routed m c) (t : Fin cfg0.N) (h1 : t.val % 16 = 15) (y : S1x1024x1024.Idx) :
    (outsAt0 m c t.val t.isLt).1 y = spec m c (ix3 (bat t) (row t (y 1)) (y 2)) :=
  (congrArg _ (corner y)).trans (block_at m c hR t h1 (y 1) (y 2))

theorem place (t : Fin cfg0.N) (y : S1x1024x1024.Idx) : (win0_8.blk t).view.emb y = ix3 (bat t) (row t (y 1)) (y 2) := by
  have e0 : (y 0).val < 1 := (y 0).isLt
  blk_ext [idx8]

theorem covers : (cfg0.win 8).Covers := by decide +kernel

theorem flushes : ∀ t : Fin cfg0.N, (cfg0.win 8).flush t = true → t.val % 16 = 15 := (by decide +kernel : ∀ t : Fin grid0.N, _)

/-- The result array. -/
theorem array (c : Dev nD) (hR : Routed m c) : (dats m 0 c).arrAt 8 cfg0.N = spec m c := by
  refine (dats m 0 c).arrAt_eq_of_covers 8 _ covers fun t hf y => ?_
  blk_simp
  rw [after0_8]
  exact (block m c hR t (flushes t hf) y).trans (congrArg (spec m c) (place t y).symm)

end Cert.MoeIdeal.Array

end
-- ==== Proof.MoeRef.lean ====
/- The reference's mixture of experts, read at a place of its result. -/
module

public import proofs.«01_k».proof.Proof.MoeSpec
public import proofs.«01_k».proof.Proof.AttnRefMax
public import proofs.«01_k».proof.Proof.Gen.MoeRefIdeal.Read
public import Idealize.ShloMosaic.Lib.WordCmp

@[expose] public section

noncomputable section

namespace Cert.MoeRefIdeal.At

open Idealize.ShloMosaic Idealize.ShloMosaic.TcCoe Cert.MoeRefIdeal Cert.MoeRefIdeal.Gen Cert.MoeRefIdeal.Read Cert.MoeRoute
open Cert.AttnRefIdeal.At (bot_word max_real)
open Idealize.ShloMosaic.WordCmp (ofBool_decide_eq_one_iff)
open scoped Classical

variable (x0 : (⟨S4x8192x1024, .f32⟩ : BufTy).Contents (Elt Ideal)) (x1 : (⟨S4x1x6144, .f32⟩ : BufTy).Contents (Elt Ideal))
  (x2 : (⟨S1024, .f32⟩ : BufTy).Contents (Elt Ideal)) (x3 : (⟨S1024x4, .f32⟩ : BufTy).Contents (Elt Ideal))
  (x4 : (⟨S4, .f32⟩ : BufTy).Contents (Elt Ideal)) (x5 : (⟨S1024x16, .f32⟩ : BufTy).Contents (Elt Ideal))
  (x6 : (⟨S16, .f32⟩ : BufTy).Contents (Elt Ideal)) (x7 x8 : (⟨S16x1024x512, .f32⟩ : BufTy).Contents (Elt Ideal))
  (x9 : (⟨S16x512x1024, .f32⟩ : BufTy).Contents (Elt Ideal))

/-- The lanes of the groups' logits and of the experts'. -/
abbrev gl (g : Fin 4) : Fin 128 := ⟨g.val, by have := g.isLt; omega⟩
abbrev el (g l : Fin 4) : Fin 128 := ⟨4 + (g.val * 4 + l.val), by have := g.isLt; have := l.isLt; omega⟩

theorem row_at (b : Fin 4) (r : Fin 8192) (k : Fin 1024) : val_main_v24 x0 x1 x2 (ix3 b r k) = MoeSpec.row x0 x1 x2 b r k := by
  unfold MoeSpec.row ProjSpec.norm
  pointwise [val_main_v3, val_main_v4, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2]

/-- A token's logits. -/
abbrev lgt (b : Fin 4) (r : Fin 8192) (j : Fin 128) : EReal := MoeSpec.logit (MoeSpec.row x0 x1 x2 b r) x3 x4 x5 x6 j
abbrev lgr (b : Fin 4) (r : Fin 8192) (j : Fin 128) : ℝ := (lgt x0 x1 x2 x3 x4 x5 x6 b r j).toReal

theorem group_logit (b : Fin 4) (r : Fin 8192) (g : Fin 4) :
    val_main_v28 x0 x1 x2 x3 x4 (ix3 b r g) = lgt x0 x1 x2 x3 x4 x5 x6 b r (gl g) := by
  have e : val_main_v28 x0 x1 x2 x3 x4 (ix3 b r g) = (∑ k : Fin 1024, val_main_v24 x0 x1 x2 (ix3 b r k) * x3 (ix2 k g)) + x4 (ix1 g) := by
    pointwise [val_main_v25, val_main_v26, val_main_v27, val_main_v28]
  rw [e]
  have hl : ∀ {α : Type} (z : α) (u : Fin 4 → α) (v : Fin 16 → α), MoeSpec.lanes z u v (gl g) = u g := fun z u v => by
    unfold MoeSpec.lanes
    rw [dif_pos g.isLt]
  unfold lgt MoeSpec.logit
  rw [hl]
  refine congrArg (· + _) (Finset.sum_congr rfl fun k _ => ?_)
  rw [hl, row_at]

theorem expert_logit (b : Fin 4) (r : Fin 8192) (g l : Fin 4) :
    val_main_v44 x0 x1 x2 x5 x6 (ix4 b r g l) = lgt x0 x1 x2 x3 x4 x5 x6 b r (el g l) := by
  have e : val_main_v44 x0 x1 x2 x5 x6 (ix4 b r g l)
      = (∑ k : Fin 1024, val_main_v24 x0 x1 x2 (ix3 b r k) * x5 (ix2 k ⟨g.val * 4 + l.val, by have := g.isLt; have := l.isLt; omega⟩))
        + x6 (ix1 ⟨g.val * 4 + l.val, by have := g.isLt; have := l.isLt; omega⟩) := by
    pointwise [val_main_v40, val_main_v41, val_main_v42, val_main_v43, val_main_v44]
  rw [e]
  have hl : ∀ {α : Type} (z : α) (u : Fin 4 → α) (v : Fin 16 → α), MoeSpec.lanes z u v (el g l)
      = v ⟨g.val * 4 + l.val, by have := g.isLt; have := l.isLt; omega⟩ := fun z u v => by
    unfold MoeSpec.lanes
    have h4 : ¬(el g l).val < 4 := by show ¬4 + (g.val * 4 + l.val) < 4; omega
    have h16 : (el g l).val - 4 < 16 := by show 4 + (g.val * 4 + l.val) - 4 < 16; omega
    rw [dif_neg h4, dif_pos h16]
    exact congrArg v (Fin.ext (show 4 + (g.val * 4 + l.val) - 4 = g.val * 4 + l.val by omega))
  unfold lgt MoeSpec.logit
  rw [hl]
  refine congrArg (· + _) (Finset.sum_congr rfl fun k _ => ?_)
  rw [hl, row_at]

variable (hR : MoeSpec.Routed x0 x1 x2 x3 x4 x5 x6)
include hR

theorem group_top (b : Fin 4) (r : Fin 8192) : ∃ M : ℝ, val_main_v31 x0 x1 x2 x3 x4 (ix2 b r) = (M : EReal) := by
  have hy : val_main_v28 x0 x1 x2 x3 x4 = fun i => ((lgr x0 x1 x2 x3 x4 x5 x6 (i 0) (i 1) (gl (i 2)) : ℝ) : EReal) := funext fun i => by
    obtain ⟨b, r, g, rfl⟩ : ∃ b r g, i = ix3 b r g := ⟨i 0, i 1, i 2, by
      funext a
      match a with
      | ⟨0, _⟩ => rfl
      | ⟨1, _⟩ => rfl
      | ⟨2, _⟩ => rfl⟩
    exact (group_logit x0 x1 x2 x3 x4 x5 x6 b r g).trans (hR b r _)
  obtain ⟨M, hM⟩ : ∃ M : ℝ, val_main_v29 x0 x1 x2 x3 x4 (ix2 b r) = (M : EReal) := by
    unfold val_main_v29
    rw [hy]
    exact max_real _ (by decide) _ (by decide) _ _ bot_word _
  refine ⟨M, ?_⟩
  rw [val_main_v31_apply, hM]
  show max (Ideal.ofBits .f32 0xFF800000#32) (M : EReal) = M
  rw [bot_word]
  exact max_eq_right bot_le

theorem expert_top (b : Fin 4) (r : Fin 8192) (g : Fin 4) : ∃ M : ℝ, val_main_v47 x0 x1 x2 x5 x6 (ix3 b r g) = (M : EReal) := by
  have hy : val_main_v44 x0 x1 x2 x5 x6 = fun i => ((lgr x0 x1 x2 x3 x4 x5 x6 (i 0) (i 1) (el (i 2) (i 3)) : ℝ) : EReal) := funext fun i => by
    obtain ⟨b, r, g, l, rfl⟩ : ∃ b r g l, i = ix4 b r g l := ⟨i 0, i 1, i 2, i 3, by
      funext a
      match a with
      | ⟨0, _⟩ => rfl
      | ⟨1, _⟩ => rfl
      | ⟨2, _⟩ => rfl
      | ⟨3, _⟩ => rfl⟩
    exact (expert_logit x0 x1 x2 x3 x4 x5 x6 b r g l).trans (hR b r _)
  obtain ⟨M, hM⟩ : ∃ M : ℝ, val_main_v45 x0 x1 x2 x5 x6 (ix3 b r g) = (M : EReal) := by
    unfold val_main_v45
    rw [hy]
    exact max_real _ (by decide) _ (by decide) _ _ bot_word _
  refine ⟨M, ?_⟩
  rw [val_main_v47_apply, hM]
  show max (Ideal.ofBits .f32 0xFF800000#32) (M : EReal) = M
  rw [bot_word]
  exact max_eq_right bot_le

/-- The softmax of the groups' logits, and of a group's experts'. -/
theorem group_soft (b : Fin 4) (r : Fin 8192) (g : Fin 4) :
    val_main_v39 x0 x1 x2 x3 x4 (ix3 b r g) = ((Real.exp (lgr x0 x1 x2 x3 x4 x5 x6 b r (gl g))
      / ∑ c : Fin 4, Real.exp (lgr x0 x1 x2 x3 x4 x5 x6 b r (gl c)) : ℝ) : EReal) := by
  obtain ⟨M, hM⟩ := group_top x0 x1 x2 x3 x4 x5 x6 hR b r
  have e : val_main_v39 x0 x1 x2 x3 x4 (ix3 b r g)
      = Ideal.div (Ideal.exp (val_main_v28 x0 x1 x2 x3 x4 (ix3 b r g) - val_main_v31 x0 x1 x2 x3 x4 (ix2 b r)))
        (∑ c : Fin 4, Ideal.exp (val_main_v28 x0 x1 x2 x3 x4 (ix3 b r c) - val_main_v31 x0 x1 x2 x3 x4 (ix2 b r))) := by
    pointwise [val_main_v32, val_main_v33, val_main_v34, val_main_v35, val_main_v36, val_main_v37, val_main_v38, val_main_v39, val_main_cst_5]
  have hv : ∀ c, val_main_v28 x0 x1 x2 x3 x4 (ix3 b r c) = ((lgr x0 x1 x2 x3 x4 x5 x6 b r (gl c) : ℝ) : EReal) := fun c =>
    (group_logit x0 x1 x2 x3 x4 x5 x6 b r c).trans (hR b r _)
  rw [e, hM, hv, Finset.sum_congr rfl fun c _ => by rw [hv c]]
  exact Online.weight (fun c => lgr x0 x1 x2 x3 x4 x5 x6 b r (gl c)) M g

theorem expert_soft (b : Fin 4) (r : Fin 8192) (g l : Fin 4) :
    val_main_v55 x0 x1 x2 x5 x6 (ix4 b r g l) = ((Real.exp (lgr x0 x1 x2 x3 x4 x5 x6 b r (el g l))
      / ∑ c : Fin 4, Real.exp (lgr x0 x1 x2 x3 x4 x5 x6 b r (el g c)) : ℝ) : EReal) := by
  obtain ⟨M, hM⟩ := expert_top x0 x1 x2 x3 x4 x5 x6 hR b r g
  have e : val_main_v55 x0 x1 x2 x5 x6 (ix4 b r g l)
      = Ideal.div (Ideal.exp (val_main_v44 x0 x1 x2 x5 x6 (ix4 b r g l) - val_main_v47 x0 x1 x2 x5 x6 (ix3 b r g)))
        (∑ c : Fin 4, Ideal.exp (val_main_v44 x0 x1 x2 x5 x6 (ix4 b r g c) - val_main_v47 x0 x1 x2 x5 x6 (ix3 b r g))) := by
    pointwise [val_main_v48, val_main_v49, val_main_v50, val_main_v51, val_main_v52, val_main_v53, val_main_v54, val_main_v55, val_main_cst_8]
  have hv : ∀ c, val_main_v44 x0 x1 x2 x5 x6 (ix4 b r g c) = ((lgr x0 x1 x2 x3 x4 x5 x6 b r (el g c) : ℝ) : EReal) := fun c =>
    (expert_logit x0 x1 x2 x3 x4 x5 x6 b r g c).trans (hR b r _)
  rw [e, hM, hv, Finset.sum_congr rfl fun c _ => by rw [hv c]]
  exact Online.weight (fun c => lgr x0 x1 x2 x3 x4 x5 x6 b r (el g c)) M l

omit hR

/-- One comparison of the counting, on real numbers. -/
theorem counted (u : Fin 4 → ℝ) (p : Fin 4 → EReal) (hp : ∀ i, p i = (u i : EReal)) (i j : Fin 4) :
    Scalar.select (IntOp.ori (BitVec.ofBool (decide (p i < p j)))
      (IntOp.andi (BitVec.ofBool (decide (p j = p i))) (IntOp.cmpi CmpIPredicate.slt (BitVec.ofNat 32 j.val) (BitVec.ofNat 32 i.val))))
      (1 : EReal) 0 = if Before u j i then 1 else 0 := by
  have hc : IntOp.cmpi CmpIPredicate.slt (BitVec.ofNat 32 j.val) (BitVec.ofNat 32 i.val) = 1#1 ↔ j < i :=
    (by decide : ∀ i j : Fin 4, IntOp.cmpi CmpIPredicate.slt (BitVec.ofNat 32 j.val) (BitVec.ofNat 32 i.val) = 1#1 ↔ j < i) i j
  have h : IntOp.ori (BitVec.ofBool (decide (p i < p j))) (IntOp.andi (BitVec.ofBool (decide (p j = p i)))
      (IntOp.cmpi CmpIPredicate.slt (BitVec.ofNat 32 j.val) (BitVec.ofNat 32 i.val))) = 1#1 ↔ Before u j i := by
    rw [IntOp.ori_eq_one, IntOp.andi_eq_one, ofBool_decide_eq_one_iff, ofBool_decide_eq_one_iff, hc, hp, hp, EReal.coe_lt_coe_iff,
      EReal.coe_eq_coe_iff]
    rfl
  by_cases hb : Before u j i
  · rw [MoeIdeal.Pay.sel_pos (h.2 hb), if_pos hb]
  · rw [MoeIdeal.Pay.sel_neg fun c => hb (h.1 c), if_neg hb]

theorem two_word : Ideal.ofBits .f32 0x40000000#32 = ((2 : ℝ) : EReal) := by
  unfold Ideal.ofBits Ideal.ieee
  dsimp only
  rw [if_neg (by decide), if_neg (by decide), if_neg (by decide)]
  rw [EReal.coe_eq_coe_iff]
  norm_num [Nat.shiftRight_eq_div_pow]

theorem expert_before (b : Fin 4) (r : Fin 8192) (g l j : Fin 4) (u : Fin 4 → ℝ)
    (hu : ∀ l, val_main_v55 x0 x1 x2 x5 x6 (ix4 b r g l) = (u l : EReal)) :
    val_main_v74 x0 x1 x2 x5 x6 (ix5 b r g l j) = if Before u j l then (1 : EReal) else 0 := by
  rw [← counted u (fun l => val_main_v55 x0 x1 x2 x5 x6 (ix4 b r g l)) hu l j]
  pointwise [val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst_9, val_main_cst_10, val_main_call0_v0, val_main_call0_v1]

theorem expert_rank (b : Fin 4) (r : Fin 8192) (g l : Fin 4) (u : Fin 4 → ℝ)
    (hu : ∀ l, val_main_v55 x0 x1 x2 x5 x6 (ix4 b r g l) = (u l : EReal)) {a a' : Fin 4} (ha : Best (fun _ => True) u a)
    (ha' : Best (fun j => j ≠ a) u a') :
    val_main_v76 x0 x1 x2 x5 x6 (ix4 b r g l) < Ideal.ofBits .f32 0x40000000#32 ↔ l = a ∨ l = a' := by
  have e : val_main_v75 x0 x1 x2 x5 x6 = val_main_v74 x0 x1 x2 x5 x6 := rfl
  have h : val_main_v76 x0 x1 x2 x5 x6 (ix4 b r g l) = ∑ j, val_main_v75 x0 x1 x2 x5 x6 (ix5 b r g l j) := by
    pointwise [val_main_v76, val_main_cst_11]
  rw [h, e, Finset.sum_congr rfl fun j _ => expert_before x0 x1 x2 x5 x6 b r g l j u hu, rank_eq, two_word, EReal.coe_lt_coe_iff,
    ← rank_lt_two ha ha' l]
  exact_mod_cast Iff.rfl

theorem group_before (b : Fin 4) (r : Fin 8192) (g j : Fin 4) (u : Fin 4 → ℝ)
    (hu : ∀ g, val_main_v28 x0 x1 x2 x3 x4 (ix3 b r g) = (u g : EReal)) :
    val_main_v105 x0 x1 x2 x3 x4 (ix4 b r g j) = if Before u j g then (1 : EReal) else 0 := by
  rw [← counted u (fun g => val_main_v28 x0 x1 x2 x3 x4 (ix3 b r g)) hu g j]
  pointwise [val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_cst_15, val_main_cst_16, val_main_call2_v0, val_main_call2_v1]

theorem group_rank (b : Fin 4) (r : Fin 8192) (g : Fin 4) (u : Fin 4 → ℝ)
    (hu : ∀ g, val_main_v28 x0 x1 x2 x3 x4 (ix3 b r g) = (u g : EReal)) {a : Fin 4} (ha : Best (fun _ => True) u a) :
    val_main_v107 x0 x1 x2 x3 x4 (ix3 b r g) < 1 ↔ g = a := by
  have e : val_main_v106 x0 x1 x2 x3 x4 = val_main_v105 x0 x1 x2 x3 x4 := rfl
  have h : val_main_v107 x0 x1 x2 x3 x4 (ix3 b r g) = ∑ j, val_main_v106 x0 x1 x2 x3 x4 (ix4 b r g j) := by
    pointwise [val_main_v107, val_main_cst_17]
  rw [h, e, Finset.sum_congr rfl fun j _ => group_before x0 x1 x2 x3 x4 b r g j u hu, rank_eq, ← EReal.coe_one, EReal.coe_lt_coe_iff,
    ← rank_lt_one ha g]
  exact_mod_cast Iff.rfl

theorem zero_id : (id (constant (F := Ideal) S_ FTy.f32 0#32) ix0 : EReal) = 0 := by
  show Ideal.ofBits .f32 0#32 = 0
  simp [Ideal.ofBits, Ideal.ieee]

/-- A token's weight of expert `l` in group `g`, as the reference computes it. -/
theorem weight_read (b : Fin 4) (r : Fin 8192) (g l : Fin 4) :
    val_main_v112 x0 x1 x2 x3 x4 x5 x6 (ix3 b r ⟨g.val * 4 + l.val, by have := g.isLt; have := l.isLt; omega⟩)
      = if val_main_v107 x0 x1 x2 x3 x4 (ix3 b r g) < 1 then
          Ideal.div (if val_main_v76 x0 x1 x2 x5 x6 (ix4 b r g l) < Ideal.ofBits .f32 0x40000000#32 then
              val_main_v55 x0 x1 x2 x5 x6 (ix4 b r g l) else 0)
            (∑ x, if val_main_v76 x0 x1 x2 x5 x6 (ix4 b r g x) < Ideal.ofBits .f32 0x40000000#32 then
              val_main_v55 x0 x1 x2 x5 x6 (ix4 b r g x) else 0)
          * val_main_v39 x0 x1 x2 x3 x4 (ix3 b r g) else 0 := by
  rw [← zero_id]
  pointwise [val_main_v77, val_main_v78, val_main_v79, val_main_v80, val_main_v81, val_main_v82, val_main_v83, val_main_v84, val_main_v85, val_main_v86, val_main_v108, val_main_v109, val_main_v110, val_main_v111, val_main_v112, val_main_cst_12, val_main_cst_13, val_main_cst_14, val_main_cst_18, val_main_cst_19, val_main_call1_v0, val_main_call1_v1, val_main_call3_v0, val_main_call3_v1, val_main_call3_v2]

/-- The choice among the groups' lanes and among a group's experts' lanes, from the choice among four. -/
theorem best_group {L : Fin 128 → ℝ} {G : Fin 4} (h : Best (fun _ => True) (fun g => L (gl g)) G) :
    Best MoeIdeal.Pay.Groups L (gl G) := by
  refine ⟨G.isLt, fun j hj => ?_⟩
  exact h.2 ⟨j.val, hj⟩ trivial
theorem lane_of {G : Fin 4} {j : Fin 128} (hj : MoeIdeal.Pay.Experts (gl G) j) : ∃ l : Fin 4, j = el G l := by
  have h1 : 4 + 4 * G.val ≤ j.val := hj.1
  have h2 : j.val < 8 + 4 * G.val := hj.2
  exact ⟨⟨j.val - (4 + 4 * G.val), by omega⟩, Fin.ext (show j.val = 4 + (G.val * 4 + (j.val - (4 + 4 * G.val))) by omega)⟩
theorem el_mem (G l : Fin 4) : MoeIdeal.Pay.Experts (gl G) (el G l) :=
  ⟨show 4 + 4 * G.val ≤ 4 + (G.val * 4 + l.val) by omega, show 4 + (G.val * 4 + l.val) < 8 + 4 * G.val by have := l.isLt; omega⟩
theorem el_le {G l l' : Fin 4} (h : l ≤ l') : el G l ≤ el G l' := by
  show 4 + (G.val * 4 + l.val) ≤ 4 + (G.val * 4 + l'.val)
  have : l.val ≤ l'.val := h
  omega
theorem el_inj {g l G l' : Fin 4} : el g l = el G l' ↔ g = G ∧ l = l' := by
  constructor
  · intro h
    have : 4 + (g.val * 4 + l.val) = 4 + (G.val * 4 + l'.val) := congrArg Fin.val h
    have := l.isLt
    have := l'.isLt
    exact ⟨Fin.ext (by omega), Fin.ext (by omega)⟩
  · rintro ⟨rfl, rfl⟩; rfl
theorem best_first {L : Fin 128 → ℝ} {G a : Fin 4} (h : Best (fun _ => True) (fun l => L (el G l)) a) :
    Best (MoeIdeal.Pay.Experts (gl G)) L (el G a) := by
  refine ⟨el_mem G a, fun j hj => ?_⟩
  obtain ⟨l, rfl⟩ := lane_of hj
  exact (h.2 l trivial).imp id fun c => ⟨c.1, el_le c.2⟩
theorem best_second {L : Fin 128 → ℝ} {G a a' : Fin 4} (h : Best (fun l => l ≠ a) (fun l => L (el G l)) a') :
    Best (fun j => MoeIdeal.Pay.Experts (gl G) j ∧ j ≠ el G a) L (el G a') := by
  refine ⟨⟨el_mem G a', fun c => h.1 (el_inj.1 c).2⟩, fun j hj => ?_⟩
  obtain ⟨l, rfl⟩ := lane_of hj.1
  exact (h.2 l fun c => hj.2 (c ▸ rfl)).imp id fun c => ⟨c.1, el_le c.2⟩

/-- The chosen group's weight is its softmax. -/
theorem group_weight (L : Fin 128 → ℝ) (G : Fin 4) :
    MoeIdeal.Pay.groupWeight L (gl G) = Real.exp (L (gl G)) / ∑ c : Fin 4, Real.exp (L (gl c)) := by
  unfold MoeIdeal.Pay.groupWeight
  have e : (∑ x : Fin 128, if MoeIdeal.Pay.Groups x then Real.exp (L x - L (gl G)) else 0)
      = ∑ c : Fin 4, Real.exp (L (gl c) - L (gl G)) := by
    refine (Fin.sum_univ_add (M := ℝ) (a := 4) (b := 124) (fun x : Fin 128 => if MoeIdeal.Pay.Groups x then Real.exp (L x - L (gl G)) else 0)).trans ?_
    have z : ∀ i : Fin 124, (if MoeIdeal.Pay.Groups (Fin.natAdd 4 i : Fin 128) then Real.exp (L (Fin.natAdd 4 i : Fin 128) - L (gl G)) else 0) = 0 := fun i =>
      if_neg (show ¬4 + i.val < 4 by omega)
    have o : ∀ i : Fin 4, (if MoeIdeal.Pay.Groups (Fin.castAdd 124 i : Fin 128) then Real.exp (L (Fin.castAdd 124 i : Fin 128) - L (gl G)) else 0)
        = Real.exp (L (gl i) - L (gl G)) := fun i => if_pos (show i.val < 4 from i.isLt)
    rw [Finset.sum_congr rfl fun i _ => o i, Finset.sum_congr rfl fun i _ => z i, Finset.sum_const_zero, add_zero]
  rw [e, Finset.sum_congr rfl fun c _ => Real.exp_sub _ _, ← Finset.sum_div]
  exact one_div_div _ _

/-- The two chosen experts' shares, in the two ways of writing them. -/
theorem shares (A B S W : ℝ) (u v : ℝ) (hA : Real.exp u = A) (hB : Real.exp v = B) (hS : 0 < S) :
    A / S / (A / S + B / S) * W = W / (1 + Real.exp (v - u)) ∧ B / S / (A / S + B / S) * W = W / (1 + Real.exp (v - u)) * Real.exp (v - u) := by
  have pA : 0 < A := hA ▸ Real.exp_pos u
  have pB : 0 < B := hB ▸ Real.exp_pos v
  rw [Real.exp_sub, hA, hB]
  constructor <;> field_simp

include hR in
theorem weight_at (b : Fin 4) (r : Fin 8192) (g l : Fin 4) :
    val_main_v112 x0 x1 x2 x3 x4 x5 x6 (ix3 b r ⟨g.val * 4 + l.val, by have := g.isLt; have := l.isLt; omega⟩)
      = (MoeSpec.weight (lgr x0 x1 x2 x3 x4 x5 x6 b r) (el g l) : EReal) := by
  rw [weight_read]
  have hg : ∀ g, val_main_v28 x0 x1 x2 x3 x4 (ix3 b r g) = ((lgr x0 x1 x2 x3 x4 x5 x6 b r (gl g) : ℝ) : EReal) := fun g =>
    (group_logit x0 x1 x2 x3 x4 x5 x6 b r g).trans (hR b r _)
  have he := expert_soft x0 x1 x2 x3 x4 x5 x6 hR b r g
  rw [group_soft x0 x1 x2 x3 x4 x5 x6 hR b r g]
  generalize lgr x0 x1 x2 x3 x4 x5 x6 b r = L at hg he ⊢
  obtain ⟨G, hG⟩ := exists_best (fun _ => True) (fun g => L (gl g)) ⟨0, trivial⟩
  have eG : MoeSpec.group L = gl G := (MoeSpec.group_best L).unique (best_group hG)
  obtain ⟨a, ha⟩ := exists_best (fun _ => True) (fun l => L (el G l)) ⟨0, trivial⟩
  have ea : MoeSpec.first L = el G a := (MoeSpec.first_best L).unique (by rw [eG]; exact best_first ha)
  obtain ⟨a', ha'⟩ := exists_best (fun j => j ≠ a) (fun l => L (el G l)) (by
    by_cases h : a = 0
    · exact ⟨1, by rw [h]; decide⟩
    · exact ⟨0, Ne.symm h⟩)
  have ea' : MoeSpec.second L = el G a' := (MoeSpec.second_best L).unique (by rw [eG, ea]; exact best_second ha')
  unfold MoeSpec.weight
  rw [eG, ea, ea', group_weight]
  by_cases hgG : g = G
  · subst hgG
    have hS : 0 < ∑ c : Fin 4, Real.exp (L (el g c)) := Finset.sum_pos (fun c _ => Real.exp_pos _) ⟨0, Finset.mem_univ _⟩
    have mono : ∀ i j : Fin 4, L (el g i) < L (el g j)
        ↔ Real.exp (L (el g i)) / ∑ c : Fin 4, Real.exp (L (el g c)) < Real.exp (L (el g j)) / ∑ c : Fin 4, Real.exp (L (el g c)) := fun i j => by
      rw [div_lt_div_iff_of_pos_right hS, Real.exp_lt_exp]
    have hk := fun l => expert_rank x0 x1 x2 x5 x6 b r g l
      (fun l => Real.exp (L (el g l)) / ∑ c : Fin 4, Real.exp (L (el g c))) he (ha.of_mono mono) (ha'.of_mono mono)
    have hne : a' ≠ a := ha'.1
    obtain ⟨s1, s2⟩ := shares _ _ _ (Real.exp (L (gl g)) / ∑ c : Fin 4, Real.exp (L (gl c))) _ _ (rfl : Real.exp (L (el g a)) = _)
      (rfl : Real.exp (L (el g a')) = _) hS
    have hsel : ∀ x, (if val_main_v76 x0 x1 x2 x5 x6 (ix4 b r g x) < Ideal.ofBits .f32 0x40000000#32 then
          val_main_v55 x0 x1 x2 x5 x6 (ix4 b r g x) else 0)
        = (((if x = a then Real.exp (L (el g a)) / ∑ c : Fin 4, Real.exp (L (el g c)) else 0)
            + if x = a' then Real.exp (L (el g a')) / ∑ c : Fin 4, Real.exp (L (el g c)) else 0 : ℝ) : EReal) := fun x => by
      by_cases h1 : x = a
      · subst h1
        rw [if_pos ((hk x).2 (Or.inl rfl)), if_pos rfl, if_neg (Ne.symm hne), add_zero, he]
      · by_cases h2 : x = a'
        · subst h2
          rw [if_pos ((hk x).2 (Or.inr rfl)), if_pos rfl, if_neg h1, zero_add, he]
        · rw [if_neg fun c => ((hk x).1 c).elim h1 h2, if_neg h1, if_neg h2, add_zero]
          rfl
    have hden : (∑ x, if val_main_v76 x0 x1 x2 x5 x6 (ix4 b r g x) < Ideal.ofBits .f32 0x40000000#32 then
          val_main_v55 x0 x1 x2 x5 x6 (ix4 b r g x) else 0)
        = ((Real.exp (L (el g a)) / (∑ c : Fin 4, Real.exp (L (el g c))) + Real.exp (L (el g a')) / (∑ c : Fin 4, Real.exp (L (el g c))) : ℝ) : EReal) := by
      rw [Finset.sum_congr rfl fun x _ => hsel x, Online.coe_sum, Finset.sum_add_distrib, Finset.sum_ite_eq' Finset.univ a,
        Finset.sum_ite_eq' Finset.univ a', if_pos (Finset.mem_univ _), if_pos (Finset.mem_univ _)]
    have hpos : Real.exp (L (el g a)) / (∑ c : Fin 4, Real.exp (L (el g c))) + Real.exp (L (el g a')) / (∑ c : Fin 4, Real.exp (L (el g c))) ≠ 0 :=
      (add_pos (div_pos (Real.exp_pos _) hS) (div_pos (Real.exp_pos _) hS)).ne'
    rw [if_pos ((group_rank x0 x1 x2 x3 x4 b r g _ hg hG).2 rfl), hden, hsel, Online.div_coe_coe _ _ hpos, ← EReal.coe_mul,
      EReal.coe_eq_coe_iff]
    by_cases h1 : l = a
    · subst h1
      rw [if_pos rfl, if_neg (Ne.symm hne), if_pos rfl, if_neg fun c => hne (el_inj.1 c).2.symm, add_zero, add_zero]
      exact s1
    · by_cases h2 : l = a'
      · subst h2
        rw [if_neg h1, if_pos rfl, if_neg fun c => h1 (el_inj.1 c).2, if_pos rfl, zero_add, zero_add]
        exact s2
      · rw [if_neg h1, if_neg h2, if_neg fun c => h1 (el_inj.1 c).2, if_neg fun c => h2 (el_inj.1 c).2, add_zero, zero_div, zero_mul]
  · rw [if_neg fun c => hgG ((group_rank x0 x1 x2 x3 x4 b r g _ hg hG).1 c), if_neg fun c => hgG (el_inj.1 c).1,
      if_neg fun c => hgG (el_inj.1 c).1, add_zero]
    rfl

include hR in
/-- The reference's result is the layer of its arguments. -/
theorem result : val_main_v122 x0 x1 x2 x3 x4 x5 x6 x7 x8 x9 = MoeSpec.out x0 x1 x2 x3 x4 x5 x6 x7 x8 x9 := by
  funext i
  obtain ⟨b, r, n, rfl⟩ : ∃ b r n, i = ix3 b r n := ⟨i 0, i 1, i 2, by
    funext a
    match a with
    | ⟨0, _⟩ => rfl
    | ⟨1, _⟩ => rfl
    | ⟨2, _⟩ => rfl⟩
  have h : val_main_v122 x0 x1 x2 x3 x4 x5 x6 x7 x8 x9 (ix3 b r n)
      = x0 (ix3 b r n) + x1 (ix3 b 0 ⟨5120 + n.val, by have := n.isLt; omega⟩) * ∑ x : Fin 16, val_main_v112 x0 x1 x2 x3 x4 x5 x6 (ix3 b r x)
          * ∑ f : Fin 512, x9 (ix3 x f n) * ((∑ k : Fin 1024, val_main_v24 x0 x1 x2 (ix3 b r k) * x7 (ix3 x k f))
              * Ideal.div 1 (1 + Ideal.exp (-∑ k : Fin 1024, val_main_v24 x0 x1 x2 (ix3 b r k) * x7 (ix3 x k f)))
              * ∑ k : Fin 1024, val_main_v24 x0 x1 x2 (ix3 b r k) * x8 (ix3 x k f)) := by
    pointwise [val_main_v113, val_main_v114, val_main_v115, val_main_v116, val_main_v117, val_main_v118, val_main_v119, val_main_v120, val_main_v121, val_main_v122, val_main_v5, val_main_call4_v0, val_main_call4_v1, val_main_call4_v2, val_main_call4_v3, val_main_call4_v4, val_main_call4_v5, val_main_call4_cst, val_main_call4_cst_0]
  rw [h]
  show _ = MoeSpec.value x0 x1 x2 x3 x4 x5 x6 x7 x8 x9 b r n
  unfold MoeSpec.value MoeSpec.mixed
  refine congrArg₂ (fun p q : EReal => p + q) rfl (congrArg₂ (fun p q : EReal => p * q) rfl (Finset.sum_congr rfl fun e _ => ?_))
  have hw : val_main_v112 x0 x1 x2 x3 x4 x5 x6 (ix3 b r e)
      = (MoeSpec.weight (lgr x0 x1 x2 x3 x4 x5 x6 b r) ⟨e.val + 4, by have := e.isLt; omega⟩ : EReal) := by
    have hge : e.val / 4 < 4 := by have := e.isLt; omega
    have hle : e.val % 4 < 4 := Nat.mod_lt _ (by decide)
    have e1 : (⟨(⟨e.val / 4, hge⟩ : Fin 4).val * 4 + (⟨e.val % 4, hle⟩ : Fin 4).val, by dsimp only; have := e.isLt; omega⟩ : Fin 16) = e :=
      Fin.ext (show e.val / 4 * 4 + e.val % 4 = e.val by omega)
    have e2 : el ⟨e.val / 4, hge⟩ ⟨e.val % 4, hle⟩ = ⟨e.val + 4, by have := e.isLt; omega⟩ :=
      Fin.ext (show 4 + (e.val / 4 * 4 + e.val % 4) = e.val + 4 by omega)
    have := weight_at x0 x1 x2 x3 x4 x5 x6 hR b r ⟨e.val / 4, hge⟩ ⟨e.val % 4, hle⟩
    rw [e1, e2] at this
    exact this
  rw [hw]
  refine congrArg₂ (fun p q : EReal => p * q) rfl ?_
  unfold MoeSpec.expert
  refine Finset.sum_congr rfl fun f _ => ?_
  rw [mul_comm]
  have hs : ∀ w : (⟨S16x1024x512, .f32⟩ : BufTy).Contents (Elt Ideal), (∑ k : Fin 1024, val_main_v24 x0 x1 x2 (ix3 b r k) * w (ix3 e k f))
      = ∑ k : Fin 1024, MoeSpec.row x0 x1 x2 b r k * w (ix3 e k f) := fun w =>
    Finset.sum_congr rfl fun k _ => congrArg₂ (fun p q : EReal => p * q) (row_at x0 x1 x2 b r k) rfl
  rw [hs, hs]
  rfl

end Cert.MoeRefIdeal.At

end
-- ==== Proof.MoePre.lean ====
/- What the precondition of the experts' claim gives: all the routers' logits are real numbers. -/
module

public import proofs.«01_k».proof.Proof.MoeSpec
public import proofs.«01_k».proof.Proof.AttnPre
public import proofs.«01_k».proof.Pre_finite_router

@[expose] public section

noncomputable section

namespace Cert.MoePre

open Idealize.ShloMosaic Idealize.ShloMosaic.TcCoe Cert.Pre_finite_router

variable [Cert.Pre_finite_router.Facts]

/-- All the arguments that the precondition tests. -/
theorem reals {x0 : S4x8192x1024.Idx → EReal} {x1 : S4x1x6144.Idx → EReal} {x2 : S1024.Idx → EReal} {x3 : S1024x4.Idx → EReal}
    {x4 : S4.Idx → EReal} {x5 : S1024x16.Idx → EReal} {x6 : S16.Idx → EReal} {x7 x8 : S16x1024x512.Idx → EReal} {x9 : S16x512x1024.Idx → EReal}
    (h : Cert.Pre_finite_router.fn (F := Ideal) x0 x1 x2 x3 x4 x5 x6 x7 x8 x9 = fun _ => 1#1) :
    AttnSpec.Reals x0 ∧ AttnSpec.Reals x1 ∧ AttnSpec.Reals x2 ∧ AttnSpec.Reals x3 ∧ AttnSpec.Reals x4 ∧ AttnSpec.Reals x5 ∧ AttnSpec.Reals x6 := by
  have e := congrFun h (fun k => k.elim0)
  unfold Cert.Pre_finite_router.fn Cert.Pre_finite_router.fn_part1 Cert.Pre_finite_router.fn_part2 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  exact ⟨AttnPre.reals_of_all _ _ _ _ _ _ e0, AttnPre.reals_of_all _ _ _ _ _ _ e1, AttnPre.reals_of_all _ _ _ _ _ _ e2,
    AttnPre.reals_of_all _ _ _ _ _ _ e3, AttnPre.reals_of_all _ _ _ _ _ _ e4, AttnPre.reals_of_all _ _ _ _ _ _ e5,
    AttnPre.reals_of_all _ _ _ _ _ _ e6⟩

/-- A real number among the extended ones. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {n : ℕ} {f : Fin n → EReal} (h : ∀ i, IsReal (f i)) : IsReal (∑ i, f i) := by
  choose g hg using h
  exact ⟨∑ i, g i, by rw [← Online.coe_sum]; exact Finset.sum_congr rfl fun i _ => hg i⟩
theorem of_reals {s : Shape} {x : s.Idx → EReal} (h : AttnSpec.Reals x) (i : s.Idx) : IsReal (x i) := ⟨_, h i⟩

theorem size_word : Ideal.ofBits .f32 0x44800000#32 = ((1024 : ℝ) : EReal) := by
  unfold Ideal.ofBits Ideal.ieee
  dsimp only
  rw [if_neg (by decide), if_neg (by decide), if_neg (by decide)]
  rw [EReal.coe_eq_coe_iff]
  norm_num [Nat.shiftRight_eq_div_pow]
theorem one_word : Ideal.ofBits .f32 0x3F800000#32 = ((1 : ℝ) : EReal) := by
  unfold Ideal.ofBits Ideal.ieee
  dsimp only
  rw [if_neg (by decide), if_neg (by decide), if_neg (by decide)]
  rw [EReal.coe_eq_coe_iff]
  norm_num [Nat.shiftRight_eq_div_pow]
theorem eps_word : ∃ e : ℝ, 0 < e ∧ Ideal.ofBits .f32 0x358637BD#32 = (e : EReal) := by
  unfold Ideal.ofBits Ideal.ieee
  dsimp only
  rw [if_neg (by decide), if_neg (by decide), if_neg (by decide)]
  refine ⟨_, ?_, rfl⟩
  norm_num [Nat.shiftRight_eq_div_pow]

/-- A modulated row of real numbers is real. -/
theorem norm_real {x g c s : Fin 1024 → EReal} (hx : ∀ k, IsReal (x k)) (hg : ∀ k, IsReal (g k)) (hc : ∀ k, IsReal (c k))
    (hs : ∀ k, IsReal (s k)) (k : Fin 1024) : IsReal (ProjSpec.norm x g c s k) := by
  obtain ⟨e, he, ew⟩ := eps_word
  have hr : IsReal (Ideal.rsqrt (Ideal.div (∑ e, x e * x e) (Ideal.ofBits .f32 0x44800000#32) + Ideal.ofBits .f32 0x358637BD#32)) := by
    choose f hf using hx
    have h : ∑ e, x e * x e = ((∑ e, f e * f e : ℝ) : EReal) := by
      rw [← Online.coe_sum]
      exact Finset.sum_congr rfl fun i _ => by rw [hf i, EReal.coe_mul]
    have h0 : 0 ≤ ∑ e, f e * f e := Finset.sum_nonneg fun i _ => mul_self_nonneg _
    have hp : 0 < (∑ e, f e * f e) / 1024 + e := by positivity
    rw [h, size_word, ew, Online.div_coe_coe _ _ (by norm_num), ← EReal.coe_add, Ideal.rsqrt_coe, if_neg hp.not_gt, if_neg hp.ne']
    exact ⟨_, rfl⟩
  exact ((((hx k).mul hr).mul (hg k)).mul (IsReal.add ⟨1, one_word⟩ (hc k))).add (hs k)

theorem lanes_real {u : Fin 4 → EReal} {v : Fin 16 → EReal} (hu : ∀ i, IsReal (u i)) (hv : ∀ i, IsReal (v i)) (j : Fin 128) :
    IsReal (MoeSpec.lanes 0 u v j) := by
  unfold MoeSpec.lanes
  split
  · exact hu _
  · split
    · exact hv _
    · exact ⟨0, rfl⟩

/-- The routers' logits are real. -/
theorem routed {x0 : S4x8192x1024.Idx → EReal} {x1 : S4x1x6144.Idx → EReal} {x2 : S1024.Idx → EReal} {x3 : S1024x4.Idx → EReal}
    {x4 : S4.Idx → EReal} {x5 : S1024x16.Idx → EReal} {x6 : S16.Idx → EReal} {x7 x8 : S16x1024x512.Idx → EReal} {x9 : S16x512x1024.Idx → EReal}
    (h : Cert.Pre_finite_router.fn (F := Ideal) x0 x1 x2 x3 x4 x5 x6 x7 x8 x9 = fun _ => 1#1) : MoeSpec.Routed x0 x1 x2 x3 x4 x5 x6 := by
  obtain ⟨h0, h1, h2, h3, h4, h5, h6⟩ := reals h
  intro b r j
  have hl : IsReal (MoeSpec.logit (MoeSpec.row x0 x1 x2 b r) x3 x4 x5 x6 j) :=
    (IsReal.sum fun k => (norm_real (fun k => of_reals h0 _) (fun k => of_reals h2 _) (fun k => of_reals h1 _) (fun k => of_reals h1 _) k).mul
      (lanes_real (fun i => of_reals h3 _) (fun i => of_reals h5 _) j)).add (lanes_real (fun i => of_reals h4 _) (fun i => of_reals h6 _) j)
  obtain ⟨l, e⟩ := hl
  rw [e, EReal.toReal_coe]

end Cert.MoePre

end
-- ==== Proof.MoeValue.lean ====
/- The experts' claim: where the routers' logits are made of finite numbers, the kernel and the reference leave the same
   array, the layer of `MoeSpec`. -/
module

public import proofs.«01_k».proof.Defs
public import proofs.«01_k».proof.Proof.MoeArray
public import proofs.«01_k».proof.Proof.MoeRef
public import proofs.«01_k».proof.Proof.MoePre
public import proofs.«01_k».proof.Proof.Gen.MoeRefIdeal
public import proofs.«01_k».proof.Proof.Gen.MoeRefIdeal.Run
public import proofs.«01_k».proof.Proof.Gen.Pre_finite_router

@[expose] public section

noncomputable section

namespace Cert.MoeValue

open Idealize.ShloMosaic Idealize.ShloMosaic.TcCoe Idealize.SL.Sem

/-- Kernel and reference compute the same function. -/
theorem algebraic : Cert.algebraic_MoeIdeal_MoeRefIdeal_pre_finite_router (hMoeIdeal := Cert.MoeIdeal.Gen.facts)
    (hMoeRefIdeal := Cert.MoeRefIdeal.Gen.facts) (hPre_finite_router := Cert.Pre_finite_router.Gen.facts) := by
  intro m g m' g' hpre hargs
  letI := Cert.Pre_finite_router.Gen.facts
  refine ⟨fun c => Cert.MoeIdeal.Array.spec m c, ?_, ?_⟩
  · refine (θ_run _ _ _).mono (fun r h c => ?_) (Cert.MoeIdeal.Value.run_blocks m g)
    exact ⟨(h c).1.trans (Cert.MoeIdeal.Array.array m c (MoePre.routed (hpre c))), (h c).2⟩
  · refine (θ_run _ _ _).mono (fun r h c => ?_) (Cert.MoeRefIdeal.Value.run m' g')
    obtain ⟨a0, a1, a2, a3, a4, a5, a6, a7, a8, a9⟩ := hargs c
    refine ⟨((h c).1.trans (Cert.MoeRefIdeal.Read.val_main_v122_eq m' c)).trans ?_, (h c).2⟩
    rw [a0, a1, a2, a3, a4, a5, a6, a7, a8, a9]
    exact Cert.MoeRefIdeal.At.result _ _ _ _ _ _ _ _ _ _ (MoePre.routed (hpre c))

end Cert.MoeValue

end
-- ==== Proof.WindowSum.lean ====
/- Softmax with weights that may be nought: a score is a real number or minus infinity, its weight the exponential of it.
   Subtracting a real maximum first changes no quotient, in the kernel's four blocks of keys and its sink or in one row of
   all keys. Sums over all keys of terms that vanish outside three neighbouring blocks. -/
module

public import proofs.«01_k».proof.Proof.Online

@[expose] public section

noncomputable section

namespace Cert.WindowSum

open Idealize.ShloMosaic

/-- The exponential of a score, a real number; nought for minus infinity. -/
def wt (x : EReal) : ℝ := (Ideal.exp x).toReal

theorem wt_bot : wt ⊥ = 0 := rfl
theorem wt_coe (a : ℝ) : wt (a : EReal) = Real.exp a := rfl
theorem wt_nonneg (x : EReal) (hx : x ≠ ⊤) : 0 ≤ wt x := by
  induction x using EReal.rec with
  | bot => exact le_of_eq wt_bot.symm
  | coe a => rw [wt_coe]; positivity
  | top => exact absurd rfl hx

theorem exp_shift (x : EReal) (hx : x ≠ ⊤) (M : ℝ) : Ideal.exp (x - (M : EReal)) = ((Real.exp (-M) * wt x : ℝ) : EReal) := by
  induction x using EReal.rec with
  | bot => rw [wt_bot, mul_zero, EReal.bot_sub]; rfl
  | coe a => rw [wt_coe, Online.exp_sub_coe, ← Real.exp_add]; congr 2; ring
  | top => exact absurd rfl hx

/-- The greater of a real number and the maximum of scores is real. -/
theorem max_fold {ι : Type} (t : Finset ι) (f : ι → EReal) (hf : ∀ i, f i ≠ ⊤) (M : ℝ) :
    ∃ r : ℝ, max (M : EReal) (t.fold max (⊥ : EReal) f) = r := by
  classical
  induction t using Finset.induction_on with
  | empty => exact ⟨M, max_eq_left bot_le⟩
  | insert a t ha ih =>
    obtain ⟨r, h⟩ := ih
    rw [Finset.fold_insert ha, max_left_comm, h]
    cases e : f a using EReal.rec with
    | bot => exact ⟨r, max_eq_right bot_le⟩
    | coe b => exact ⟨max b r, (EReal.coe_strictMono.monotone.map_max).symm⟩
    | top => exact absurd e (hf a)

/-- The maximum of scores of which one is real. -/
theorem fold_real {ι : Type} [Fintype ι] (f : ι → EReal) (hf : ∀ i, f i ≠ ⊤) (i : ι) (a : ℝ) (hi : f i = a) :
    ∃ r : ℝ, Finset.univ.fold max (⊥ : EReal) f = r := by
  obtain ⟨r, h⟩ := max_fold Finset.univ f hf a
  refine ⟨r, h ▸ (max_eq_right ?_).symm⟩
  rw [← hi]
  exact Finset.le_fold_max _ |>.2 (Or.inr ⟨i, Finset.mem_univ _, le_rfl⟩)

/-- A sum times a real number that is not negative. -/
theorem sum_mul {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, EReal.right_distrib_of_nonneg_of_ne_top (by exact_mod_cast hc) (EReal.coe_ne_top c), ih]

/-- Shifted weights over a shifted sum are the weights over the sum. -/
theorem sum_scaled {ι : Type} [Fintype ι] (w : ι → ℝ) (v : ι → EReal) (e D : ℝ) (he : 0 < e) (hD : 0 < D) :
    (∑ i, ((e * w i : ℝ) : EReal) * v i) * ((1 / (e * D) : ℝ) : EReal) = ∑ i, ((w i / D : ℝ) : EReal) * v i := by
  rw [sum_mul _ _ _ (by positivity)]
  refine Finset.sum_congr rfl fun i _ => ?_
  rw [mul_right_comm, ← EReal.coe_mul]
  congr 2
  field_simp

/-- A row's sum of weights: three blocks of keys, the context and the sink. -/
def total (s : ℝ) {n k : ℕ} (P C X : Fin n → EReal) (T : Fin k → EReal) : ℝ :=
  Real.exp s + ∑ i, wt (P i) + ∑ i, wt (C i) + ∑ i, wt (X i) + ∑ i, wt (T i)

/-- The kernel's row: whatever real number is subtracted. -/
theorem row {n k : ℕ} (P C X : Fin n → EReal) (T : Fin k → EReal) (u v w : Fin n → EReal) (z : Fin k → EReal)
    (hP : ∀ i, P i ≠ ⊤) (hC : ∀ i, C i ≠ ⊤) (hX : ∀ i, X i ≠ ⊤) (hT : ∀ i, T i ≠ ⊤) (s M : ℝ) :
    Ideal.div (((∑ i, Ideal.exp (P i - (M : EReal)) * u i + ∑ i, Ideal.exp (C i - (M : EReal)) * v i)
        + ∑ i, Ideal.exp (X i - (M : EReal)) * w i) + ∑ i, Ideal.exp (T i - (M : EReal)) * z i)
      ((((Ideal.exp ((s : EReal) - (M : EReal)) + ∑ i, Ideal.exp (P i - (M : EReal))) + ∑ i, Ideal.exp (C i - (M : EReal)))
        + ∑ i, Ideal.exp (X i - (M : EReal))) + ∑ i, Ideal.exp (T i - (M : EReal)))
    = ((∑ i, ((wt (P i) / total s P C X T : ℝ) : EReal) * u i + ∑ i, ((wt (C i) / total s P C X T : ℝ) : EReal) * v i)
        + ∑ i, ((wt (X i) / total s P C X T : ℝ) : EReal) * w i) + ∑ i, ((wt (T i) / total s P C X T : ℝ) : EReal) * z i := by
  have hD : 0 < total s P C X T := by
    have h1 := Finset.sum_nonneg fun i (_ : i ∈ Finset.univ) => wt_nonneg _ (hP i)
    have h2 := Finset.sum_nonneg fun i (_ : i ∈ Finset.univ) => wt_nonneg _ (hC i)
    have h3 := Finset.sum_nonneg fun i (_ : i ∈ Finset.univ) => wt_nonneg _ (hX i)
    have h4 := Finset.sum_nonneg fun i (_ : i ∈ Finset.univ) => wt_nonneg _ (hT i)
    have h5 := Real.exp_pos s
    unfold total
    linarith
  have he : 0 < Real.exp (-M) := Real.exp_pos _
  have hn : (0 : EReal) ≤ ((1 / (Real.exp (-M) * total s P C X T) : ℝ) : EReal) := by
    have : 0 ≤ 1 / (Real.exp (-M) * total s P C X T) := by positivity
    exact_mod_cast this
  have hs : Ideal.exp ((s : EReal) - (M : EReal)) = ((Real.exp (-M) * Real.exp s : ℝ) : EReal) := exp_shift _ (EReal.coe_ne_top s) M
  rw [hs]
  simp only [exp_shift _ (hP _), exp_shift _ (hC _), exp_shift _ (hX _), exp_shift _ (hT _)]
  have hd : ((((((Real.exp (-M) * Real.exp s : ℝ) : EReal) + ∑ i, ((Real.exp (-M) * wt (P i) : ℝ) : EReal))
      + ∑ i, ((Real.exp (-M) * wt (C i) : ℝ) : EReal)) + ∑ i, ((Real.exp (-M) * wt (X i) : ℝ) : EReal))
      + ∑ i, ((Real.exp (-M) * wt (T i) : ℝ) : EReal)) = ((Real.exp (-M) * total s P C X T : ℝ) : EReal) := by
    rw [Online.coe_sum, Online.coe_sum, Online.coe_sum, Online.coe_sum, ← EReal.coe_add, ← EReal.coe_add, ← EReal.coe_add, ← EReal.coe_add]
    congr 1
    unfold total
    rw [← Finset.mul_sum, ← Finset.mul_sum, ← Finset.mul_sum, ← Finset.mul_sum]
    ring
  rw [hd, Ideal.div_coe (by positivity), EReal.right_distrib_of_nonneg_of_ne_top hn (EReal.coe_ne_top _),
    EReal.right_distrib_of_nonneg_of_ne_top hn (EReal.coe_ne_top _), EReal.right_distrib_of_nonneg_of_ne_top hn (EReal.coe_ne_top _),
    sum_scaled _ _ _ _ he hD, sum_scaled _ _ _ _ he hD, sum_scaled _ _ _ _ he hD, sum_scaled _ _ _ _ he hD]

/-- The weight of one key in one row of all keys. -/
theorem weight {n : ℕ} (f : Fin n → EReal) (hf : ∀ i, f i ≠ ⊤) (M : ℝ) (hD : 0 < ∑ i, wt (f i)) (j : Fin n) :
    Ideal.div (Ideal.exp (f j - (M : EReal))) (∑ i, Ideal.exp (f i - (M : EReal))) = ((wt (f j) / ∑ i, wt (f i) : ℝ) : EReal) := by
  simp only [exp_shift _ (hf _)]
  have he : 0 < Real.exp (-M) := Real.exp_pos _
  rw [Online.coe_sum, ← Finset.mul_sum, Online.div_coe_coe _ _ (by positivity), mul_div_mul_left _ _ he.ne']

/-- A sum over two ranges and a last place. -/
theorem split {A : Type} [AddCommMonoid A] (m n N : ℕ) (hN : m + n + 1 = N) (f : Fin N → A) :
    ∑ j, f j = ∑ j : Fin m, f ⟨j.val, by omega⟩ + ∑ c : Fin n, f ⟨m + c.val, by omega⟩ + f ⟨m + n, by omega⟩ := by
  subst hN
  rw [Fin.sum_univ_castSucc, Fin.sum_univ_add]
  rfl

/-- Three neighbouring blocks hold the whole sum. -/
theorem blocks {A : Type} [AddCommMonoid A] (n : ℕ) (hn : n < 64) (G : ℕ → A)
    (h0 : ∀ i, i ≠ n → i + 1 ≠ n → i ≠ n + 1 → G i = 0) :
    (if 0 < n then G (n - 1) else 0) + G n + (if n < 63 then G (n + 1) else 0) = ∑ i ∈ Finset.range 64, G i := by
  have e : ∀ i, G i = ((if i + 1 = n then G i else 0) + if i = n then G i else 0) + if i = n + 1 then G i else 0 := fun i => by
    by_cases h1 : i + 1 = n
    · rw [if_pos h1, if_neg (by omega), if_neg (by omega), add_zero, add_zero]
    · by_cases h2 : i = n
      · rw [if_neg h1, if_pos h2, if_neg (by omega), zero_add, add_zero]
      · by_cases h3 : i = n + 1
        · rw [if_neg h1, if_neg h2, if_pos h3, zero_add, zero_add]
        · rw [if_neg h1, if_neg h2, if_neg h3, h0 i h2 h1 h3, zero_add, zero_add]
  rw [Finset.sum_congr rfl fun i _ => e i, Finset.sum_add_distrib, Finset.sum_add_distrib]
  have e1 : (∑ i ∈ Finset.range 64, if i + 1 = n then G i else 0) = if 0 < n then G (n - 1) else 0 := by
    by_cases h : 0 < n
    · rw [if_pos h, Finset.sum_eq_single_of_mem (n - 1) (Finset.mem_range.2 (by omega)) fun i _ hi => if_neg (by omega), if_pos (by omega)]
    · rw [if_neg h]
      exact Finset.sum_eq_zero fun i _ => if_neg (by omega)
  have e2 : (∑ i ∈ Finset.range 64, if i = n then G i else 0) = G n := by
    rw [Finset.sum_eq_single_of_mem n (Finset.mem_range.2 hn) fun i _ hi => if_neg hi, if_pos rfl]
  have e3 : (∑ i ∈ Finset.range 64, if i = n + 1 then G i else 0) = if n < 63 then G (n + 1) else 0 := by
    by_cases h : n < 63
    · rw [if_pos h, Finset.sum_eq_single_of_mem (n + 1) (Finset.mem_range.2 (by omega)) fun i _ hi => if_neg hi, if_pos rfl]
    · rw [if_neg h]
      exact Finset.sum_eq_zero fun i hi => if_neg (by have := Finset.mem_range.1 hi; omega)
  rw [e1, e2, e3]

/-- … in keys. -/
theorem band {A : Type} [AddCommMonoid A] (n : ℕ) (hn : n < 64) (F : ℕ → A)
    (h0 : ∀ j, j / 128 ≠ n → j / 128 + 1 ≠ n → j / 128 ≠ n + 1 → F j = 0) (p c x : A)
    (hp : p = if 0 < n then ∑ k : Fin 128, F ((n - 1) * 128 + k.val) else 0) (hc : c = ∑ k : Fin 128, F (n * 128 + k.val))
    (hx : x = if n < 63 then ∑ k : Fin 128, F ((n + 1) * 128 + k.val) else 0) :
    p + c + x = ∑ j : Fin 8192, F j.val := by
  have h := blocks n hn (fun i => ∑ k : Fin 128, F (i * 128 + k.val)) fun i h1 h2 h3 =>
    Finset.sum_eq_zero fun k _ => h0 _ (by omega) (by omega) (by omega)
  rw [hp, hc, hx, h, Fin.sum_univ_tiles 64 128 rfl, Finset.sum_range]

end Cert.WindowSum

end
-- ==== Proof.WindowSpec.lean ====
/- Window attention in plain words: a query looks at the keys at most 128 places from it, at all keys of the context, and at
   a sink, which takes weight and gives no value. -/
module

public import proofs.«01_k».proof.Proof.WindowSum
public import Idealize.ShloMosaic.Lib.Pointwise

@[expose] public section

noncomputable section

namespace Cert.WindowSpec

open Idealize.ShloMosaic Cert.WindowSum

/-- Arrays: queries, keys or values, the context's, the sinks. -/
abbrev Qs := (⟨5, ![4, 2, 2, 8192, 64]⟩ : Shape).Idx → EReal
abbrev Ks := (⟨4, ![4, 2, 8192, 64]⟩ : Shape).Idx → EReal
abbrev Cs := (⟨4, ![4, 2, 256, 64]⟩ : Shape).Idx → EReal
abbrev Ss := (⟨1, ![4]⟩ : Shape).Idx → EReal

/-- Two places at most 128 apart. -/
abbrev Near (r j : ℕ) : Prop := j ≤ r + 128 ∧ r ≤ j + 128

/-- A query's score against a key: minus infinity for one too far away. -/
def score (q : Qs) (k : Ks) (b : Fin 4) (h g : Fin 2) (r j : Fin 8192) : EReal :=
  if Near r.val j.val then ∑ d : Fin 64, q (ix5 b h g r d) * k (ix4 b h j d) else ⊥

/-- … against a key of the context. -/
def context (q : Qs) (kc : Cs) (b : Fin 4) (h g : Fin 2) (r : Fin 8192) (c : Fin 256) : EReal :=
  ∑ d : Fin 64, q (ix5 b h g r d) * kc (ix4 b h c d)

/-- The sink of a head. -/
def sink (s : Ss) (h g : Fin 2) : EReal := s (ix1 ⟨h.val * 2 + g.val, by have := h.isLt; have := g.isLt; omega⟩)

/-- The sum of a query's weights. -/
def total (q : Qs) (k : Ks) (kc : Cs) (s : Ss) (b : Fin 4) (h g : Fin 2) (r : Fin 8192) : ℝ :=
  ∑ j, wt (score q k b h g r j) + ∑ c, wt (context q kc b h g r c) + wt (sink s h g)

/-- The result at a place. -/
def value (q : Qs) (k v : Ks) (kc vc : Cs) (s : Ss) (b : Fin 4) (h g : Fin 2) (r : Fin 8192) (d : Fin 64) : EReal :=
  ∑ j, ((wt (score q k b h g r j) / total q k kc s b h g r : ℝ) : EReal) * v (ix4 b h j d)
    + ∑ c, ((wt (context q kc b h g r c) / total q k kc s b h g r : ℝ) : EReal) * vc (ix4 b h c d)

/-- … as an array. -/
def out (q : Qs) (k v : Ks) (kc vc : Cs) (s : Ss) : Qs := fun i => value q k v kc vc s (i 0) (i 1) (i 2) (i 3) (i 4)

/-- An array of real numbers. -/
def Reals {s : Shape} (x : s.Idx → EReal) : Prop := ∀ i, ∃ r : ℝ, x i = (r : EReal)

theorem product_real {n : ℕ} {f g : Fin n → EReal} (hf : ∀ i, ∃ r : ℝ, f i = (r : EReal)) (hg : ∀ i, ∃ r : ℝ, g i = (r : EReal)) :
    ∃ r : ℝ, ∑ i, f i * g i = (r : EReal) := by
  choose a ha using hf
  choose b hb using hg
  exact ⟨∑ i, a i * b i, by rw [← Online.coe_sum]; exact Finset.sum_congr rfl fun i _ => by rw [ha, hb, EReal.coe_mul]⟩

theorem score_top {q : Qs} {k : Ks} (hq : Reals q) (hk : Reals k) (b : Fin 4) (h g : Fin 2) (r j : Fin 8192) : score q k b h g r j ≠ ⊤ := by
  unfold score
  split
  · obtain ⟨a, e⟩ := product_real (fun d : Fin 64 => hq (ix5 b h g r d)) (fun d : Fin 64 => hk (ix4 b h j d))
    rw [e]; exact EReal.coe_ne_top a
  · exact bot_ne_top
theorem context_top {q : Qs} {kc : Cs} (hq : Reals q) (hk : Reals kc) (b : Fin 4) (h g : Fin 2) (r : Fin 8192) (c : Fin 256) :
    context q kc b h g r c ≠ ⊤ := by
  unfold context
  obtain ⟨a, e⟩ := product_real (fun d : Fin 64 => hq (ix5 b h g r d)) (fun d : Fin 64 => hk (ix4 b h c d))
  rw [e]; exact EReal.coe_ne_top a

end Cert.WindowSpec

end
-- ==== Proof.WindowPay.lean ====
/- The window kernel's arithmetic, read at a row: 256 rows are two heads of 128 queries. -/
module

public import proofs.«01_k».proof.Proof.WindowSpec
public import proofs.«01_k».proof.Proof.Gen.WindowIdeal.Skeleton
public import Idealize.ShloMosaic.Lib.WordCmp

@[expose] public section

noncomputable section

namespace Cert.WindowIdeal.Pay

open Idealize.ShloMosaic Idealize.ShloMosaic.TcCoe Cert.WindowIdeal Cert.WindowIdeal.Gen
open Idealize.ShloMosaic.WordCmp (ofBool_decide_eq_one_iff)

theorem bot_word : Ideal.ofBits .f32 0xFF800000#32 = (⊥ : EReal) := by
  simp [Ideal.ofBits, Ideal.ieee, FTy.bits]
/-- The constant named the mask is minus infinity. -/
theorem mask_bot : (Named.named κ "mask" 0xF149F2CA#32 : Ideal .f32) = (⊥ : EReal) := rfl

/-- The row of a head's query. -/
abbrev line (g : Fin 2) (r : Fin 128) : Fin 256 := ⟨g.val * 128 + r.val, by have := g.isLt; have := r.isLt; omega⟩

theorem query (x : FVec Ideal S1x1x2x128x64 .bf16) (g : Fin 2) (r : Fin 128) (d : Fin 64) :
    k0_pay2 x (ix2 (line g r) d) = x (ix5 0 0 g r d) := by
  have e1 : (g.val * 128 + r.val) / 128 = g.val := by have := r.isLt; omega
  have e2 : (g.val * 128 + r.val) % 128 = r.val := by have := r.isLt; omega
  pointwise [k0_pay2]
  simp only [e1, e2]

/-- A row's query, in the kernel's words. -/
theorem place (g : Fin 2) (r : Fin 128) (c : Fin 128) : k0_pay3 (ix2 (line g r) c) = BitVec.ofNat 32 r.val := by
  have e : ∀ ρ : Fin 256, k0_pay3 (ix2 ρ c) = BitVec.ofNat 32 (ρ.val % 128) := fun ρ => by
    pointwise [k0_pay3]
    revert ρ
    decide +kernel
  rw [e]
  congr 1
  have := r.isLt
  show (g.val * 128 + r.val) % 128 = r.val
  omega

/-- A row's head, in the kernel's words. -/
theorem head (g : Fin 2) (r : Fin 128) : k0_pay8 (ix2 (line g r) 0) = BitVec.ofNat 32 g.val := by
  have e : ∀ ρ : Fin 256, k0_pay8 (ix2 ρ 0) = BitVec.ofNat 32 (ρ.val / 128) := fun ρ => by
    pointwise [k0_pay8]
    revert ρ
    decide +kernel
  rw [e]
  congr 1
  have := r.isLt
  show (g.val * 128 + r.val) / 128 = g.val
  omega

theorem prev (i : grid0.Coords) (x : FVec Ideal S1x1x2x128x64 .bf16) (k : FVec Ideal S1x1x128x64 .bf16) (g : Fin 2) (r c : Fin 128) :
    k0_pay4 (F := Ideal) i x k (ix2 (line g r) c)
      = if r.val ≤ c.val ∧ 0 < (i 2).val then ∑ d : Fin 64, (x (ix5 0 0 g r d) * k (ix4 0 0 c d) : EReal) else ⊥ := by
  have hi : (i 2).val < 64 := (i 2).isLt
  have hr := r.isLt
  have hc := c.isLt
  have e : k0_pay4 (F := Ideal) i x k (ix2 (line g r) c)
      = Scalar.select (IntOp.andi (IntOp.cmpi .sge (BitVec.ofNat 32 c.val) (k0_pay3 (ix2 (line g r) c)))
          (IntOp.cmpi .sgt (BitVec.ofNat 32 (i 2).val) 0#32))
        (∑ d : Fin 64, (k0_pay2 (F := Ideal) x (ix2 (line g r) d) * k (ix4 0 0 c d) : EReal)) (Named.named κ "mask" 0xF149F2CA#32 : Ideal .f32) := by
    pointwise [k0_pay4]
    rfl
  rw [e, place, mask_bot, WordCmp.cmpi_sge_ofNat (by omega) (by omega), WordCmp.cmpi_sgt_ofNat (by omega) (by omega), WordCmp.andi_ofBool]
  simp only [query]
  unfold Scalar.select
  simp only [WordCmp.ofBool_eq_one_iff, WordCmp.ofBool_eq_one_iff', Bool.and_eq_true, decide_eq_true_eq]

theorem cur (x : FVec Ideal S1x1x2x128x64 .bf16) (k : FVec Ideal S1x1x128x64 .bf16) (g : Fin 2) (r c : Fin 128) :
    k0_pay5 (F := Ideal) x k (ix2 (line g r) c) = ∑ d : Fin 64, (x (ix5 0 0 g r d) * k (ix4 0 0 c d) : EReal) := by
  have e : k0_pay5 (F := Ideal) x k (ix2 (line g r) c) = ∑ d : Fin 64, (k0_pay2 (F := Ideal) x (ix2 (line g r) d) * k (ix4 0 0 c d) : EReal) := by
    pointwise [k0_pay5]
  rw [e]
  simp only [query]

theorem next (n : ℕ) (hn : n < 64) (x : FVec Ideal S1x1x2x128x64 .bf16) (k : FVec Ideal S1x1x128x64 .bf16) (g : Fin 2) (r c : Fin 128) :
    k0_pay6 (F := Ideal) (BitVec.ofNat 32 n) (k0_pay2 x) k0_pay3 (iota .tc S256x128 32 [1] iota_S256x128_d1_w32) k (ix2 (line g r) c)
      = if c.val ≤ r.val ∧ n < 63 then ∑ d : Fin 64, (x (ix5 0 0 g r d) * k (ix4 0 0 c d) : EReal) else ⊥ := by
  have hr := r.isLt
  have hc := c.isLt
  have e : k0_pay6 (F := Ideal) (BitVec.ofNat 32 n) (k0_pay2 x) k0_pay3 (iota .tc S256x128 32 [1] iota_S256x128_d1_w32) k (ix2 (line g r) c)
      = Scalar.select (IntOp.andi (IntOp.cmpi .sle (BitVec.ofNat 32 c.val) (k0_pay3 (ix2 (line g r) c)))
          (IntOp.cmpi .slt (BitVec.ofNat 32 n) 63#32))
        (∑ d : Fin 64, (k0_pay2 (F := Ideal) x (ix2 (line g r) d) * k (ix4 0 0 c d) : EReal)) (Named.named κ "mask" 0xF149F2CA#32 : Ideal .f32) := by
    pointwise [k0_pay6]
    rfl
  rw [e, place, mask_bot, WordCmp.cmpi_sle_ofNat (by omega) (by omega), WordCmp.cmpi_slt_ofNat (by omega) (by omega), WordCmp.andi_ofBool]
  simp only [query]
  unfold Scalar.select
  simp only [WordCmp.ofBool_eq_one_iff, WordCmp.ofBool_eq_one_iff', Bool.and_eq_true, decide_eq_true_eq]

theorem ctx (x : FVec Ideal S1x1x2x128x64 .bf16) (k : FVec Ideal S1x1x256x64 .bf16) (g : Fin 2) (r : Fin 128) (c : Fin 256) :
    k0_pay7 (F := Ideal) (k0_pay2 x) k (ix2 (line g r) c) = ∑ d : Fin 64, (x (ix5 0 0 g r d) * k (ix4 0 0 c d) : EReal) := by
  have e : k0_pay7 (F := Ideal) (k0_pay2 x) k (ix2 (line g r) c) = ∑ d : Fin 64, (k0_pay2 (F := Ideal) x (ix2 (line g r) d) * k (ix4 0 0 c d) : EReal) := by
    pointwise [k0_pay7]
  rw [e]
  simp only [query]

/-- A row's sink: that of its head. -/
theorem sunk (a b : EReal) (g : Fin 2) (r : Fin 128) :
    k0_pay11 (F := Ideal) k0_pay8 k0_pay9 k0_pay10 a b (ix2 (line g r) 0) = if g.val = 0 then a else b := by
  have e : k0_pay11 (F := Ideal) k0_pay8 k0_pay9 k0_pay10 a b (ix2 (line g r) 0)
      = Scalar.select (IntOp.cmpi .eq (k0_pay8 (ix2 (line g r) 0)) 1#32) b
          (Scalar.select (IntOp.cmpi .eq (k0_pay8 (ix2 (line g r) 0)) 0#32) a (Ideal.ofBits .f32 0x00000000#32)) := rfl
  have h1 : g.val < 2 := g.isLt
  refine e.trans ?_
  rw [head, WordCmp.cmpi_eq_ofNat (by omega) (by omega), WordCmp.cmpi_eq_ofNat (by omega) (by omega)]
  unfold Scalar.select
  simp only [WordCmp.ofBool_eq_one_iff, WordCmp.ofBool_eq_one_iff', decide_eq_true_eq]
  by_cases h : g.val = 0
  · rw [if_neg (by omega), if_pos h, if_pos h]
  · rw [if_pos (by omega), if_neg h]

variable (P C X : FVec Ideal S256x128 .f32) (T : FVec Ideal S256x256 .f32) (s : FVec Ideal S256x1 .f32)
  (v69 : IVec S256x1 32) (v70 : FVec Ideal S256x1 .f32) (v72 : IVec S256x1 1) (a b : EReal) (ρ : Fin 256)

/-- The largest score of a row. -/
theorem top : k0_pay12 (F := Ideal) P C X T v69 v70 v72 a b (ix2 ρ 0)
    = max (max (max (max (k0_pay11 (F := Ideal) v69 v70 v72 a b (ix2 ρ 0)) (Finset.univ.fold max (Ideal.ofBits .f32 0xFF800000#32) fun x : Fin 128 => (P (ix2 ρ x) : EReal)))
        (Finset.univ.fold max (Ideal.ofBits .f32 0xFF800000#32) fun x : Fin 128 => (C (ix2 ρ x) : EReal)))
        (Finset.univ.fold max (Ideal.ofBits .f32 0xFF800000#32) fun x : Fin 128 => (X (ix2 ρ x) : EReal)))
        (Finset.univ.fold max (Ideal.ofBits .f32 0xFF800000#32) fun x : Fin 256 => (T (ix2 ρ x) : EReal)) := by
  pointwise [k0_pay12]

theorem top_real (hP : ∀ c, (P (ix2 ρ c) : EReal) ≠ ⊤) (hC : ∀ c, (C (ix2 ρ c) : EReal) ≠ ⊤) (hX : ∀ c, (X (ix2 ρ c) : EReal) ≠ ⊤)
    (hT : ∀ c, (T (ix2 ρ c) : EReal) ≠ ⊤) (S : ℝ) (hs : k0_pay11 (F := Ideal) v69 v70 v72 a b (ix2 ρ 0) = (S : EReal)) :
    ∃ M : ℝ, k0_pay12 (F := Ideal) P C X T v69 v70 v72 a b (ix2 ρ 0) = (M : EReal) := by
  rw [top, hs, bot_word]
  obtain ⟨m1, h1⟩ := WindowSum.max_fold Finset.univ (fun c : Fin 128 => (P (ix2 ρ c) : EReal)) hP S
  obtain ⟨m2, h2⟩ := WindowSum.max_fold Finset.univ (fun c : Fin 128 => (C (ix2 ρ c) : EReal)) hC m1
  obtain ⟨m3, h3⟩ := WindowSum.max_fold Finset.univ (fun c : Fin 128 => (X (ix2 ρ c) : EReal)) hX m2
  obtain ⟨m4, h4⟩ := WindowSum.max_fold Finset.univ (fun c : Fin 256 => (T (ix2 ρ c) : EReal)) hT m3
  rw [h1, h2, h3]
  exact ⟨m4, h4⟩

theorem sum_prev (v : FVec Ideal S1x1x128x64 .bf16) (d : Fin 64) : k0_pay15 (F := Ideal) P C X T v69 v70 v72 a b v (ix2 ρ d)
    = ∑ c : Fin 128, (Ideal.exp (P (ix2 ρ c) - k0_pay12 (F := Ideal) P C X T v69 v70 v72 a b (ix2 ρ 0)) * v (ix4 0 0 c d) : EReal) := by
  pointwise [k0_pay15, k0_pay13]
theorem den_prev : k0_pay14 (F := Ideal) P C X T v69 v70 v72 a b (ix2 ρ 0)
    = Ideal.exp (k0_pay11 (F := Ideal) v69 v70 v72 a b (ix2 ρ 0) - k0_pay12 (F := Ideal) P C X T v69 v70 v72 a b (ix2 ρ 0) : EReal)
      + ∑ c : Fin 128, Ideal.exp (P (ix2 ρ c) - k0_pay12 (F := Ideal) P C X T v69 v70 v72 a b (ix2 ρ 0) : EReal) := by
  pointwise [k0_pay14, k0_pay13]
theorem cur_exp (c : Fin 128) : k0_pay16 (F := Ideal) P C X T v69 v70 v72 a b (ix2 ρ c)
    = Ideal.exp (C (ix2 ρ c) - k0_pay12 (F := Ideal) P C X T v69 v70 v72 a b (ix2 ρ 0) : EReal) := by
  pointwise [k0_pay16]

/-- The quotient. -/
theorem quotient (M l : FVec Ideal S256x1 .f32) (A : FVec Ideal S256x64 .f32) (E : FVec Ideal S256x128 .f32)
    (v w : FVec Ideal S1x1x128x64 .bf16) (z : FVec Ideal S1x1x256x64 .bf16) (g : Fin 2) (r : Fin 128) (d : Fin 64) :
    k0_pay1 (k0_pay17 (F := Ideal) X T M l A E v w z) (ix5 0 0 g r d)
    = Ideal.div (((A (ix2 (line g r) d) + ∑ c : Fin 128, E (ix2 (line g r) c) * v (ix4 0 0 c d))
        + ∑ c : Fin 128, Ideal.exp (X (ix2 (line g r) c) - M (ix2 (line g r) 0)) * w (ix4 0 0 c d))
        + ∑ c : Fin 256, Ideal.exp (T (ix2 (line g r) c) - M (ix2 (line g r) 0)) * z (ix4 0 0 c d) : EReal)
      (((l (ix2 (line g r) 0) + ∑ c : Fin 128, E (ix2 (line g r) c)) + ∑ c : Fin 128, Ideal.exp (X (ix2 (line g r) c) - M (ix2 (line g r) 0)))
        + ∑ c : Fin 256, Ideal.exp (T (ix2 (line g r) c) - M (ix2 (line g r) 0)) : EReal) := by
  pointwise [k0_pay1, k0_pay17]

/-- A row of the result, whatever its scores, as long as none is plus infinity and the sink is real. -/
theorem row_eq (u v w : FVec Ideal S1x1x128x64 .bf16) (z : FVec Ideal S1x1x256x64 .bf16) (g : Fin 2) (r : Fin 128) (d : Fin 64)
    (hP : ∀ c, (P (ix2 (line g r) c) : EReal) ≠ ⊤) (hC : ∀ c, (C (ix2 (line g r) c) : EReal) ≠ ⊤)
    (hX : ∀ c, (X (ix2 (line g r) c) : EReal) ≠ ⊤) (hT : ∀ c, (T (ix2 (line g r) c) : EReal) ≠ ⊤) (S : ℝ)
    (hs : k0_pay11 (F := Ideal) v69 v70 v72 a b (ix2 (line g r) 0) = (S : EReal)) (D : ℝ)
    (hD : WindowSum.total S (fun i => P (ix2 (line g r) i)) (fun i => C (ix2 (line g r) i)) (fun i => X (ix2 (line g r) i))
      (fun i => T (ix2 (line g r) i)) = D) :
    k0_pay1 (k0_pay17 (F := Ideal) X T (k0_pay12 P C X T v69 v70 v72 a b) (k0_pay14 P C X T v69 v70 v72 a b)
      (k0_pay15 P C X T v69 v70 v72 a b u) (k0_pay16 P C X T v69 v70 v72 a b) v w z) (ix5 0 0 g r d)
    = (((∑ i : Fin 128, ((WindowSum.wt (P (ix2 (line g r) i)) / D : ℝ) : EReal) * u (ix4 0 0 i d)
        + ∑ i : Fin 128, ((WindowSum.wt (C (ix2 (line g r) i)) / D : ℝ) : EReal) * v (ix4 0 0 i d))
        + ∑ i : Fin 128, ((WindowSum.wt (X (ix2 (line g r) i)) / D : ℝ) : EReal) * w (ix4 0 0 i d))
        + ∑ i : Fin 256, ((WindowSum.wt (T (ix2 (line g r) i)) / D : ℝ) : EReal) * z (ix4 0 0 i d) : EReal) := by
  obtain ⟨M, hM⟩ := top_real P C X T v69 v70 v72 a b (line g r) hP hC hX hT S hs
  rw [quotient, sum_prev, den_prev, hs]
  simp only [cur_exp, hM]
  subst hD
  exact WindowSum.row (fun i => P (ix2 (line g r) i)) (fun i => C (ix2 (line g r) i)) (fun i => X (ix2 (line g r) i))
    (fun i => T (ix2 (line g r) i)) (fun i => u (ix4 0 0 i d)) (fun i => v (ix4 0 0 i d)) (fun i => w (ix4 0 0 i d))
    (fun i => z (ix4 0 0 i d)) hP hC hX hT S M

end Cert.WindowIdeal.Pay

end
-- ==== Proof.WindowBlock.lean ====
/- What a grid point of the window attention reads, and what it writes, in the kernel's own terms. -/
module

public import proofs.«01_k».proof.Proof.WindowPay
public import proofs.«01_k».proof.Proof.Gen.WindowIdeal.Value
public import Idealize.ShloMosaic.Lib.Pipeline.ReadBack
public import Idealize.ShloMosaic.Lib.Pipeline.ValueKit.Point

@[expose] public section

noncomputable section

namespace Cert.WindowIdeal.Array

open Idealize.ShloMosaic Idealize.ShloMosaic.TcCoe Cert.WindowIdeal Cert.WindowIdeal.Gen
open Idealize.ShloMosaic.Pipeline Idealize.SL.Sem

variable (m : (ℓ : Loc nD τ sig) → Buf (Elt Ideal) ℓ)

/-- Where the blocks of grid point `t` lie. -/
theorem idx0 : ∀ t : Fin cfg0.N, win0_0.index t = ![0] := (by decide +kernel : ∀ t : Fin grid0.N, _)
theorem idx1 : ∀ t : Fin cfg0.N, win0_1.index t = ![t.val / 128, t.val / 64 % 2, 0, t.val % 64, 0] := (by decide +kernel : ∀ t : Fin grid0.N, _)
theorem idx2 : ∀ t : Fin cfg0.N, win0_2.index t = ![t.val / 128, t.val / 64 % 2, t.val % 64 - 1, 0] := (by decide +kernel : ∀ t : Fin grid0.N, _)
theorem idx3 : ∀ t : Fin cfg0.N, win0_3.index t = ![t.val / 128, t.val / 64 % 2, t.val % 64, 0] := (by decide +kernel : ∀ t : Fin grid0.N, _)
theorem idx4 : ∀ t : Fin cfg0.N, win0_4.index t = ![t.val / 128, t.val / 64 % 2, min (t.val % 64 + 1) 63, 0] := (by decide +kernel : ∀ t : Fin grid0.N, _)
theorem idx5 : ∀ t : Fin cfg0.N, win0_5.index t = ![t.val / 128, t.val / 64 % 2, 0, 0] := (by decide +kernel : ∀ t : Fin grid0.N, _)
theorem idx6 : ∀ t : Fin cfg0.N, win0_6.index t = ![t.val / 128, t.val / 64 % 2, t.val % 64 - 1, 0] := (by decide +kernel : ∀ t : Fin grid0.N, _)
theorem idx7 : ∀ t : Fin cfg0.N, win0_7.index t = ![t.val / 128, t.val / 64 % 2, t.val % 64, 0] := (by decide +kernel : ∀ t : Fin grid0.N, _)
theorem idx8 : ∀ t : Fin cfg0.N, win0_8.index t = ![t.val / 128, t.val / 64 % 2, min (t.val % 64 + 1) 63, 0] := (by decide +kernel : ∀ t : Fin grid0.N, _)
theorem idx9 : ∀ t : Fin cfg0.N, win0_9.index t = ![t.val / 128, t.val / 64 % 2, 0, 0] := (by decide +kernel : ∀ t : Fin grid0.N, _)
theorem idx10 : ∀ t : Fin cfg0.N, win0_10.index t = ![t.val / 128, t.val / 64 % 2, 0, t.val % 64, 0] := (by decide +kernel : ∀ t : Fin grid0.N, _)
theorem point_head : ∀ t : Fin cfg0.N, (grid0.coords t 1).val = t.val / 64 % 2 := (by decide +kernel : ∀ t : Fin grid0.N, _)
theorem point_block : ∀ t : Fin cfg0.N, (grid0.coords t 2).val = t.val % 64 := (by decide +kernel : ∀ t : Fin grid0.N, _)

theorem point_lt (t : Fin cfg0.N) : t.val < 512 := t.isLt

/-- The batch, the head, the block and the queries of a grid point; its neighbours' keys. -/
abbrev bat (t : Fin cfg0.N) : Fin 4 := ⟨t.val / 128, by have := point_lt t; omega⟩
abbrev hd (t : Fin cfg0.N) : Fin 2 := ⟨t.val / 64 % 2, by omega⟩
abbrev row (t : Fin cfg0.N) (r : Fin 128) : Fin 8192 := ⟨t.val % 64 * 128 + r.val, by have := r.isLt; omega⟩
abbrev below (t : Fin cfg0.N) (r : Fin 128) : Fin 8192 := ⟨(t.val % 64 - 1) * 128 + r.val, by have := r.isLt; omega⟩
abbrev above (t : Fin cfg0.N) (r : Fin 128) : Fin 8192 := ⟨min (t.val % 64 + 1) 63 * 128 + r.val, by have := r.isLt; omega⟩

theorem blk0 (c : Dev nD) (t : Fin cfg0.N) (i : Fin 4) : iblk m c 0 t (ix1 i) = m ((c : Thread nD τ).loc main_arg5) (ix1 i) := by
  blk_ext! [iblk, V_main_arg5, idx0]
theorem blk1 (c : Dev nD) (t : Fin cfg0.N) (g : Fin 2) (r : Fin 128) (d : Fin 64) :
    iblk m c 1 t (ix5 0 0 g r d) = m ((c : Thread nD τ).loc main_arg0) (ix5 (bat t) (hd t) g (row t r) d) := by
  blk_ext! [iblk, V_main_arg0, idx1]
theorem blk2 (c : Dev nD) (t : Fin cfg0.N) (r : Fin 128) (d : Fin 64) :
    iblk m c 2 t (ix4 0 0 r d) = m ((c : Thread nD τ).loc main_arg1) (ix4 (bat t) (hd t) (below t r) d) := by
  blk_ext! [iblk, V_main_arg1, idx2]
theorem blk3 (c : Dev nD) (t : Fin cfg0.N) (r : Fin 128) (d : Fin 64) :
    iblk m c 3 t (ix4 0 0 r d) = m ((c : Thread nD τ).loc main_arg1) (ix4 (bat t) (hd t) (row t r) d) := by
  blk_ext! [iblk, V_main_arg1, idx3]
theorem blk4 (c : Dev nD) (t : Fin cfg0.N) (r : Fin 128) (d : Fin 64) :
    iblk m c 4 t (ix4 0 0 r d) = m ((c : Thread nD τ).loc main_arg1) (ix4 (bat t) (hd t) (above t r) d) := by
  blk_ext! [iblk, V_main_arg1, idx4]
theorem blk5 (c : Dev nD) (t : Fin cfg0.N) (r : Fin 256) (d : Fin 64) :
    iblk m c 5 t (ix4 0 0 r d) = m ((c : Thread nD τ).loc main_arg3) (ix4 (bat t) (hd t) r d) := by
  blk_ext! [iblk, V_main_arg3, idx5]
theorem blk6 (c : Dev nD) (t : Fin cfg0.N) (r : Fin 128) (d : Fin 64) :
    iblk m c 6 t (ix4 0 0 r d) = m ((c : Thread nD τ).loc main_arg2) (ix4 (bat t) (hd t) (below t r) d) := by
  blk_ext! [iblk, V_main_arg2, idx6]
theorem blk7 (c : Dev nD) (t : Fin cfg0.N) (r : Fin 128) (d : Fin 64) :
    iblk m c 7 t (ix4 0 0 r d) = m ((c : Thread nD τ).loc main_arg2) (ix4 (bat t) (hd t) (row t r) d) := by
  blk_ext! [iblk, V_main_arg2, idx7]
theorem blk8 (c : Dev nD) (t : Fin cfg0.N) (r : Fin 128) (d : Fin 64) :
    iblk m c 8 t (ix4 0 0 r d) = m ((c : Thread nD τ).loc main_arg2) (ix4 (bat t) (hd t) (above t r) d) := by
  blk_ext! [iblk, V_main_arg2, idx8]
theorem blk9 (c : Dev nD) (t : Fin cfg0.N) (r : Fin 256) (d : Fin 64) :
    iblk m c 9 t (ix4 0 0 r d) = m ((c : Thread nD τ).loc main_arg4) (ix4 (bat t) (hd t) r d) := by
  blk_ext! [iblk, V_main_arg4, idx9]

/-- A grid point's scores, and its block from the sinks it read. -/
abbrev sP (c : Dev nD) (t : Fin cfg0.N) : FVec Ideal S256x128 .f32 := k0_pay4 (grid0.coords t) (iblk m c 1 t) (iblk m c 2 t)
abbrev sC (c : Dev nD) (t : Fin cfg0.N) : FVec Ideal S256x128 .f32 := k0_pay5 (iblk m c 1 t) (iblk m c 3 t)
abbrev sX (c : Dev nD) (t : Fin cfg0.N) : FVec Ideal S256x128 .f32 :=
  k0_pay6 (BitVec.ofNat 32 (grid0.coords t 2).val) (k0_pay2 (iblk m c 1 t)) k0_pay3 (iota .tc S256x128 32 [1] iota_S256x128_d1_w32) (iblk m c 4 t)
abbrev sT (c : Dev nD) (t : Fin cfg0.N) : FVec Ideal S256x256 .f32 := k0_pay7 (k0_pay2 (iblk m c 1 t)) (iblk m c 5 t)
abbrev made (c : Dev nD) (t : Fin cfg0.N) (a b : EReal) : FVec Ideal S1x1x2x128x64 .f32 :=
  k0_pay1 (k0_pay17 (sX m c t) (sT m c t) (k0_pay12 (sP m c t) (sC m c t) (sX m c t) (sT m c t) k0_pay8 k0_pay9 k0_pay10 a b)
    (k0_pay14 (sP m c t) (sC m c t) (sX m c t) (sT m c t) k0_pay8 k0_pay9 k0_pay10 a b)
    (k0_pay15 (sP m c t) (sC m c t) (sX m c t) (sT m c t) k0_pay8 k0_pay9 k0_pay10 a b (iblk m c 6 t))
    (k0_pay16 (sP m c t) (sC m c t) (sX m c t) (sT m c t) k0_pay8 k0_pay9 k0_pay10 a b) (iblk m c 7 t) (iblk m c 8 t) (iblk m c 9 t))

/-- A sink as the kernel reads it. -/
abbrev read (c : Dev nD) (t : Fin cfg0.N) (g : Fin 2) : EReal :=
  View.ld (iblk m c 0 t) (Rect.unit (s := S4) (k0_off1 (grid0.coords t) (BitVec.ofNat 32 g.val)) S1.size (k0_off1_inb (grid0.coords t) g)) (Shape.Idx.first (by decide : 0 < S1.numel))

theorem out (c : Dev nD) (t : Fin cfg0.N) : outsAt0 m c t = made m c t (read m c t 0) (read m c t 1) := by
  unfold outsAt0
  frame_out
  rfl

theorem off : ∀ (t : Fin cfg0.N) (g : Fin 2), k0_off1 (grid0.coords t) (BitVec.ofNat 32 g.val) 0 = t.val / 64 % 2 * 2 + g.val :=
  (by decide +kernel : ∀ (t : Fin grid0.N) (g : Fin 2), _)

theorem read_eq (c : Dev nD) (t : Fin cfg0.N) (g : Fin 2) :
    read m c t g = WindowSpec.sink (m ((c : Thread nD τ).loc main_arg5)) (hd t) g := by
  refine Eq.trans ?_ (blk0 m c t _)
  refine congrArg (iblk m c 0 t) (funext fun a => Fin.ext ?_)
  match a with
  | ⟨0, _⟩ => exact (Nat.add_zero _).trans (off t g)

end Cert.WindowIdeal.Array

end
-- ==== Proof.WindowArray.lean ====
/- The window attention's result array: a grid point's block holds the attention of 128 queries of two heads, and the blocks
   cover the array. -/
module

public import proofs.«01_k».proof.Proof.WindowBlock

@[expose] public section

noncomputable section

namespace Cert.WindowIdeal.Array

open Idealize.ShloMosaic Idealize.ShloMosaic.TcCoe Cert.WindowIdeal Cert.WindowIdeal.Gen
open Idealize.ShloMosaic.Pipeline Idealize.SL.Sem

variable (m : (ℓ : Loc nD τ sig) → Buf (Elt Ideal) ℓ)

variable (c : Dev nD) (t : Fin cfg0.N) (g : Fin 2) (r : Fin 128)

/-- The arguments. -/
abbrev aq : WindowSpec.Qs := m ((c : Thread nD τ).loc main_arg0)
abbrev ak : WindowSpec.Ks := m ((c : Thread nD τ).loc main_arg1)
abbrev av : WindowSpec.Ks := m ((c : Thread nD τ).loc main_arg2)
abbrev akc : WindowSpec.Cs := m ((c : Thread nD τ).loc main_arg3)
abbrev avc : WindowSpec.Cs := m ((c : Thread nD τ).loc main_arg4)
abbrev asn : WindowSpec.Ss := m ((c : Thread nD τ).loc main_arg5)

/-- A score of a query of the grid point. -/
abbrev sc (j : Fin 8192) : EReal := WindowSpec.score (aq m c) (ak m c) (bat t) (hd t) g (row t r) j

theorem prev_some (i : Fin 128) (h : 0 < t.val % 64) : sP m c t (ix2 (Pay.line g r) i) = sc m c t g r (below t i) := by
  have hr := r.isLt
  have hi := i.isLt
  refine (Pay.prev _ _ _ g r i).trans ?_
  rw [point_block]
  unfold sc WindowSpec.score
  simp only [blk1, blk2]
  refine if_congr ?_ rfl rfl
  show r.val ≤ i.val ∧ 0 < t.val % 64 ↔ (t.val % 64 - 1) * 128 + i.val ≤ t.val % 64 * 128 + r.val + 128
    ∧ t.val % 64 * 128 + r.val ≤ (t.val % 64 - 1) * 128 + i.val + 128
  omega
theorem prev_none (i : Fin 128) (h : ¬0 < t.val % 64) : sP m c t (ix2 (Pay.line g r) i) = (⊥ : EReal) := by
  refine (Pay.prev _ _ _ g r i).trans ?_
  rw [point_block]
  exact if_neg fun e => h e.2
theorem cur_some (i : Fin 128) : sC m c t (ix2 (Pay.line g r) i) = sc m c t g r (row t i) := by
  have hr := r.isLt
  have hi := i.isLt
  refine (Pay.cur _ _ g r i).trans ?_
  unfold sc WindowSpec.score
  simp only [blk1, blk3]
  refine (if_pos ?_).symm
  show t.val % 64 * 128 + i.val ≤ t.val % 64 * 128 + r.val + 128 ∧ t.val % 64 * 128 + r.val ≤ t.val % 64 * 128 + i.val + 128
  omega
theorem next_some (i : Fin 128) (h : t.val % 64 < 63) : sX m c t (ix2 (Pay.line g r) i) = sc m c t g r (above t i) := by
  have hr := r.isLt
  have hi := i.isLt
  refine (Pay.next _ (grid0.coords t 2).isLt _ _ g r i).trans ?_
  rw [point_block]
  unfold sc WindowSpec.score
  simp only [blk1, blk4]
  refine if_congr ?_ rfl rfl
  show i.val ≤ r.val ∧ t.val % 64 < 63 ↔ min (t.val % 64 + 1) 63 * 128 + i.val ≤ t.val % 64 * 128 + r.val + 128
    ∧ t.val % 64 * 128 + r.val ≤ min (t.val % 64 + 1) 63 * 128 + i.val + 128
  omega
theorem next_none (i : Fin 128) (h : ¬t.val % 64 < 63) : sX m c t (ix2 (Pay.line g r) i) = (⊥ : EReal) := by
  refine (Pay.next _ (grid0.coords t 2).isLt _ _ g r i).trans ?_
  rw [point_block]
  exact if_neg fun e => h e.2
theorem ctx_eq (i : Fin 256) : sT m c t (ix2 (Pay.line g r) i) = WindowSpec.context (aq m c) (akc m c) (bat t) (hd t) g (row t r) i := by
  refine (Pay.ctx _ _ g r i).trans ?_
  unfold WindowSpec.context
  simp only [blk1, blk5]

/-- Three neighbouring blocks hold all that is near. -/
theorem near_sum {A : Type} [AddCommMonoid A] (φ : Fin 8192 → A) (hφ : ∀ j : Fin 8192, ¬WindowSpec.Near (row t r).val j.val → φ j = 0)
    (p q x : A) (hp : p = if 0 < t.val % 64 then ∑ k : Fin 128, φ (below t k) else 0) (hq : q = ∑ k : Fin 128, φ (row t k))
    (hx : x = if t.val % 64 < 63 then ∑ k : Fin 128, φ (above t k) else 0) : p + q + x = ∑ j, φ j := by
  have hr := r.isLt
  have e : ∀ (j : ℕ) (h : j < 8192), (if h : j < 8192 then φ ⟨j, h⟩ else 0) = φ ⟨j, h⟩ := fun j h => dif_pos h
  refine (WindowSum.band (t.val % 64) (Nat.mod_lt _ (by decide)) (fun j => if h : j < 8192 then φ ⟨j, h⟩ else 0) (fun j h1 h2 h3 => ?_) p q x ?_ ?_ ?_).trans
    (Finset.sum_congr rfl fun j _ => e j.val j.isLt)
  · by_cases h : j < 8192
    · refine (e j h).trans (hφ _ fun hn => ?_)
      have hn1 : j ≤ t.val % 64 * 128 + r.val + 128 := hn.1
      have hn2 : t.val % 64 * 128 + r.val ≤ j + 128 := hn.2
      omega
    · exact dif_neg h
  · rw [hp]
    refine if_congr Iff.rfl (Finset.sum_congr rfl fun k _ => (e _ _).symm) rfl
  · rw [hq]
    exact Finset.sum_congr rfl fun k _ => (e _ _).symm
  · rw [hx]
    by_cases h : t.val % 64 < 63
    · rw [if_pos h, if_pos h]
      have hm : min (t.val % 64 + 1) 63 = t.val % 64 + 1 := by omega
      refine Finset.sum_congr rfl fun k _ => ?_
      have hk := k.isLt
      refine Eq.trans ?_ (e _ (by omega)).symm
      exact congrArg φ (Fin.ext (by show min (t.val % 64 + 1) 63 * 128 + k.val = (t.val % 64 + 1) * 128 + k.val; rw [hm]))
    · rw [if_neg h, if_neg h]

theorem prev_sum {A : Type} [AddCommMonoid A] (φ : EReal → Fin 128 → A) (h0 : ∀ i, φ ⊥ i = 0) :
    ∑ i : Fin 128, φ (sP m c t (ix2 (Pay.line g r) i)) i = if 0 < t.val % 64 then ∑ i : Fin 128, φ (sc m c t g r (below t i)) i else 0 := by
  by_cases h : 0 < t.val % 64
  · rw [if_pos h]
    exact Finset.sum_congr rfl fun i _ => congrArg (φ · i) (prev_some m c t g r i h)
  · rw [if_neg h]
    exact Finset.sum_eq_zero fun i _ => (congrArg (φ · i) (prev_none m c t g r i h)).trans (h0 i)
theorem next_sum {A : Type} [AddCommMonoid A] (φ : EReal → Fin 128 → A) (h0 : ∀ i, φ ⊥ i = 0) :
    ∑ i : Fin 128, φ (sX m c t (ix2 (Pay.line g r) i)) i = if t.val % 64 < 63 then ∑ i : Fin 128, φ (sc m c t g r (above t i)) i else 0 := by
  by_cases h : t.val % 64 < 63
  · rw [if_pos h]
    exact Finset.sum_congr rfl fun i _ => congrArg (φ · i) (next_some m c t g r i h)
  · rw [if_neg h]
    exact Finset.sum_eq_zero fun i _ => (congrArg (φ · i) (next_none m c t g r i h)).trans (h0 i)
theorem cur_sum {A : Type} [AddCommMonoid A] (φ : EReal → Fin 128 → A) :
    ∑ i : Fin 128, φ (sC m c t (ix2 (Pay.line g r) i)) i = ∑ i : Fin 128, φ (sc m c t g r (row t i)) i :=
  Finset.sum_congr rfl fun i _ => congrArg (φ · i) (cur_some m c t g r i)
theorem score_far (j : Fin 8192) (h : ¬WindowSpec.Near (row t r).val j.val) : sc m c t g r j = ⊥ := if_neg h

variable (h0 : WindowSpec.Reals (aq m c)) (h1 : WindowSpec.Reals (ak m c)) (h3 : WindowSpec.Reals (akc m c)) (h5 : WindowSpec.Reals (asn m c))

include h0 h1 in
theorem prev_top (i : Fin 128) : (sP m c t (ix2 (Pay.line g r) i) : EReal) ≠ ⊤ := by
  by_cases h : 0 < t.val % 64
  · rw [prev_some m c t g r i h]
    exact WindowSpec.score_top h0 h1 _ _ _ _ _
  · rw [prev_none m c t g r i h]
    exact bot_ne_top
include h0 h1 in
theorem next_top (i : Fin 128) : (sX m c t (ix2 (Pay.line g r) i) : EReal) ≠ ⊤ := by
  by_cases h : t.val % 64 < 63
  · rw [next_some m c t g r i h]
    exact WindowSpec.score_top h0 h1 _ _ _ _ _
  · rw [next_none m c t g r i h]
    exact bot_ne_top
include h0 h1 in
theorem cur_top (i : Fin 128) : (sC m c t (ix2 (Pay.line g r) i) : EReal) ≠ ⊤ := by
  rw [cur_some m c t g r i]
  exact WindowSpec.score_top h0 h1 _ _ _ _ _
include h0 h3 in
theorem ctx_top (i : Fin 256) : (sT m c t (ix2 (Pay.line g r) i) : EReal) ≠ ⊤ := by
  rw [ctx_eq m c t g r i]
  exact WindowSpec.context_top h0 h3 _ _ _ _ _

/-- The sum of a row's weights. -/
theorem total_eq (s : ℝ) (hs : WindowSpec.sink (asn m c) (hd t) g = (s : EReal)) :
    WindowSum.total s (fun i => sP m c t (ix2 (Pay.line g r) i)) (fun i => sC m c t (ix2 (Pay.line g r) i))
      (fun i => sX m c t (ix2 (Pay.line g r) i)) (fun i => sT m c t (ix2 (Pay.line g r) i))
    = WindowSpec.total (aq m c) (ak m c) (akc m c) (asn m c) (bat t) (hd t) g (row t r) := by
  have e := near_sum t r (fun j => WindowSum.wt (sc m c t g r j)) (fun j h => by rw [score_far m c t g r j h, WindowSum.wt_bot]) _ _ _
    (prev_sum m c t g r (fun x _ => WindowSum.wt x) fun _ => WindowSum.wt_bot) (cur_sum m c t g r (fun x _ => WindowSum.wt x))
    (next_sum m c t g r (fun x _ => WindowSum.wt x) fun _ => WindowSum.wt_bot)
  have e2 : ∑ i, WindowSum.wt (sT m c t (ix2 (Pay.line g r) i))
      = ∑ i, WindowSum.wt (WindowSpec.context (aq m c) (akc m c) (bat t) (hd t) g (row t r) i) :=
    Finset.sum_congr rfl fun i _ => congrArg WindowSum.wt (ctx_eq m c t g r i)
  unfold WindowSum.total WindowSpec.total
  rw [hs, WindowSum.wt_coe, e2, ← e]
  ring

include h0 h1 h3 h5 in
/-- A place of a grid point's block. -/
theorem block_at (d : Fin 64) : outsAt0 m c t (ix5 0 0 g r d)
    = WindowSpec.value (aq m c) (ak m c) (av m c) (akc m c) (avc m c) (asn m c) (bat t) (hd t) g (row t r) d := by
  obtain ⟨s, hs⟩ : ∃ s : ℝ, WindowSpec.sink (asn m c) (hd t) g = (s : EReal) := h5 _
  have hk : k0_pay11 (F := Ideal) k0_pay8 k0_pay9 k0_pay10 (read m c t 0) (read m c t 1) (ix2 (Pay.line g r) 0) = (s : EReal) := by
    rw [Pay.sunk, read_eq, read_eq, ← hs]
    match g with
    | ⟨0, _⟩ => rfl
    | ⟨1, _⟩ => rfl
  refine (congrFun (out m c t) _).trans ((Pay.row_eq (sP m c t) (sC m c t) (sX m c t) (sT m c t) k0_pay8 k0_pay9 k0_pay10 (read m c t 0) (read m c t 1)
    (iblk m c 6 t) (iblk m c 7 t) (iblk m c 8 t) (iblk m c 9 t) g r d (prev_top m c t g r h0 h1) (cur_top m c t g r h0 h1)
    (next_top m c t g r h0 h1) (ctx_top m c t g r h0 h3) s hk _ (total_eq m c t g r s hs)).trans ?_)
  unfold WindowSpec.value
  refine congrArg₂ (fun a b : EReal => a + b) ?_ (Finset.sum_congr rfl fun i _ => ?_)
  · generalize WindowSpec.total (aq m c) (ak m c) (akc m c) (asn m c) (bat t) (hd t) g (row t r) = D
    have hz : ∀ x : EReal, ((WindowSum.wt ⊥ / D : ℝ) : EReal) * x = 0 := fun x => by
      rw [WindowSum.wt_bot, zero_div, EReal.coe_zero, zero_mul]
    refine near_sum t r (fun j => ((WindowSum.wt (sc m c t g r j) / D : ℝ) : EReal) * av m c (ix4 (bat t) (hd t) j d))
      (fun j h => by rw [score_far m c t g r j h]; exact hz _) _ _ _ ?_ ?_ ?_
    · refine (prev_sum m c t g r (fun x i => ((WindowSum.wt x / D : ℝ) : EReal) * iblk m c 6 t (ix4 0 0 i d)) fun _ => hz _).trans ?_
      simp only [blk6]
    · refine (cur_sum m c t g r (fun x i => ((WindowSum.wt x / D : ℝ) : EReal) * iblk m c 7 t (ix4 0 0 i d))).trans ?_
      simp only [blk7]
    · refine (next_sum m c t g r (fun x i => ((WindowSum.wt x / D : ℝ) : EReal) * iblk m c 8 t (ix4 0 0 i d)) fun _ => hz _).trans ?_
      simp only [blk8]
  · rw [ctx_eq, blk9]

/-- The result. -/
abbrev spec : S4x2x2x8192x64.Idx → EReal := WindowSpec.out (aq m c) (ak m c) (av m c) (akc m c) (avc m c) (asn m c)

include h0 h1 h3 h5 in
theorem block (y : S1x1x2x128x64.Idx) : outsAt0 m c t y = spec m c (ix5 (bat t) (hd t) (y 2) (row t (y 3)) (y 4)) := by
  obtain ⟨g, r, d, rfl⟩ : ∃ g r d, y = ix5 0 0 g r d := ⟨y 2, y 3, y 4, by
    funext a
    match a with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => rfl⟩
  exact block_at m c t g r h0 h1 h3 h5 d

theorem place (y : S1x1x2x128x64.Idx) : (win0_10.blk t).view.emb y = ix5 (bat t) (hd t) (y 2) (row t (y 3)) (y 4) := by
  have e0 : (y 0).val < 1 := (y 0).isLt
  have e1 : (y 1).val < 1 := (y 1).isLt
  blk_ext [idx10]

theorem covers : (cfg0.win 10).Covers := by decide +kernel

include h0 h1 h3 h5 in
/-- The result array. -/
theorem array : (dats m 0 c).arrAt 10 cfg0.N = spec m c := by
  refine (dats m 0 c).arrAt_eq_of_covers 10 _ covers fun t hf y => ?_
  blk_simp
  rw [after0_10]
  exact (block m c t h0 h1 h3 h5 y).trans (congrArg (spec m c) (place t y).symm)

end Cert.WindowIdeal.Array

end
-- ==== Proof.WindowRefRow.lean ====
/- The reference's window attention, read at a place: scores, weights and weighted sums. -/
module

public import proofs.«01_k».proof.Proof.WindowSpec
public import proofs.«01_k».proof.Proof.Gen.WindowRefIdeal.Read
public import Idealize.ShloMosaic.Lib.WordCmp

@[expose] public section

noncomputable section

namespace Cert.WindowRefIdeal.At

open Idealize.ShloMosaic Idealize.ShloMosaic.TcCoe Cert.WindowRefIdeal Cert.WindowRefIdeal.Gen Cert.WindowRefIdeal.Read Cert.WindowSum

variable (x0 : (⟨S4x2x2x8192x64, .bf16⟩ : BufTy).Contents (Elt Ideal)) (x1 x2 : (⟨S4x2x8192x64, .bf16⟩ : BufTy).Contents (Elt Ideal))
  (x3 x4 : (⟨S4x2x256x64, .bf16⟩ : BufTy).Contents (Elt Ideal)) (x5 : (⟨S4, .f32⟩ : BufTy).Contents (Elt Ideal))

theorem bot_word : Ideal.ofBits .f32 0xFF800000#32 = (⊥ : EReal) := by
  simp [Ideal.ofBits, Ideal.ieee, FTy.bits]

theorem mask (r j : Fin 8192) : (val_main_v19 (F := Ideal) (ix2 r j) : BitVec 1) = BitVec.ofBool (decide (WindowSpec.Near r.val j.val)) := by
  pointwise [val_main_v19, val_main_v18, val_main_v17, val_main_v16, val_main_v15, val_main_v14, val_main_v13, val_main_v12, val_main_v11, val_main_v10, val_main_v9, val_main_v8, val_main_v7, val_main_v6, val_main_v5, val_main_c, val_main_c_0]
  have hr := r.isLt
  have hj := j.isLt
  have e : ∀ n : ℕ, IntOp.addi (BitVec.ofNat 32 n) 128#32 = BitVec.ofNat 32 (n + 128) := fun n => (BitVec.ofNat_add n 128).symm
  rw [e, e, WordCmp.cmpi_sle_ofNat (by omega) (by omega), WordCmp.cmpi_sle_ofNat (by omega) (by omega), WordCmp.andi_ofBool, Bool.decide_and]

theorem scores (b : Fin 4) (h g : Fin 2) (r j : Fin 8192) :
    val_main_v20 x0 x1 (ix5 b h g r j) = ∑ d : Fin 64, (x0 (ix5 b h g r d) * x1 (ix4 b h j d) : EReal) := by
  pointwise [val_main_v20, val_main_v0, val_main_v1]

theorem context (b : Fin 4) (h g : Fin 2) (r : Fin 8192) (c : Fin 256) :
    val_main_v22 x0 x3 (ix5 b h g r c) = WindowSpec.context x0 x3 b h g r c := by
  unfold WindowSpec.context
  pointwise [val_main_v22, val_main_v0, val_main_v3]

theorem masked (b : Fin 4) (h g : Fin 2) (r j : Fin 8192) : val_main_v21 x0 x1 (ix5 b h g r j)
    = Scalar.select (val_main_v19 (F := Ideal) (ix2 r j)) (val_main_v20 x0 x1 (ix5 b h g r j)) (Ideal.ofBits .f32 0xFF800000#32) := by
  pointwise [val_main_v21, val_main_call0_v0, val_main_call0_v1, val_main_call0_v2, val_main_cst]
  rfl

theorem sinks (b : Fin 4) (h g : Fin 2) (r : Fin 8192) : val_main_v25 x5 (ix5 b h g r 0) = WindowSpec.sink x5 h g := by
  unfold WindowSpec.sink
  pointwise [val_main_v25, val_main_v24, val_main_v23]

/-- The row of all scores. -/
theorem joined (b : Fin 4) (h g : Fin 2) (r : Fin 8192) (j : Fin 8449) : val_main_v26 x0 x1 x3 x5 (ix5 b h g r j)
    = if h1 : j.val < 8192 then val_main_v21 x0 x1 (ix5 b h g r ⟨j.val, h1⟩)
      else if h2 : j.val - 8192 < 256 then val_main_v22 x0 x3 (ix5 b h g r ⟨j.val - 8192, h2⟩)
      else val_main_v25 x5 (ix5 b h g r 0) := by
  pointwise [val_main_v26]
  by_cases c1 : j.val < 8192
  · rw [dif_pos c1, dif_pos c1]
  · rw [dif_neg c1, dif_neg c1]
    by_cases c2 : j.val - 8192 < 256
    · rw [dif_pos c2, dif_pos c2]
    · rw [dif_neg c2, dif_neg c2]
      exact congrArg (fun q : Fin 1 => val_main_v25 x5 (ix5 b h g r q)) (Subsingleton.elim _ _)

theorem expo (b : Fin 4) (h g : Fin 2) (r : Fin 8192) (j : Fin 8449) : val_main_v33 x0 x1 x3 x5 (ix5 b h g r j)
    = Ideal.exp (val_main_v26 x0 x1 x3 x5 (ix5 b h g r j) - val_main_v29 x0 x1 x3 x5 (ix4 b h g r) : EReal) := by
  pointwise [val_main_v33, val_main_v32, val_main_v31, val_main_v30]

theorem weights (b : Fin 4) (h g : Fin 2) (r : Fin 8192) (j : Fin 8449) : val_main_v37 x0 x1 x3 x5 (ix5 b h g r j)
    = Ideal.div (val_main_v33 x0 x1 x3 x5 (ix5 b h g r j)) (∑ j : Fin 8449, val_main_v33 x0 x1 x3 x5 (ix5 b h g r j)) := by
  pointwise [val_main_v37, val_main_v36, val_main_v35, val_main_v34, val_main_cst_3]

theorem slice38 (b : Fin 4) (h g : Fin 2) (r j : Fin 8192) : val_main_v38 x0 x1 x3 x5 (ix5 b h g r j)
    = val_main_v37 x0 x1 x3 x5 (ix5 b h g r ⟨j.val, by have := j.isLt; omega⟩) := by
  pointwise [val_main_v38]
theorem slice40 (b : Fin 4) (h g : Fin 2) (r : Fin 8192) (c : Fin 256) : val_main_v40 x0 x1 x3 x5 (ix5 b h g r c)
    = val_main_v37 x0 x1 x3 x5 (ix5 b h g r ⟨8192 + c.val, by have := c.isLt; omega⟩) := by
  pointwise [val_main_v40]

theorem results (b : Fin 4) (h g : Fin 2) (r : Fin 8192) (d : Fin 64) : val_main_v42 x0 x1 x2 x3 x4 x5 (ix5 b h g r d)
    = (∑ j : Fin 8192, val_main_v38 x0 x1 x3 x5 (ix5 b h g r j) * x2 (ix4 b h j d)
      + ∑ c : Fin 256, val_main_v40 x0 x1 x3 x5 (ix5 b h g r c) * x4 (ix4 b h c d) : EReal) := by
  pointwise [val_main_v42, val_main_v41, val_main_v39, val_main_v2, val_main_v4]

end Cert.WindowRefIdeal.At

end
-- ==== Proof.WindowRef.lean ====
/- The reference's window attention is that of its arguments. -/
module

public import proofs.«01_k».proof.Proof.WindowRefRow

@[expose] public section

noncomputable section

namespace Cert.WindowRefIdeal.At

open Idealize.ShloMosaic Idealize.ShloMosaic.TcCoe Cert.WindowRefIdeal Cert.WindowRefIdeal.Gen Cert.WindowRefIdeal.Read Cert.WindowSum

variable (x0 : (⟨S4x2x2x8192x64, .bf16⟩ : BufTy).Contents (Elt Ideal)) (x1 x2 : (⟨S4x2x8192x64, .bf16⟩ : BufTy).Contents (Elt Ideal))
  (x3 x4 : (⟨S4x2x256x64, .bf16⟩ : BufTy).Contents (Elt Ideal)) (x5 : (⟨S4, .f32⟩ : BufTy).Contents (Elt Ideal))
  (b : Fin 4) (h g : Fin 2) (r : Fin 8192)

theorem at_key (j : Fin 8192) : val_main_v26 x0 x1 x3 x5 (ix5 b h g r ⟨j.val, by have := j.isLt; omega⟩) = WindowSpec.score x0 x1 b h g r j := by
  rw [joined, dif_pos j.isLt, masked, mask, scores, bot_word]
  unfold Scalar.select WindowSpec.score
  simp only [WordCmp.ofBool_eq_one_iff', decide_eq_true_eq]
theorem at_context (c : Fin 256) :
    val_main_v26 x0 x1 x3 x5 (ix5 b h g r ⟨8192 + c.val, by have := c.isLt; omega⟩) = WindowSpec.context x0 x3 b h g r c := by
  have hc := c.isLt
  have e : (⟨8192 + c.val - 8192, by omega⟩ : Fin 256) = c := Fin.ext (by show 8192 + c.val - 8192 = c.val; omega)
  rw [joined, dif_neg (by show ¬8192 + c.val < 8192; omega), dif_pos (by show 8192 + c.val - 8192 < 256; omega), ← context x0 x3 b h g r c]
  exact congrArg (fun q : Fin 256 => val_main_v22 x0 x3 (ix5 b h g r q)) e
theorem at_sink : val_main_v26 x0 x1 x3 x5 (ix5 b h g r ⟨8192 + 256, by omega⟩) = WindowSpec.sink x5 h g := by
  rw [joined, dif_neg (by decide), dif_neg (by decide), sinks]

/-- A maximum over one axis. -/
theorem max_axis {s t u : Shape} {a : Fin s.rank} (h' : s.ReducesTo [a] t) (h : s.Reduces [a] t) (hu : 0 < u.numel)
    (y : s.Idx → EReal) (init : u.Idx → EReal) (hi : init (Shape.Idx.first hu) = ⊥) (j : t.Idx) (f : Fin (s.size a) → EReal)
    (hf : ∀ k, y (h.lift j k) = f k) :
    Host.reduce (FloatOps.maximumf (F := Ideal) (φ := .f32)) y init h' hu j = Finset.univ.fold max (⊥ : EReal) f := by
  rw [Host.reduce_eq_fold_single (FloatOps.maximumf (F := Ideal) (φ := .f32)) _ _ h' h hu j, hi]
  exact congrArg (Finset.univ.fold max (⊥ : EReal)) (funext hf)

theorem maximum : val_main_v27 x0 x1 x3 x5 (ix4 b h g r)
    = Finset.univ.fold max (⊥ : EReal) fun j : Fin 8449 => val_main_v26 x0 x1 x3 x5 (ix5 b h g r j) := by
  unfold val_main_v27
  generalize val_main_v26 x0 x1 x3 x5 = y
  refine max_axis reducesTo_S4x2x2x8192x8449_S4x2x2x8192_d4 (by decide) _ y _ bot_word _ _ fun k => ?_
  exact congrArg y (funext fun a => Fin.ext (by match a with | ⟨0, _⟩ => rfl | ⟨1, _⟩ => rfl | ⟨2, _⟩ => rfl | ⟨3, _⟩ => rfl | ⟨4, _⟩ => rfl))

variable (h0 : WindowSpec.Reals x0) (h1 : WindowSpec.Reals x1) (h3 : WindowSpec.Reals x3) (h5 : WindowSpec.Reals x5)

include h0 h1 h3 h5 in
theorem no_top (j : Fin 8449) : (val_main_v26 x0 x1 x3 x5 (ix5 b h g r j) : EReal) ≠ ⊤ := by
  have hj := j.isLt
  by_cases c1 : j.val < 8192
  · have e := at_key x0 x1 x3 x5 b h g r ⟨j.val, c1⟩
    rw [show (⟨j.val, by omega⟩ : Fin 8449) = j from rfl] at e
    rw [e]
    exact WindowSpec.score_top h0 h1 b h g r _
  · by_cases c2 : j.val < 8448
    · have e := at_context x0 x1 x3 x5 b h g r ⟨j.val - 8192, by omega⟩
      rw [show (⟨8192 + (j.val - 8192), by omega⟩ : Fin 8449) = j from Fin.ext (by show 8192 + (j.val - 8192) = j.val; omega)] at e
      rw [e]
      exact WindowSpec.context_top h0 h3 b h g r _
    · have e := at_sink x0 x1 x3 x5 b h g r
      rw [show (⟨8192 + 256, by omega⟩ : Fin 8449) = j from Fin.ext (by show 8192 + 256 = j.val; omega)] at e
      obtain ⟨s, hs⟩ := h5 (ix1 ⟨h.val * 2 + g.val, by have := h.isLt; have := g.isLt; omega⟩)
      rw [e, WindowSpec.sink, hs]
      exact EReal.coe_ne_top s

include h0 h1 h3 h5 in
theorem top_real : ∃ M : ℝ, val_main_v29 x0 x1 x3 x5 (ix4 b h g r) = (M : EReal) := by
  obtain ⟨s, hs⟩ := h5 (ix1 ⟨h.val * 2 + g.val, by have := h.isLt; have := g.isLt; omega⟩)
  obtain ⟨M, hM⟩ := WindowSum.fold_real (fun j : Fin 8449 => (val_main_v26 x0 x1 x3 x5 (ix5 b h g r j) : EReal))
    (no_top x0 x1 x3 x5 b h g r h0 h1 h3 h5) ⟨8192 + 256, by omega⟩ s ((at_sink x0 x1 x3 x5 b h g r).trans hs)
  have e := (maximum x0 x1 x3 x5 b h g r).trans hM
  refine ⟨M, ?_⟩
  rw [val_main_v29_apply, e]
  show max (Ideal.ofBits .f32 0xFF800000#32) (M : EReal) = M
  rw [bot_word]
  exact max_eq_right bot_le

theorem whole : ∑ j : Fin 8449, wt (val_main_v26 x0 x1 x3 x5 (ix5 b h g r j)) = WindowSpec.total x0 x1 x3 x5 b h g r := by
  rw [WindowSum.split 8192 256 8449 rfl]
  unfold WindowSpec.total
  simp only [at_key, at_context, at_sink]

include h0 h1 h3 h5 in
theorem total_pos : 0 < WindowSpec.total x0 x1 x3 x5 b h g r := by
  obtain ⟨s, hs⟩ := h5 (ix1 ⟨h.val * 2 + g.val, by have := h.isLt; have := g.isLt; omega⟩)
  have e1 := Finset.sum_nonneg fun j (_ : j ∈ Finset.univ) => wt_nonneg _ (WindowSpec.score_top h0 h1 b h g r j)
  have e2 := Finset.sum_nonneg fun c (_ : c ∈ Finset.univ) => wt_nonneg _ (WindowSpec.context_top h0 h3 b h g r c)
  have e3 : 0 < wt (WindowSpec.sink x5 h g) := by
    rw [WindowSpec.sink, hs, wt_coe]
    exact Real.exp_pos s
  unfold WindowSpec.total
  linarith

include h0 h1 h3 h5 in
theorem soft (j : Fin 8449) : val_main_v37 x0 x1 x3 x5 (ix5 b h g r j)
    = ((wt (val_main_v26 x0 x1 x3 x5 (ix5 b h g r j)) / WindowSpec.total x0 x1 x3 x5 b h g r : ℝ) : EReal) := by
  obtain ⟨M, hM⟩ := top_real x0 x1 x3 x5 b h g r h0 h1 h3 h5
  rw [weights]
  simp only [expo, hM]
  rw [← whole]
  exact WindowSum.weight (fun j : Fin 8449 => (val_main_v26 x0 x1 x3 x5 (ix5 b h g r j) : EReal)) (no_top x0 x1 x3 x5 b h g r h0 h1 h3 h5) M
    (by rw [whole]; exact total_pos x0 x1 x3 x5 b h g r h0 h1 h3 h5) j

include h0 h1 h3 h5 in
/-- The reference's result is the window attention of its arguments. -/
theorem result : val_main_v42 x0 x1 x2 x3 x4 x5 = WindowSpec.out x0 x1 x2 x3 x4 x5 := by
  funext i
  obtain ⟨b, h, g, r, d, rfl⟩ : ∃ b h g r d, i = ix5 b h g r d := ⟨i 0, i 1, i 2, i 3, i 4, by
    funext a
    match a with
    | ⟨0, _⟩ => rfl
    | ⟨1, _⟩ => rfl
    | ⟨2, _⟩ => rfl
    | ⟨3, _⟩ => rfl
    | ⟨4, _⟩ => rfl⟩
  rw [results]
  show _ = WindowSpec.value x0 x1 x2 x3 x4 x5 b h g r d
  unfold WindowSpec.value
  simp only [slice38, slice40, soft x0 x1 x3 x5 b h g r h0 h1 h3 h5, at_key, at_context]

end Cert.WindowRefIdeal.At

end
-- ==== Proof.WindowPre.lean ====
/- What the precondition of the window attention's claim gives: queries, keys, the context's keys and the sinks are real. -/
module

public import proofs.«01_k».proof.Proof.WindowSpec
public import proofs.«01_k».proof.Proof.AttnPre
public import proofs.«01_k».proof.Pre_finite_window

@[expose] public section

noncomputable section

namespace Cert.WindowPre

open Idealize.ShloMosaic Idealize.ShloMosaic.TcCoe Cert.Pre_finite_window

variable [Cert.Pre_finite_window.Facts]

theorem of_reals {s : Shape} {x : s.Idx → EReal} (h : AttnSpec.Reals x) : WindowSpec.Reals x := fun i => ⟨_, h i⟩

/-- All the arguments that the precondition tests. -/
theorem reals {x0 : S4x2x2x8192x64.Idx → EReal} {x1 x2 : S4x2x8192x64.Idx → EReal} {x3 x4 : S4x2x256x64.Idx → EReal} {x5 : S4.Idx → EReal}
    (h : Cert.Pre_finite_window.fn (F := Ideal) x0 x1 x2 x3 x4 x5 = fun _ => 1#1) :
    WindowSpec.Reals x0 ∧ WindowSpec.Reals x1 ∧ WindowSpec.Reals x3 ∧ WindowSpec.Reals x5 := by
  have e := congrFun h (fun k => k.elim0)
  unfold Cert.Pre_finite_window.fn Cert.Pre_finite_window.fn_part1 at e
  obtain ⟨e, e5⟩ := IntOp.andi_eq_one.1 e
  obtain ⟨e, e3⟩ := IntOp.andi_eq_one.1 e
  obtain ⟨e, e1⟩ := IntOp.andi_eq_one.1 e
  obtain ⟨-, e0⟩ := IntOp.andi_eq_one.1 e
  exact ⟨of_reals (AttnPre.reals_of_all _ _ _ _ _ _ e0), of_reals (AttnPre.reals_of_all _ _ _ _ _ _ e1),
    of_reals (AttnPre.reals_of_all _ _ _ _ _ _ e3), of_reals (AttnPre.reals_of_all _ _ _ _ _ _ e5)⟩

end Cert.WindowPre

end
-- ==== Proof.WindowValue.lean ====
/- The window attention's claim: where queries, keys and sinks are finite, the kernel and the reference leave the same array,
   the attention of `WindowSpec`. -/
module

public import proofs.«01_k».proof.Defs
public import proofs.«01_k».proof.Proof.WindowArray
public import proofs.«01_k».proof.Proof.WindowRef
public import proofs.«01_k».proof.Proof.WindowPre
public import proofs.«01_k».proof.Proof.Gen.WindowRefIdeal
public import proofs.«01_k».proof.Proof.Gen.WindowRefIdeal.Run
public import proofs.«01_k».proof.Proof.Gen.Pre_finite_window

@[expose] public section

noncomputable section

namespace Cert.WindowValue

open Idealize.ShloMosaic Idealize.ShloMosaic.TcCoe Idealize.SL.Sem

/-- Kernel and reference compute the same function. -/
theorem algebraic : Cert.algebraic_WindowIdeal_WindowRefIdeal_pre_finite_window (hWindowIdeal := Cert.WindowIdeal.Gen.facts)
    (hWindowRefIdeal := Cert.WindowRefIdeal.Gen.facts) (hPre_finite_window := Cert.Pre_finite_window.Gen.facts) := by
  intro m g m' g' hpre hargs
  letI := Cert.Pre_finite_window.Gen.facts
  refine ⟨fun c => Cert.WindowIdeal.Array.spec m c, ?_, ?_⟩
  · refine (θ_run _ _ _).mono (fun r h c => ?_) (Cert.WindowIdeal.Value.run_blocks m g)
    obtain ⟨h0, h1, h3, h5⟩ := WindowPre.reals (hpre c)
    exact ⟨(h c).1.trans (Cert.WindowIdeal.Array.array m c h0 h1 h3 h5), (h c).2⟩
  · refine (θ_run _ _ _).mono (fun r h c => ?_) (Cert.WindowRefIdeal.Value.run m' g')
    obtain ⟨h0, h1, h3, h5⟩ := WindowPre.reals (hpre c)
    obtain ⟨a0, a1, a2, a3, a4, a5⟩ := hargs c
    refine ⟨((h c).1.trans (Cert.WindowRefIdeal.Read.val_main_v42_eq m' c)).trans ?_, (h c).2⟩
    rw [a0, a1, a2, a3, a4, a5]
    exact Cert.WindowRefIdeal.At.result _ _ _ _ _ _ h0 h1 h3 h5

end Cert.WindowValue

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_finite
public import proofs.«01_k».proof.Proof.AttnValue
public import proofs.«01_k».proof.Proof.ProjValue
public import proofs.«01_k».proof.Proof.MergeValue
public import proofs.«01_k».proof.Proof.MoeValue
public import proofs.«01_k».proof.Proof.WindowValue
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeIdeal.Value
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_finite_router
public import proofs.«01_k».proof.Proof.Gen.Window
public import proofs.«01_k».proof.Proof.Gen.Window.Frame
public import proofs.«01_k».proof.Proof.Gen.WindowIdeal
public import proofs.«01_k».proof.Proof.Gen.WindowIdeal.Frame
public import proofs.«01_k».proof.Proof.Gen.WindowIdeal.Value
public import proofs.«01_k».proof.Proof.Gen.WindowRefIdeal
public import proofs.«01_k».proof.Proof.Gen.WindowRefIdeal.Run
public import proofs.«01_k».proof.Proof.Gen.WindowRefIdeal.Read
public import proofs.«01_k».proof.Proof.Gen.Pre_finite_window
public import Idealize.ShloMosaic.Adequacy
public import Idealize.ShloMosaic.Init

@[expose] public section

noncomputable section

namespace Cert.Proof

open Idealize.ShloMosaic Idealize.SL.Sem

/-- The reference attention runs to its end and leaves its arguments and the semaphores as they were. -/
theorem frame_attnRef : Cert.quiescent_AttnRefIdeal (hAttnRefIdeal := Cert.AttnRefIdeal.Gen.facts) := fun m g _ =>
  (θ_run _ _ _).mono (fun r h => ⟨fun c => (h c).2, sem_eq_zero_of_no_sems (by decide) r.2⟩) (Cert.AttnRefIdeal.Value.run m g)

/-- So does the reference projection. -/
theorem frame_projRef : Cert.quiescent_ProjRefIdeal (hProjRefIdeal := Cert.ProjRefIdeal.Gen.facts) := fun m g _ =>
  (θ_run _ _ _).mono (fun r h => ⟨fun c => (h c).2.2.2.2.2, sem_eq_zero_of_no_sems (by decide) r.2⟩) (Cert.ProjRefIdeal.Value.run m g)

/-- So does the reference merge. -/
theorem frame_mergeRef : Cert.quiescent_MergeRefIdeal (hMergeRefIdeal := Cert.MergeRefIdeal.Gen.facts) := fun m g _ =>
  (θ_run _ _ _).mono (fun r h => ⟨fun c => (h c).2, sem_eq_zero_of_no_sems (by decide) r.2⟩) (Cert.MergeRefIdeal.Value.run m g)

/-- So does the reference mixture of experts. -/
theorem frame_moeRef : Cert.quiescent_MoeRefIdeal (hMoeRefIdeal := Cert.MoeRefIdeal.Gen.facts) := fun m g _ =>
  (θ_run _ _ _).mono (fun r h => ⟨fun c => (h c).2, sem_eq_zero_of_no_sems (by decide) r.2⟩) (Cert.MoeRefIdeal.Value.run m g)

/-- So does the reference window attention. -/
theorem frame_windowRef : Cert.quiescent_WindowRefIdeal (hWindowRefIdeal := Cert.WindowRefIdeal.Gen.facts) := fun m g _ =>
  (θ_run _ _ _).mono (fun r h => ⟨fun c => (h c).2, sem_eq_zero_of_no_sems (by decide) r.2⟩) (Cert.WindowRefIdeal.Value.run m g)

/-- All the claims. -/
theorem claim : Cert.Claim :=
  ⟨Cert.Attn.Gen.facts, Cert.AttnIdeal.Gen.facts, Cert.AttnRefIdeal.Gen.facts, Cert.Proj.Gen.facts, Cert.ProjIdeal.Gen.facts,
    Cert.ProjRefIdeal.Gen.facts, Cert.Merge.Gen.facts, Cert.MergeIdeal.Gen.facts, Cert.MergeRefIdeal.Gen.facts,
    Cert.Moe.Gen.facts, Cert.MoeIdeal.Gen.facts, Cert.MoeRefIdeal.Gen.facts,
    Cert.Window.Gen.facts, Cert.WindowIdeal.Gen.facts, Cert.WindowRefIdeal.Gen.facts,
    Cert.Pre_finite.Gen.facts, Cert.Pre_finite_router.Gen.facts, Cert.Pre_finite_window.Gen.facts,
    fun m g _ => Cert.Attn.Gen.frame m g,
    fun m g _ => Cert.AttnIdeal.Gen.frame m g,
    fun m g _ => Cert.AttnIdeal.Gen.frame m g,
    frame_attnRef,
    fun m g _ => frame_attnRef m g trivial,
    fun m g _ => Cert.Proj.Gen.frame m g,
    fun m g _ => Cert.ProjIdeal.Gen.frame m g,
    frame_projRef,
    fun m g _ => Cert.Merge.Gen.frame m g,
    fun m g _ => Cert.MergeIdeal.Gen.frame m g,
    frame_mergeRef,
    fun m g _ => Cert.Moe.Gen.frame m g,
    fun m g _ => Cert.MoeIdeal.Gen.frame m g,
    fun m g _ => Cert.MoeIdeal.Gen.frame m g,
    frame_moeRef,
    fun m g _ => frame_moeRef m g trivial,
    fun m g _ => Cert.Window.Gen.frame m g,
    fun m g _ => Cert.WindowIdeal.Gen.frame m g,
    fun m g _ => Cert.WindowIdeal.Gen.frame m g,
    frame_windowRef,
    fun m g _ => frame_windowRef m g trivial,
    trivial,
    Cert.AttnValue.algebraic,
    trivial,
    Cert.ProjValue.algebraic,
    trivial,
    Cert.MergeValue.algebraic,
    IdealRules.named_const.statement Cert.MoeIdeal.κ "mask" .f32 0xF149F2CA#32 ⊥ rfl,
    Cert.MoeValue.algebraic,
    IdealRules.named_const.statement Cert.WindowIdeal.κ "mask" .f32 0xF149F2CA#32 ⊥ rfl,
    Cert.WindowValue.algebraic⟩

end Cert.Proof

end
